-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0))

def preserves_Kernel2_Kernel2Ideal : Prop :=
  IdealRules.named_const.Statement Cert.Kernel2Ideal.κ "gelu_k3" .f32 0xBDD2D3E8#32 (((-(2 * ((6693141 / 8388608) * (Real.log 2)⁻¹))) * (12003091 / 268435456) : ℝ) : EReal)
  ∧ IdealRules.named_const.Statement Cert.Kernel2Ideal.κ "gelu_k" .f32 0xC0135761#32 ((-(2 * ((6693141 / 8388608) * (Real.log 2)⁻¹)) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "log2e_8" .f32 0x3E38AA3B#32 (((1 / 8) * (Real.log 2)⁻¹ : ℝ) : EReal)
  ∧ IdealRules.named_const.Statement Cert.Kernel3Ideal.κ "log2e_2" .f32 0x3F38AA3B#32 (((1 / 2) * (Real.log 2)⁻¹ : ℝ) : EReal)
  ∧ IdealRules.named_const.Statement Cert.Kernel3Ideal.κ "log2e_1" .f32 0x3FB8AA3B#32 ((1 * (Real.log 2)⁻¹ : ℝ) : EReal)
  ∧ IdealRules.named_const.Statement Cert.Kernel3Ideal.κ "log2e_4" .f32 0x3EB8AA3B#32 (((1 / 4) * (Real.log 2)⁻¹ : ℝ) : EReal)
  ∧ IdealRules.named_const.Statement Cert.Kernel3Ideal.κ "log2e_16" .f32 0x3DB8AA3B#32 (((1 / 16) * (Real.log 2)⁻¹ : ℝ) : EReal)
  ∧ IdealRules.named_const.Statement Cert.Kernel3Ideal.κ "log2e_32" .f32 0x3D38AA3B#32 (((1 / 32) * (Real.log 2)⁻¹ : ℝ) : EReal)
  ∧ IdealRules.named_const.Statement Cert.Kernel3Ideal.κ "log2e_128" .f32 0x3C38AA3B#32 (((1 / 128) * (Real.log 2)⁻¹ : ℝ) : EReal)
  ∧ IdealRules.named_const.Statement Cert.Kernel3Ideal.κ "log2e_64" .f32 0x3CB8AA3B#32 (((1 / 64) * (Real.log 2)⁻¹ : ℝ) : EReal)
  ∧ IdealRules.named_const.Statement Cert.Kernel3Ideal.κ "log2e_256" .f32 0x3BB8AA3B#32 (((1 / 256) * (Real.log 2)⁻¹ : ℝ) : EReal)

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v33_0)) (v1 : (c : Dev Cert.Kernel3Ideal.nD) → Buf (Elt Ideal) ((c.tc : Thread Cert.Kernel3Ideal.nD Cert.Kernel3Ideal.τ).loc Cert.Kernel3Ideal.main_v33_1)) (v2 : (c : Dev Cert.Kernel3Ideal.nD) → Buf (Elt Ideal) ((c.tc : Thread Cert.Kernel3Ideal.nD Cert.Kernel3Ideal.τ).loc Cert.Kernel3Ideal.main_v33_2)) (v3 : (c : Dev Cert.Kernel3Ideal.nD) → Buf (Elt Ideal) ((c.tc : Thread Cert.Kernel3Ideal.nD Cert.Kernel3Ideal.τ).loc Cert.Kernel3Ideal.main_v33_3)) (v4 : (c : Dev Cert.Kernel3Ideal.nD) → Buf (Elt Ideal) ((c.tc : Thread Cert.Kernel3Ideal.nD Cert.Kernel3Ideal.τ).loc Cert.Kernel3Ideal.main_v33_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33_0) = v0 c
          ∧ r.2.mem ((c.tc : Thread Cert.Kernel3Ideal.nD Cert.Kernel3Ideal.τ).loc Cert.Kernel3Ideal.main_v33_1) = v1 c
          ∧ r.2.mem ((c.tc : Thread Cert.Kernel3Ideal.nD Cert.Kernel3Ideal.τ).loc Cert.Kernel3Ideal.main_v33_2) = v2 c
          ∧ r.2.mem ((c.tc : Thread Cert.Kernel3Ideal.nD Cert.Kernel3Ideal.τ).loc Cert.Kernel3Ideal.main_v33_3) = v3 c
          ∧ r.2.mem ((c.tc : Thread Cert.Kernel3Ideal.nD Cert.Kernel3Ideal.τ).loc Cert.Kernel3Ideal.main_v33_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v151) = v0 c
          ∧ r.2.mem ((c.tc : Thread Cert.Reference3Ideal.nD Cert.Reference3Ideal.τ).loc Cert.Reference3Ideal.main_v153) = v1 c
          ∧ r.2.mem ((c.tc : Thread Cert.Reference3Ideal.nD Cert.Reference3Ideal.τ).loc Cert.Reference3Ideal.main_v154) = v2 c
          ∧ r.2.mem ((c.tc : Thread Cert.Reference3Ideal.nD Cert.Reference3Ideal.τ).loc Cert.Reference3Ideal.main_v156) = v3 c
          ∧ r.2.mem ((c.tc : Thread Cert.Reference3Ideal.nD Cert.Reference3Ideal.τ).loc Cert.Reference3Ideal.main_v158) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
-- ==== Pre_finite.lean ====
abbrev S128x4x1024 : Shape := ⟨3, ![128, 4, 1024]⟩
abbrev S1x128x4x64x128 : Shape := ⟨5, ![1, 128, 4, 64, 128]⟩
abbrev S1x128x128x2x64 : Shape := ⟨5, ![1, 128, 128, 2, 64]⟩
abbrev S1x1024 : Shape := ⟨2, ![1, 1024]⟩
abbrev S1x1024x4368 : Shape := ⟨3, ![1, 1024, 4368]⟩
abbrev S1x16x256 : Shape := ⟨3, ![1, 16, 256]⟩
abbrev S1x256 : Shape := ⟨2, ![1, 256]⟩
abbrev S1x8 : Shape := ⟨2, ![1, 8]⟩
abbrev S_ : Shape := ⟨0, ![]⟩

class Facts : Prop where
  bcast_S_S128x4x1024 : S_.BroadcastsInDim S128x4x1024 (![] : Fin 0 → Fin S128x4x1024.rank)
  bcast_S_S1x128x128x2x64 : S_.BroadcastsInDim S1x128x128x2x64 (![] : Fin 0 → Fin S1x128x128x2x64.rank)
  bcast_S_S1x1024 : S_.BroadcastsInDim S1x1024 (![] : Fin 0 → Fin S1x1024.rank)
  bcast_S_S1x1024x4368 : S_.BroadcastsInDim S1x1024x4368 (![] : Fin 0 → Fin S1x1024x4368.rank)
  bcast_S_S1x8 : S_.BroadcastsInDim S1x8 (![] : Fin 0 → Fin S1x8.rank)

variable [Facts]

def fn {F : FTy → Type} [FloatOps F] (main_arg0 : FVec F S128x4x1024 .f32) (main_arg1 : FVec F S1x128x4x64x128 .f32) (main_arg2 : FVec F S1x128x128x2x64 .f32) (main_arg3 : FVec F S1x128x128x2x64 .f32) (main_arg4 : FVec F S1x1024 .f32) (main_arg5 : FVec F S1x1024x4368 .f32) (main_arg6 : FVec F S1x16x256 .f32) (main_arg7 : FVec F S1x256 .f32) (main_arg8 : FVec F S1x8 .f32) : IVec S128x4x1024 1 × IVec S1x128x128x2x64 1 × IVec S1x1024 1 × IVec S1x1024x4368 1 × IVec S1x8 1 :=
  let main_v0 : FVec F S128x4x1024 .f32 := Host.absf main_arg0
  let main_cst : FVec F S_ .f32 := constant S_ .f32 0x7F800000#32
  let main_v1 : FVec F S128x4x1024 .f32 := broadcastInDim S128x4x1024 ![] bcast_S_S128x4x1024 main_cst
  let main_v2 : IVec S128x4x1024 1 := cmpf .olt main_v0 main_v1
  let main_v3 : FVec F S1x128x128x2x64 .f32 := Host.absf main_arg2
  let main_cst_0 : FVec F S_ .f32 := constant S_ .f32 0x7F800000#32
  let main_v4 : FVec F S1x128x128x2x64 .f32 := broadcastInDim S1x128x128x2x64 ![] bcast_S_S1x128x128x2x64 main_cst_0
  let main_v5 : IVec S1x128x128x2x64 1 := cmpf .olt main_v3 main_v4
  let main_v6 : FVec F S1x1024 .f32 := Host.absf main_arg4
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x4368 .f32 := Host.absf main_arg5
  let main_cst_2 : FVec F S_ .f32 := constant S_ .f32 0x7F800000#32
  let main_v10 : FVec F S1x1024x4368 .f32 := broadcastInDim S1x1024x4368 ![] bcast_S_S1x1024x4368 main_cst_2
  let main_v11 : IVec S1x1024x4368 1 := cmpf .olt main_v9 main_v10
  let main_v12 : FVec F S1x8 .f32 := Host.absf main_arg8
  let main_cst_3 : FVec F S_ .f32 := constant S_ .f32 0x7F800000#32
  let main_v13 : FVec F S1x8 .f32 := broadcastInDim S1x8 ![] bcast_S_S1x8 main_cst_3
  let main_v14 : IVec S1x8 1 := cmpf .olt main_v12 main_v13
  (main_v2, main_v5, main_v8, main_v11, main_v14)
-- ==== Kernel.lean ====
abbrev S1x1024x4368 : Shape := ⟨3, ![1, 1024, 4368]⟩
abbrev S1024x4368 : Shape := ⟨2, ![1024, 4368]⟩
abbrev S4368x1024 : Shape := ⟨2, ![4368, 1024]⟩
abbrev S1024x4608 : Shape := ⟨2, ![1024, 4608]⟩
abbrev S256x1024 : Shape := ⟨2, ![256, 1024]⟩
abbrev S1024x768 : Shape := ⟨2, ![1024, 768]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S1x1024x4368, .f32⟩
  | .hbm, ⟨1, _⟩ => ⟨S1024x4368, .f32⟩
  | .hbm, ⟨2, _⟩ => ⟨S4368x1024, .f32⟩
  | .hbm, ⟨3, _⟩ => ⟨S1024x4608, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x768, .bf16⟩
  | .local _ .vmem, ⟨7, _⟩ => ⟨S1024x768, .bf16⟩
  | _, _ => ⟨S1x1024x4368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![6], ![false]⟩

def k0_mult1 (i : grid0.Coords) : BitVec 32 :=
  let arg0 : BitVec 32 := BitVec.ofNat 32 (i 0).val
  let c3_i32 : BitVec 32 := 3#32
  let v0 : BitVec 32 := Scalar.muli arg0 c3_i32
  let c0_i32 : BitVec 32 := 0#32
  let v1 : BitVec 32 := Scalar.addi v0 c0_i32
  let c4_i32 : BitVec 32 := 4#32
  let v2 : BitVec 1 := Scalar.cmpi .slt v1 c4_i32
  let c256_i32 : BitVec 32 := 256#32
  let v3 : BitVec 32 := Scalar.muli v1 c256_i32
  let c17_i32 : BitVec 32 := 17#32
  let v4 : BitVec 1 := Scalar.cmpi .slt v1 c17_i32
  let c1040_i32 : BitVec 32 := 1040#32
  let c4_i32_0 : BitVec 32 := 4#32
  let v5 : BitVec 32 := Scalar.subi v1 c4_i32_0
  let c256_i32_1 : BitVec 32 := 256#32
  let v6 : BitVec 32 := Scalar.muli v5 c256_i32_1
  let v7 : BitVec 32 := Scalar.addi c1040_i32 v6
  let c1024_i32 : BitVec 32 := 1024#32
  let v8 : BitVec 32 := Scalar.select v4 v7 c1024_i32
  let v9 : BitVec 32 := Scalar.select v2 v3 v8
  v9
def k0_mult2 (i : grid0.Coords) : BitVec 32 :=
  let arg0 : BitVec 32 := BitVec.ofNat 32 (i 0).val
  let c3_i32 : BitVec 32 := 3#32
  let v0 : BitVec 32 := Scalar.muli arg0 c3_i32
  let c1_i32 : BitVec 32 := 1#32
  let v1 : BitVec 32 := Scalar.addi v0 c1_i32
  let c4_i32 : BitVec 32 := 4#32
  let v2 : BitVec 1 := Scalar.cmpi .slt v1 c4_i32
  let c256_i32 : BitVec 32 := 256#32
  let v3 : BitVec 32 := Scalar.muli v1 c256_i32
  let c17_i32 : BitVec 32 := 17#32
  let v4 : BitVec 1 := Scalar.cmpi .slt v1 c17_i32
  let c1040_i32 : BitVec 32 := 1040#32
  let c4_i32_0 : BitVec 32 := 4#32
  let v5 : BitVec 32 := Scalar.subi v1 c4_i32_0
  let c256_i32_1 : BitVec 32 := 256#32
  let v6 : BitVec 32 := Scalar.muli v5 c256_i32_1
  let v7 : BitVec 32 := Scalar.addi c1040_i32 v6
  let c1024_i32 : BitVec 32 := 1024#32
  let v8 : BitVec 32 := Scalar.select v4 v7 c1024_i32
  let v9 : BitVec 32 := Scalar.select v2 v3 v8
  v9
def k0_mult3 (i : grid0.Coords) : BitVec 32 :=
  let arg0 : BitVec 32 := BitVec.ofNat 32 (i 0).val
  let c3_i32 : BitVec 32 := 3#32
  let v0 : BitVec 32 := Scalar.muli arg0 c3_i32
  let c2_i32 : BitVec 32 := 2#32
  let v1 : BitVec 32 := Scalar.addi v0 c2_i32
  let c4_i32 : BitVec 32 := 4#32
  let v2 : BitVec 1 := Scalar.cmpi .slt v1 c4_i32
  let c256_i32 : BitVec 32 := 256#32
  let v3 : BitVec 32 := Scalar.muli v1 c256_i32
  let c17_i32 : BitVec 32 := 17#32
  let v4 : BitVec 1 := Scalar.cmpi .slt v1 c17_i32
  let c1040_i32 : BitVec 32 := 1040#32
  let c4_i32_0 : BitVec 32 := 4#32
  let v5 : BitVec 32 := Scalar.subi v1 c4_i32_0
  let c256_i32_1 : BitVec 32 := 256#32
  let v6 : BitVec 32 := Scalar.muli v5 c256_i32_1
  let v7 : BitVec 32 := Scalar.addi c1040_i32 v6
  let c1024_i32 : BitVec 32 := 1024#32
  let v8 : BitVec 32 := Scalar.select v4 v7 c1024_i32
  let v9 : BitVec 32 := Scalar.select v2 v3 v8
  v9
def cc0_transform_0 (i : grid0.Coords) : Fin 2 → Nat :=
  let arg0 : BitVec 32 := BitVec.ofNat 32 (i 0).val
  let c3_i32 : BitVec 32 := 3#32
  let v0 : BitVec 32 := Scalar.muli arg0 c3_i32
  let c0_i32 : BitVec 32 := 0#32
  let v1 : BitVec 32 := Scalar.addi v0 c0_i32
  let c4_i32 : BitVec 32 := 4#32
  let v2 : BitVec 1 := Scalar.cmpi .slt v1 c4_i32
  let c256_i32 : BitVec 32 := 256#32
  let v3 : BitVec 32 := Scalar.muli v1 c256_i32
  let c17_i32 : BitVec 32 := 17#32
  let v4 : BitVec 1 := Scalar.cmpi .slt v1 c17_i32
  let c4_i32_0 : BitVec 32 := 4#32
  let v5 : BitVec 32 := Scalar.subi v1 c4_i32_0
  let c256_i32_1 : BitVec 32 := 256#32
  let v6 : BitVec 32 := Scalar.muli v5 c256_i32_1
  let c1040_i32 : BitVec 32 := 1040#32
  let v7 : BitVec 32 := Scalar.addi c1040_i32 v6
  let c1024_i32 : BitVec 32 := 1024#32
  let v8 : BitVec 32 := Scalar.select v4 v7 c1024_i32
  let v9 : BitVec 32 := Scalar.select v2 v3 v8
  let v10 : BitVec 32 := v9
  let c0_i32_2 : BitVec 32 := 0#32
  let c0_i32_3 : BitVec 32 := 0#32
  ![v10.toNat, c0_i32_2.toNat]

def cc0_transform_1 (i : grid0.Coords) : Fin 2 → Nat :=
  let arg0 : BitVec 32 := BitVec.ofNat 32 (i 0).val
  let c3_i32 : BitVec 32 := 3#32
  let v0 : BitVec 32 := Scalar.muli arg0 c3_i32
  let c1_i32 : BitVec 32 := 1#32
  let v1 : BitVec 32 := Scalar.addi v0 c1_i32
  let c4_i32 : BitVec 32 := 4#32
  let v2 : BitVec 1 := Scalar.cmpi .slt v1 c4_i32
  let c256_i32 : BitVec 32 := 256#32
  let v3 : BitVec 32 := Scalar.muli v1 c256_i32
  let c17_i32 : BitVec 32 := 17#32
  let v4 : BitVec 1 := Scalar.cmpi .slt v1 c17_i32
  let c4_i32_0 : BitVec 32 := 4#32
  let v5 : BitVec 32 := Scalar.subi v1 c4_i32_0
  let c256_i32_1 : BitVec 32 := 256#32
  let v6 : BitVec 32 := Scalar.muli v5 c256_i32_1
  let c1040_i32 : BitVec 32 := 1040#32
  let v7 : BitVec 32 := Scalar.addi c1040_i32 v6
  let c1024_i32 : BitVec 32 := 1024#32
  let v8 : BitVec 32 := Scalar.select v4 v7 c1024_i32
  let v9 : BitVec 32 := Scalar.select v2 v3 v8
  let v10 : BitVec 32 := v9
  let c0_i32 : BitVec 32 := 0#32
  let c0_i32_2 : BitVec 32 := 0#32
  ![v10.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.muli arg0 c3_i32
  let c2_i32 : BitVec 32 := 2#32
  let v1 : BitVec 32 := Scalar.addi v0 c2_i32
  let c4_i32 : BitVec 32 := 4#32
  let v2 : BitVec 1 := Scalar.cmpi .slt v1 c4_i32
  let c256_i32 : BitVec 32 := 256#32
  let v3 : BitVec 32 := Scalar.muli v1 c256_i32
  let c17_i32 : BitVec 32 := 17#32
  let v4 : BitVec 1 := Scalar.cmpi .slt v1 c17_i32
  let c4_i32_0 : BitVec 32 := 4#32
  let v5 : BitVec 32 := Scalar.subi v1 c4_i32_0
  let c256_i32_1 : BitVec 32 := 256#32
  let v6 : BitVec 32 := Scalar.muli v5 c256_i32_1
  let c1040_i32 : BitVec 32 := 1040#32
  let v7 : BitVec 32 := Scalar.addi c1040_i32 v6
  let c1024_i32 : BitVec 32 := 1024#32
  let v8 : BitVec 32 := Scalar.select v4 v7 c1024_i32
  let v9 : BitVec 32 := Scalar.select v2 v3 v8
  let v10 : BitVec 32 := v9
  let c0_i32 : BitVec 32 := 0#32
  let c0_i32_2 : BitVec 32 := 0#32
  ![v10.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference.lean ====
abbrev S1x1024x4368 : Shape := ⟨3, ![1, 1024, 4368]⟩
abbrev S1024x4368 : Shape := ⟨2, ![1024, 4368]⟩
abbrev S1024x1024 : Shape := ⟨2, ![1024, 1024]⟩
abbrev S1024x3328 : Shape := ⟨2, ![1024, 3328]⟩
abbrev S1024x16 : Shape := ⟨2, ![1024, 16]⟩
abbrev S_ : Shape := ⟨0, ![]⟩
abbrev S1024x240 : Shape := ⟨2, ![1024, 240]⟩
abbrev S1024x4608 : Shape := ⟨2, ![1024, 4608]⟩

abbrev nBuf : Space → Nat
  | .hbm => 9
  | .vmem => 0
  | .smem => 0
  | _ => 0

abbrev bufTy : (tb : Table) → Fin (tcTables nBuf tb) → BufTy
  | .hbm, ⟨0, _⟩ => ⟨S1x1024x4368, .f32⟩
  | .hbm, ⟨1, _⟩ => ⟨S1024x4368, .f32⟩
  | .hbm, ⟨2, _⟩ => ⟨S1024x1024, .f32⟩
  | .hbm, ⟨3, _⟩ => ⟨S1024x3328, .f32⟩
  | .hbm, ⟨4, _⟩ => ⟨S1024x16, .f32⟩
  | .hbm, ⟨5, _⟩ => ⟨S_, .f32⟩
  | .hbm, ⟨6, _⟩ => ⟨S1024x240, .f32⟩
  | .hbm, ⟨7, _⟩ => ⟨S1024x4608, .f32⟩
  | .hbm, ⟨8, _⟩ => ⟨S1024x4608, .bf16⟩
  | _, _ => ⟨S1x1024x4368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel2.lean ====
abbrev S1x16384x1024 : Shape := ⟨3, ![1, 16384, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S16384x1024 : Shape := ⟨2, ![16384, 1024]⟩
abbrev S2x2816 : Shape := ⟨2, ![2, 2816]⟩
abbrev S512x1024 : Shape := ⟨2, ![512, 1024]⟩
abbrev S520x2816 : Shape := ⟨2, ![520, 2816]⟩
abbrev S512x2816 : Shape := ⟨2, ![512, 2816]⟩
abbrev S8x2816 : Shape := ⟨2, ![8, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩

abbrev nBuf : Space → Nat
  | .hbm => 21
  | .vmem => 13
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024, .f32⟩
  | .hbm, ⟨3, _⟩ => ⟨S1x1024x5632, .f32⟩
  | .hbm, ⟨4, _⟩ => ⟨S1x3x2816, .f32⟩
  | .hbm, ⟨5, _⟩ => ⟨S1x2816, .f32⟩
  | .hbm, ⟨6, _⟩ => ⟨S1x2816x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024x5632, .f32⟩
  | .hbm, ⟨12, _⟩ => ⟨S1024x5632, .bf16⟩
  | .hbm, ⟨13, _⟩ => ⟨S3x2816, .f32⟩
  | .hbm, ⟨14, _⟩ => ⟨S2816, .f32⟩
  | .hbm, ⟨15, _⟩ => ⟨S1x2816, .f32⟩
  | .hbm, ⟨16, _⟩ => ⟨S2816x1024, .f32⟩
  | .hbm, ⟨17, _⟩ => ⟨S2816x1024, .bf16⟩
  | .hbm, ⟨18, _⟩ => ⟨S16384x1024, .f32⟩
  | .hbm, ⟨19, _⟩ => ⟨S16384x1024, .f32⟩
  | .hbm, ⟨20, _⟩ => ⟨S2x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S2x2816, .f32⟩
  | .local _ .vmem, ⟨11, _⟩ => ⟨S520x2816, .f32⟩
  | .local _ .vmem, ⟨12, _⟩ => ⟨S512x2816, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v527 : BitVec 1 := Scalar.cmpi .eq arg0 c31_i32
  let v528 : BitVec 32 := Scalar.extui v527
  let c0_i32_269 : BitVec 32 := 0#32
  let v529 : BitVec 1 := Scalar.cmpi .ne v528 c0_i32_269
  v529

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel2Ideal.lean ====
variable {F : FTy → Type} [FloatOps F] [Named F]
def κ : String → Option EReal := fun
  | "gelu_k" => some ((-(2 * ((6693141 / 8388608) * (Real.log 2)⁻¹)) : ℝ) : EReal)
  | "gelu_k3" => some (((-(2 * ((6693141 / 8388608) * (Real.log 2)⁻¹))) * (12003091 / 268435456) : ℝ) : EReal)
  | _ => none
-- ==== Reference2Ideal.lean ====
abbrev S1x16384x1024 : Shape := ⟨3, ![1, 16384, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S_ : Shape := ⟨0, ![]⟩
abbrev S1x2x2816 : Shape := ⟨3, ![1, 2, 2816]⟩
abbrev S1024 : Shape := ⟨1, ![1024]⟩
abbrev S1x16384 : Shape := ⟨2, ![1, 16384]⟩
abbrev S1x16384x1 : Shape := ⟨3, ![1, 16384, 1]⟩
abbrev S1x1x1024 : Shape := ⟨3, ![1, 1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x16384x5632 : Shape := ⟨3, ![1, 16384, 5632]⟩
abbrev S1x16384x2816 : Shape := ⟨3, ![1, 16384, 2816]⟩
abbrev S1x16386x2816 : Shape := ⟨3, ![1, 16386, 2816]⟩
abbrev S1x1x2816 : Shape := ⟨3, ![1, 1, 2816]⟩
abbrev S16384x1024 : Shape := ⟨2, ![16384, 1024]⟩
abbrev S2x2816 : Shape := ⟨2, ![2, 2816]⟩

abbrev nBuf : Space → Nat
  | .hbm => 97
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024, .f32⟩
  | .hbm, ⟨3, _⟩ => ⟨S1x1024x5632, .f32⟩
  | .hbm, ⟨4, _⟩ => ⟨S1x3x2816, .f32⟩
  | .hbm, ⟨5, _⟩ => ⟨S1x2816, .f32⟩
  | .hbm, ⟨6, _⟩ => ⟨S1x2816x1024, .f32⟩
  | .hbm, ⟨7, _⟩ => ⟨S_, .f32⟩
  | .hbm, ⟨8, _⟩ => ⟨S1x2x2816, .f32⟩
  | .hbm, ⟨9, _⟩ => ⟨S1024, .f32⟩
  | .hbm, ⟨10, _⟩ => ⟨S1x16384x1024, .f32⟩
  | .hbm, ⟨11, _⟩ => ⟨S_, .f32⟩
  | .hbm, ⟨12, _⟩ => ⟨S1x16384, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S_, .f32⟩
  | .hbm, ⟨18, _⟩ => ⟨S1x16384x1, .f32⟩
  | .hbm, ⟨19, _⟩ => ⟨S1x16384x1, .f32⟩
  | .hbm, ⟨20, _⟩ => ⟨S1x16384x1, .f32⟩
  | .hbm, ⟨21, _⟩ => ⟨S1x16384x1024, .f32⟩
  | .hbm, ⟨22, _⟩ => ⟨S1x16384x1024, .f32⟩
  | .hbm, ⟨23, _⟩ => ⟨S1x1x1024, .f32⟩
  | .hbm, ⟨24, _⟩ => ⟨S1x16384x1024, .f32⟩
  | .hbm, ⟨25, _⟩ => ⟨S1x16384x1024, .f32⟩
  | .hbm, ⟨26, _⟩ => ⟨S1024x5632, .f32⟩
  | .hbm, ⟨27, _⟩ => ⟨S3x2816, .f32⟩
  | .hbm, ⟨28, _⟩ => ⟨S2816, .f32⟩
  | .hbm, ⟨29, _⟩ => ⟨S2816x1024, .f32⟩
  | .hbm, ⟨30, _⟩ => ⟨S1x16384x5632, .f32⟩
  | .hbm, ⟨31, _⟩ => ⟨S1x16384x2816, .f32⟩
  | .hbm, ⟨32, _⟩ => ⟨S1x16384x2816, .f32⟩
  | .hbm, ⟨33, _⟩ => ⟨S1x16386x2816, .f32⟩
  | .hbm, ⟨34, _⟩ => ⟨S1x2816, .f32⟩
  | .hbm, ⟨35, _⟩ => ⟨S2816, .f32⟩
  | .hbm, ⟨36, _⟩ => ⟨S1x16384x2816, .f32⟩
  | .hbm, ⟨37, _⟩ => ⟨S1x1x2816, .f32⟩
  | .hbm, ⟨38, _⟩ => ⟨S1x16384x2816, .f32⟩
  | .hbm, ⟨39, _⟩ => ⟨S1x16384x2816, .f32⟩
  | .hbm, ⟨40, _⟩ => ⟨S1x1x2816, .f32⟩
  | .hbm, ⟨41, _⟩ => ⟨S1x16384x2816, .f32⟩
  | .hbm, ⟨42, _⟩ => ⟨S1x16384x2816, .f32⟩
  | .hbm, ⟨43, _⟩ => ⟨S1x2816, .f32⟩
  | .hbm, ⟨44, _⟩ => ⟨S2816, .f32⟩
  | .hbm, ⟨45, _⟩ => ⟨S1x16384x2816, .f32⟩
  | .hbm, ⟨46, _⟩ => ⟨S1x1x2816, .f32⟩
  | .hbm, ⟨47, _⟩ => ⟨S1x16384x2816, .f32⟩
  | .hbm, ⟨48, _⟩ => ⟨S1x16384x2816, .f32⟩
  | .hbm, ⟨49, _⟩ => ⟨S1x16384x2816, .f32⟩
  | .hbm, ⟨50, _⟩ => ⟨S1x2816, .f32⟩
  | .hbm, ⟨51, _⟩ => ⟨S2816, .f32⟩
  | .hbm, ⟨52, _⟩ => ⟨S1x16384x2816, .f32⟩
  | .hbm, ⟨53, _⟩ => ⟨S1x1x2816, .f32⟩
  | .hbm, ⟨54, _⟩ => ⟨S1x16384x2816, .f32⟩
  | .hbm, ⟨55, _⟩ => ⟨S1x16384x2816, .f32⟩
  | .hbm, ⟨56, _⟩ => ⟨S1x16384x2816, .f32⟩
  | .hbm, ⟨57, _⟩ => ⟨S1x16384x2816, .f32⟩
  | .hbm, ⟨58, _⟩ => ⟨S1x16384x2816, .f32⟩
  | .hbm, ⟨59, _⟩ => ⟨S_, .f32⟩
  | .hbm, ⟨60, _⟩ => ⟨S1x16384x2816, .f32⟩
  | .hbm, ⟨61, _⟩ => ⟨S1x16384x2816, .f32⟩
  | .hbm, ⟨62, _⟩ => ⟨S1x16384x2816, .f32⟩
  | .hbm, ⟨63, _⟩ => ⟨S_, .f32⟩
  | .hbm, ⟨64, _⟩ => ⟨S1x16384x2816, .f32⟩
  | .hbm, ⟨65, _⟩ => ⟨S1x16384x2816, .f32⟩
  | .hbm, ⟨66, _⟩ => ⟨S1x16384x2816, .f32⟩
  | .hbm, ⟨67, _⟩ => ⟨S_, .f32⟩
  | .hbm, ⟨68, _⟩ => ⟨S1x16384x2816, .f32⟩
  | .hbm, ⟨69, _⟩ => ⟨S1x16384x2816, .f32⟩
  | .hbm, ⟨70, _⟩ => ⟨S_, .f32⟩
  | .hbm, ⟨71, _⟩ => ⟨S1x16384x2816, .f32⟩
  | .hbm, ⟨72, _⟩ => ⟨S1x16384x2816, .f32⟩
  | .hbm, ⟨73, _⟩ => ⟨S1x16384x2816, .f32⟩
  | .hbm, ⟨74, _⟩ => ⟨S1x16384x2816, .f32⟩
  | .hbm, ⟨75, _⟩ => ⟨S1x16384x1024, .f32⟩
  | .hbm, ⟨76, _⟩ => ⟨S1x2x2816, .f32⟩
  | .hbm, ⟨77, _⟩ => ⟨S1024, .f32⟩
  | .hbm, ⟨78, _⟩ => ⟨S1x16384x1024, .f32⟩
  | .hbm, ⟨79, _⟩ => ⟨S_, .f32⟩
  | .hbm, ⟨80, _⟩ => ⟨S1x16384, .f32⟩
  | .hbm, ⟨81, _⟩ => ⟨S1x16384x1, .f32⟩
  | .hbm, ⟨82, _⟩ => ⟨S_, .f32⟩
  | .hbm, ⟨83, _⟩ => ⟨S1x16384x1, .f32⟩
  | .hbm, ⟨84, _⟩ => ⟨S1x16384x1, .f32⟩
  | .hbm, ⟨85, _⟩ => ⟨S_, .f32⟩
  | .hbm, ⟨86, _⟩ => ⟨S1x16384x1, .f32⟩
  | .hbm, ⟨87, _⟩ => ⟨S1x16384x1, .f32⟩
  | .hbm, ⟨88, _⟩ => ⟨S1x16384x1, .f32⟩
  | .hbm, ⟨89, _⟩ => ⟨S1x16384x1024, .f32⟩
  | .hbm, ⟨90, _⟩ => ⟨S1x16384x1024, .f32⟩
  | .hbm, ⟨91, _⟩ => ⟨S1x1x1024, .f32⟩
  | .hbm, ⟨92, _⟩ => ⟨S1x16384x1024, .f32⟩
  | .hbm, ⟨93, _⟩ => ⟨S1x16384x1024, .f32⟩
  | .hbm, ⟨94, _⟩ => ⟨S1x16384x1024, .f32⟩
  | .hbm, ⟨95, _⟩ => ⟨S16384x1024, .f32⟩
  | .hbm, ⟨96, _⟩ => ⟨S2x2816, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_7 : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]
-- ==== Kernel3.lean ====
abbrev S128x4x1024 : Shape := ⟨3, ![128, 4, 1024]⟩
abbrev S1x128x4x64x128 : Shape := ⟨5, ![1, 128, 4, 64, 128]⟩
abbrev S1x128x128x2x64 : Shape := ⟨5, ![1, 128, 128, 2, 64]⟩
abbrev S1x1024 : Shape := ⟨2, ![1, 1024]⟩
abbrev S1x1024x4368 : Shape := ⟨3, ![1, 1024, 4368]⟩
abbrev S1x16x256 : Shape := ⟨3, ![1, 16, 256]⟩
abbrev S1x256 : Shape := ⟨2, ![1, 256]⟩
abbrev S1x8 : Shape := ⟨2, ![1, 8]⟩
abbrev S1024x4368 : Shape := ⟨2, ![1024, 4368]⟩
abbrev S1024x1024 : Shape := ⟨2, ![1024, 1024]⟩
abbrev S1024x3328 : Shape := ⟨2, ![1024, 3328]⟩
abbrev S1024x16 : Shape := ⟨2, ![1024, 16]⟩
abbrev S_ : Shape := ⟨0, ![]⟩
abbrev S1024x240 : Shape := ⟨2, ![1024, 240]⟩
abbrev S1024x4608 : Shape := ⟨2, ![1024, 4608]⟩
abbrev S128x256 : Shape := ⟨2, ![128, 256]⟩
abbrev S16x256 : Shape := ⟨2, ![16, 256]⟩
abbrev S1 : Shape := ⟨1, ![1]⟩
abbrev S256 : Shape := ⟨1, ![256]⟩
abbrev S1024 : Shape := ⟨1, ![1024]⟩
abbrev S512x256 : Shape := ⟨2, ![512, 256]⟩
abbrev S512x512 : Shape := ⟨2, ![512, 512]⟩
abbrev S512x128 : Shape := ⟨2, ![512, 128]⟩
abbrev S512x1024 : Shape := ⟨2, ![512, 1024]⟩
abbrev S128x1x1024 : Shape := ⟨3, ![128, 1, 1024]⟩
abbrev S128x1024 : Shape := ⟨2, ![128, 1024]⟩
abbrev S512 : Shape := ⟨1, ![512]⟩
abbrev S512x1 : Shape := ⟨2, ![512, 1]⟩
abbrev S1024x128 : Shape := ⟨2, ![1024, 128]⟩
abbrev S1024x256 : Shape := ⟨2, ![1024, 256]⟩
abbrev S1024x512 : Shape := ⟨2, ![1024, 512]⟩
abbrev S256x512 : Shape := ⟨2, ![256, 512]⟩
abbrev S1280x256 : Shape := ⟨2, ![1280, 256]⟩
abbrev S1280x512 : Shape := ⟨2, ![1280, 512]⟩
abbrev S128x512 : Shape := ⟨2, ![128, 512]⟩
abbrev S128x128x2x64 : Shape := ⟨4, ![128, 128, 2, 64]⟩
abbrev S128x2x64x128 : Shape := ⟨4, ![128, 2, 64, 128]⟩
abbrev S128x128x128 : Shape := ⟨3, ![128, 128, 128]⟩
abbrev S8 : Shape := ⟨1, ![8]⟩
abbrev S128x4x64x128 : Shape := ⟨4, ![128, 4, 64, 128]⟩
abbrev S128x256x128 : Shape := ⟨3, ![128, 256, 128]⟩
abbrev S4x128x256 : Shape := ⟨3, ![4, 128, 256]⟩
abbrev S4x128x512 : Shape := ⟨3, ![4, 128, 512]⟩
abbrev S4x128x128 : Shape := ⟨3, ![4, 128, 128]⟩
abbrev S4x16x256 : Shape := ⟨3, ![4, 16, 256]⟩
abbrev S4x16x512 : Shape := ⟨3, ![4, 16, 512]⟩
abbrev S4x16x128 : Shape := ⟨3, ![4, 16, 128]⟩
abbrev S16x256x128 : Shape := ⟨3, ![16, 256, 128]⟩
abbrev S16x128x128 : Shape := ⟨3, ![16, 128, 128]⟩
abbrev S16x128 : Shape := ⟨2, ![16, 128]⟩
abbrev S8x256 : Shape := ⟨2, ![8, 256]⟩
abbrev S8x1 : Shape := ⟨2, ![8, 1]⟩
abbrev S4x128 : Shape := ⟨2, ![4, 128]⟩
abbrev S128x120 : Shape := ⟨2, ![128, 120]⟩
abbrev S64x256 : Shape := ⟨2, ![64, 256]⟩
abbrev S1x128x128 : Shape := ⟨3, ![1, 128, 128]⟩
abbrev S128x128 : Shape := ⟨2, ![128, 128]⟩
abbrev S4x1x128 : Shape := ⟨3, ![4, 1, 128]⟩
abbrev S8x128 : Shape := ⟨2, ![8, 128]⟩
abbrev S128x8 : Shape := ⟨2, ![128, 8]⟩
abbrev S128x124 : Shape := ⟨2, ![128, 124]⟩
abbrev S128x4 : Shape := ⟨2, ![128, 4]⟩
abbrev S4x1x512 : Shape := ⟨3, ![4, 1, 512]⟩
abbrev S4x512 : Shape := ⟨2, ![4, 512]⟩
abbrev S1x256x128 : Shape := ⟨3, ![1, 256, 128]⟩
abbrev S256x128 : Shape := ⟨2, ![256, 128]⟩
abbrev S4x1x256 : Shape := ⟨3, ![4, 1, 256]⟩
abbrev S4x256 : Shape := ⟨2, ![4, 256]⟩
abbrev S13x256 : Shape := ⟨2, ![13, 256]⟩
abbrev S32x256 : Shape := ⟨2, ![32, 256]⟩
abbrev S256x256 : Shape := ⟨2, ![256, 256]⟩

abbrev nBuf : Space → Nat
  | .hbm => 60
  | .vmem => 49
  | .smem => 1
  | _ => 0

abbrev bufTy : (tb : Table) → Fin (tcTables nBuf tb) → BufTy
  | .hbm, ⟨0, _⟩ => ⟨S128x4x1024, .f32⟩
  | .hbm, ⟨1, _⟩ => ⟨S1x128x4x64x128, .f32⟩
  | .hbm, ⟨2, _⟩ => ⟨S1x128x128x2x64, .f32⟩
  | .hbm, ⟨3, _⟩ => ⟨S1x128x128x2x64, .f32⟩
  | .hbm, ⟨4, _⟩ => ⟨S1x1024, .f32⟩
  | .hbm, ⟨5, _⟩ => ⟨S1x1024x4368, .f32⟩
  | .hbm, ⟨6, _⟩ => ⟨S1x16x256, .f32⟩
  | .hbm, ⟨7, _⟩ => ⟨S1x256, .f32⟩
  | .hbm, ⟨8, _⟩ => ⟨S1x8, .f32⟩
  | .hbm, ⟨9, _⟩ => ⟨S1024x4368, .f32⟩
  | .hbm, ⟨10, _⟩ => ⟨S1024x1024, .f32⟩
  | .hbm, ⟨11, _⟩ => ⟨S1024x3328, .f32⟩
  | .hbm, ⟨12, _⟩ => ⟨S1024x16, .f32⟩
  | .hbm, ⟨13, _⟩ => ⟨S_, .f32⟩
  | .hbm, ⟨14, _⟩ => ⟨S1024x240, .f32⟩
  | .hbm, ⟨15, _⟩ => ⟨S1024x4608, .f32⟩
  | .hbm, ⟨16, _⟩ => ⟨S1024x4608, .bf16⟩
  | .hbm, ⟨17, _⟩ => ⟨S_, .f32⟩
  | .hbm, ⟨18, _⟩ => ⟨S128x256, .f32⟩
  | .hbm, ⟨19, _⟩ => ⟨S16x256, .f32⟩
  | .hbm, ⟨20, _⟩ => ⟨S_, .i32⟩
  | .hbm, ⟨21, _⟩ => ⟨S1, .i32⟩
  | .hbm, ⟨22, _⟩ => ⟨S128x256, .f32⟩
  | .hbm, ⟨23, _⟩ => ⟨S128x256, .bf16⟩
  | .hbm, ⟨24, _⟩ => ⟨S256, .f32⟩
  | .hbm, ⟨25, _⟩ => ⟨S1x256, .f32⟩
  | .hbm, ⟨26, _⟩ => ⟨S1024, .f32⟩
  | .hbm, ⟨27, _⟩ => ⟨S1x1024, .f32⟩
  | .hbm, ⟨28, _⟩ => ⟨S512x256, .f32⟩
  | .hbm, ⟨29, _⟩ => ⟨S512x256, .f32⟩
  | .hbm, ⟨30, _⟩ => ⟨S128x256, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x128, .f32⟩
  | .hbm, ⟨36, _⟩ => ⟨S512x128, .f32⟩
  | .hbm, ⟨37, _⟩ => ⟨S512x1024, .f32⟩
  | .hbm, ⟨38, _⟩ => ⟨S512x1024, .f32⟩
  | .hbm, ⟨39, _⟩ => ⟨S128x128x2x64, .f32⟩
  | .hbm, ⟨40, _⟩ => ⟨S128x2x64x128, .f32⟩
  | .hbm, ⟨41, _⟩ => ⟨S128x128x128, .f32⟩
  | .hbm, ⟨42, _⟩ => ⟨S128x128x2x64, .f32⟩
  | .hbm, ⟨43, _⟩ => ⟨S128x2x64x128, .f32⟩
  | .hbm, ⟨44, _⟩ => ⟨S128x128x128, .f32⟩
  | .hbm, ⟨45, _⟩ => ⟨S8, .f32⟩
  | .hbm, ⟨46, _⟩ => ⟨S128x4x64x128, .f32⟩
  | .hbm, ⟨47, _⟩ => ⟨S128x256x128, .f32⟩
  | .hbm, ⟨48, _⟩ => ⟨S4x128x256, .f32⟩
  | .hbm, ⟨49, _⟩ => ⟨S4x128x256, .f32⟩
  | .hbm, ⟨50, _⟩ => ⟨S4x128x512, .f32⟩
  | .hbm, ⟨51, _⟩ => ⟨S4x128x512, .f32⟩
  | .hbm, ⟨52, _⟩ => ⟨S4x128x512, .f32⟩
  | .hbm, ⟨53, _⟩ => ⟨S4x128x128, .f32⟩
  | .hbm, ⟨54, _⟩ => ⟨S4x128x128, .f32⟩
  | .hbm, ⟨55, _⟩ => ⟨S4x128x512, .f32⟩
  | .hbm, ⟨56, _⟩ => ⟨S4x128x512, .f32⟩
  | .hbm, ⟨57, _⟩ => ⟨S128x256x128, .f32⟩
  | .hbm, ⟨58, _⟩ => ⟨S128x128x128, .f32⟩
  | .hbm, ⟨59, _⟩ => ⟨S128x128x128, .f32⟩
  | .local _ .vmem, ⟨0, _⟩ => ⟨S128x4x1024, .f32⟩
  | .local _ .vmem, ⟨1, _⟩ => ⟨S1x1024, .f32⟩
  | .local _ .vmem, ⟨2, _⟩ => ⟨S1024x4608, .bf16⟩
  | .local _ .vmem, ⟨3, _⟩ => ⟨S128x256, .bf16⟩
  | .local _ .vmem, ⟨4, _⟩ => ⟨S1x256, .f32⟩
  | .local _ .vmem, ⟨5, _⟩ => ⟨S512x256, .f32⟩
  | .local _ .vmem, ⟨6, _⟩ => ⟨S512x256, .f32⟩
  | .local _ .vmem, ⟨7, _⟩ => ⟨S128x256, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x128, .f32⟩
  | .local _ .vmem, ⟨13, _⟩ => ⟨S512x128, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S4x16x256, .f32⟩
  | .local _ .vmem, ⟨18, _⟩ => ⟨S4x16x256, .f32⟩
  | .local _ .vmem, ⟨19, _⟩ => ⟨S4x16x256, .f32⟩
  | .local _ .vmem, ⟨20, _⟩ => ⟨S4x16x256, .f32⟩
  | .local _ .vmem, ⟨21, _⟩ => ⟨S16x256, .f32⟩
  | .local _ .vmem, ⟨22, _⟩ => ⟨S16x256, .f32⟩
  | .local _ .vmem, ⟨23, _⟩ => ⟨S4x16x512, .f32⟩
  | .local _ .vmem, ⟨24, _⟩ => ⟨S4x16x512, .f32⟩
  | .local _ .vmem, ⟨25, _⟩ => ⟨S4x16x512, .f32⟩
  | .local _ .vmem, ⟨26, _⟩ => ⟨S4x16x512, .f32⟩
  | .local _ .vmem, ⟨27, _⟩ => ⟨S4x16x512, .f32⟩
  | .local _ .vmem, ⟨28, _⟩ => ⟨S4x16x512, .f32⟩
  | .local _ .vmem, ⟨29, _⟩ => ⟨S4x16x128, .f32⟩
  | .local _ .vmem, ⟨30, _⟩ => ⟨S4x16x128, .f32⟩
  | .local _ .vmem, ⟨31, _⟩ => ⟨S4x16x128, .f32⟩
  | .local _ .vmem, ⟨32, _⟩ => ⟨S4x16x128, .f32⟩
  | .local _ .vmem, ⟨33, _⟩ => ⟨S16x256x128, .f32⟩
  | .local _ .vmem, ⟨34, _⟩ => ⟨S16x256x128, .f32⟩
  | .local _ .vmem, ⟨35, _⟩ => ⟨S16x128x128, .f32⟩
  | .local _ .vmem, ⟨36, _⟩ => ⟨S16x128x128, .f32⟩
  | .local _ .vmem, ⟨37, _⟩ => ⟨S16x128x128, .f32⟩
  | .local _ .vmem, ⟨38, _⟩ => ⟨S16x128x128, .f32⟩
  | .local _ .vmem, ⟨39, _⟩ => ⟨S4x16x512, .f32⟩
  | .local _ .vmem, ⟨40, _⟩ => ⟨S4x16x512, .f32⟩
  | .local _ .vmem, ⟨41, _⟩ => ⟨S4x16x512, .f32⟩
  | .local _ .vmem, ⟨42, _⟩ => ⟨S4x16x512, .f32⟩
  | .local _ .vmem, ⟨43, _⟩ => ⟨S16x256x128, .f32⟩
  | .local _ .vmem, ⟨44, _⟩ => ⟨S16x256x128, .f32⟩
  | .local _ .vmem, ⟨45, _⟩ => ⟨S16x128x128, .f32⟩
  | .local _ .vmem, ⟨46, _⟩ => ⟨S16x128x128, .f32⟩
  | .local _ .vmem, ⟨47, _⟩ => ⟨S16x128x128, .f32⟩
  | .local _ .vmem, ⟨48, _⟩ => ⟨S16x128x128, .f32⟩
  | .local _ .smem, ⟨0, _⟩ => ⟨S8, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .smem, ⟨0, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev main_v16_4 : Ref sig .tc := ⟨.hbm, 32, rfl⟩
abbrev main_v16_5 : Ref sig .tc := ⟨.hbm, 33, rfl⟩
abbrev main_v16_6 : Ref sig .tc := ⟨.hbm, 34, rfl⟩
abbrev main_v16_7 : Ref sig .tc := ⟨.hbm, 35, rfl⟩
abbrev main_v16_8 : Ref sig .tc := ⟨.hbm, 36, rfl⟩
abbrev main_v16_9 : Ref sig .tc := ⟨.hbm, 37, rfl⟩
abbrev main_v16_10 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33_0 : Ref sig .tc := ⟨.hbm, 55, rfl⟩
abbrev main_v33_1 : Ref sig .tc := ⟨.hbm, 56, rfl⟩
abbrev main_v33_2 : Ref sig .tc := ⟨.hbm, 57, rfl⟩
abbrev main_v33_3 : Ref sig .tc := ⟨.hbm, 58, rfl⟩
abbrev main_v33_4 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg10_1 : Ref sig .tc := ⟨.vmem, 36, rfl⟩
abbrev cc1_stg11_0 : Ref sig .tc := ⟨.vmem, 37, rfl⟩
abbrev cc1_stg11_1 : Ref sig .tc := ⟨.vmem, 38, rfl⟩
abbrev cc1_stg12_0 : Ref sig .tc := ⟨.vmem, 39, rfl⟩
abbrev cc1_stg12_1 : Ref sig .tc := ⟨.vmem, 40, rfl⟩
abbrev cc1_stg13_0 : Ref sig .tc := ⟨.vmem, 41, rfl⟩
abbrev cc1_stg13_1 : Ref sig .tc := ⟨.vmem, 42, rfl⟩
abbrev cc1_stg14_0 : Ref sig .tc := ⟨.vmem, 43, rfl⟩
abbrev cc1_stg14_1 : Ref sig .tc := ⟨.vmem, 44, rfl⟩
abbrev cc1_stg15_0 : Ref sig .tc := ⟨.vmem, 45, rfl⟩
abbrev cc1_stg15_1 : Ref sig .tc := ⟨.vmem, 46, rfl⟩
abbrev cc1_stg16_0 : Ref sig .tc := ⟨.vmem, 47, rfl⟩
abbrev cc1_stg16_1 : Ref sig .tc := ⟨.vmem, 48, rfl⟩
abbrev cc1_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc1_sem0_0 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem7_1 : DmaSem sig := 30
abbrev cc1_sem8_0 : DmaSem sig := 31
abbrev cc1_sem8_1 : DmaSem sig := 32
abbrev cc1_sem9_0 : DmaSem sig := 33
abbrev cc1_sem9_1 : DmaSem sig := 34
abbrev cc1_sem10_0 : DmaSem sig := 35
abbrev cc1_sem10_1 : DmaSem sig := 36
abbrev cc1_sem11_0 : DmaSem sig := 37
abbrev cc1_sem11_1 : DmaSem sig := 38
abbrev cc1_sem12_0 : DmaSem sig := 39
abbrev cc1_sem12_1 : DmaSem sig := 40
abbrev cc1_sem13_0 : DmaSem sig := 41
abbrev cc1_sem13_1 : DmaSem sig := 42
abbrev cc1_sem14_0 : DmaSem sig := 43
abbrev cc1_sem14_1 : DmaSem sig := 44
abbrev cc1_sem15_0 : DmaSem sig := 45
abbrev cc1_sem15_1 : DmaSem sig := 46
abbrev cc1_sem16_0 : DmaSem sig := 47
abbrev cc1_sem16_1 : DmaSem sig := 48

abbrev nD : Nat := 1
abbrev τ : Topo := Topo.v7x

variable {F : FTy → Type} [FloatOps F]

abbrev grid0 : Pipeline.Grid := .none

abbrev stage0_0 : Fin 1 → Memref sig .tc .vmem S128x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev grid1 : Pipeline.Grid := ⟨1, ![8], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4x16x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x16x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x16x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x16x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4x16x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4x16x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4x16x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S16x256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S16x128x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S16x128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S4x16x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S4x16x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S16x256x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S16x128x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S16x128x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]
-- ==== Kernel3Ideal.lean ====
variable {F : FTy → Type} [FloatOps F] [Named F]
def κ : String → Option EReal := fun
  | "log2e_1" => some ((1 * (Real.log 2)⁻¹ : ℝ) : EReal)
  | "log2e_128" => some (((1 / 128) * (Real.log 2)⁻¹ : ℝ) : EReal)
  | "log2e_16" => some (((1 / 16) * (Real.log 2)⁻¹ : ℝ) : EReal)
  | "log2e_2" => some (((1 / 2) * (Real.log 2)⁻¹ : ℝ) : EReal)
  | "log2e_256" => some (((1 / 256) * (Real.log 2)⁻¹ : ℝ) : EReal)
  | "log2e_32" => some (((1 / 32) * (Real.log 2)⁻¹ : ℝ) : EReal)
  | "log2e_4" => some (((1 / 4) * (Real.log 2)⁻¹ : ℝ) : EReal)
  | "log2e_64" => some (((1 / 64) * (Real.log 2)⁻¹ : ℝ) : EReal)
  | "log2e_8" => some (((1 / 8) * (Real.log 2)⁻¹ : ℝ) : EReal)
  | _ => none
-- ==== Reference3Ideal.lean ====
abbrev S128x4x1024 : Shape := ⟨3, ![128, 4, 1024]⟩
abbrev S1x128x4x64x128 : Shape := ⟨5, ![1, 128, 4, 64, 128]⟩
abbrev S1x128x128x2x64 : Shape := ⟨5, ![1, 128, 128, 2, 64]⟩
abbrev S1x1024 : Shape := ⟨2, ![1, 1024]⟩
abbrev S1x1024x4368 : Shape := ⟨3, ![1, 1024, 4368]⟩
abbrev S1x16x256 : Shape := ⟨3, ![1, 16, 256]⟩
abbrev S1x256 : Shape := ⟨2, ![1, 256]⟩
abbrev S1x8 : Shape := ⟨2, ![1, 8]⟩
abbrev S8 : Shape := ⟨1, ![8]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x4368 : Shape := ⟨2, ![1024, 4368]⟩
abbrev S128x4x4368 : Shape := ⟨3, ![128, 4, 4368]⟩
abbrev S128x4x256 : Shape := ⟨3, ![128, 4, 256]⟩
abbrev S128x4x512 : Shape := ⟨3, ![128, 4, 512]⟩
abbrev S128x4x16 : Shape := ⟨3, ![128, 4, 16]⟩
abbrev S128x4x128 : Shape := ⟨3, ![128, 4, 128]⟩
abbrev S16x256 : Shape := ⟨2, ![16, 256]⟩
abbrev S256 : Shape := ⟨1, ![256]⟩
abbrev S1x1x256 : Shape := ⟨3, ![1, 1, 256]⟩
abbrev S128x4x4x64 : Shape := ⟨4, ![128, 4, 4, 64]⟩
abbrev S128x4x4x128 : Shape := ⟨4, ![128, 4, 4, 128]⟩
abbrev S128x4x64x128 : Shape := ⟨4, ![128, 4, 64, 128]⟩
abbrev S128x4x1x64 : Shape := ⟨4, ![128, 4, 1, 64]⟩
abbrev S128x4x4x1x64 : Shape := ⟨5, ![128, 4, 4, 1, 64]⟩
abbrev S128x4x1x4x64 : Shape := ⟨5, ![128, 4, 1, 4, 64]⟩
abbrev S128x4x4x4x64 : Shape := ⟨5, ![128, 4, 4, 4, 64]⟩
abbrev S4x4 : Shape := ⟨2, ![4, 4]⟩
abbrev S4x4x1 : Shape := ⟨3, ![4, 4, 1]⟩
abbrev S128x4x4x4 : Shape := ⟨4, ![128, 4, 4, 4]⟩
abbrev S128x4x64 : Shape := ⟨3, ![128, 4, 64]⟩
abbrev S128x4x64x1 : Shape := ⟨4, ![128, 4, 64, 1]⟩
abbrev S128x4x2x4x64 : Shape := ⟨5, ![128, 4, 2, 4, 64]⟩
abbrev S128x4x2x64 : Shape := ⟨4, ![128, 4, 2, 64]⟩
abbrev S128x128x2x64 : Shape := ⟨4, ![128, 128, 2, 64]⟩
abbrev S128x132x2x64 : Shape := ⟨4, ![128, 132, 2, 64]⟩
abbrev S4 : Shape := ⟨1, ![4]⟩
abbrev S4x1 : Shape := ⟨2, ![4, 1]⟩
abbrev S132 : Shape := ⟨1, ![132]⟩
abbrev S1x132 : Shape := ⟨2, ![1, 132]⟩
abbrev S4x132 : Shape := ⟨2, ![4, 132]⟩
abbrev S128x2x132x4x4 : Shape := ⟨5, ![128, 2, 132, 4, 4]⟩
abbrev S128x2x4x4x132 : Shape := ⟨5, ![128, 2, 4, 4, 132]⟩
abbrev S2x4 : Shape := ⟨2, ![2, 4]⟩
abbrev S2x4x1x1 : Shape := ⟨4, ![2, 4, 1, 1]⟩
abbrev S1x1x4x132 : Shape := ⟨4, ![1, 1, 4, 132]⟩
abbrev S2x4x4x132 : Shape := ⟨4, ![2, 4, 4, 132]⟩
abbrev S1x2x4x4x132 : Shape := ⟨5, ![1, 2, 4, 4, 132]⟩
abbrev S128x2x4x4 : Shape := ⟨4, ![128, 2, 4, 4]⟩
abbrev S128x2x4x4x1 : Shape := ⟨5, ![128, 2, 4, 4, 1]⟩
abbrev S1x2x4x1x1 : Shape := ⟨5, ![1, 2, 4, 1, 1]⟩
abbrev S128x2x64x4x4 : Shape := ⟨5, ![128, 2, 64, 4, 4]⟩
abbrev S4x128x4x128 : Shape := ⟨4, ![4, 128, 4, 128]⟩
abbrev S4x128x512 : Shape := ⟨3, ![4, 128, 512]⟩
abbrev S128x256x128 : Shape := ⟨3, ![128, 256, 128]⟩
abbrev S128x2x64x128 : Shape := ⟨4, ![128, 2, 64, 128]⟩
abbrev S128x128x128 : Shape := ⟨3, ![128, 128, 128]⟩

abbrev nBuf : Space → Nat
  | .hbm => 213
  | .vmem => 0
  | .smem => 0
  | _ => 0

abbrev hbmTy0_0 (i : Nat) : BufTy := match i % 128 with
  | 0 => ⟨S128x4x1024, .f32⟩
  | 1 => ⟨S1x128x4x64x128, .f32⟩
  | 2 => ⟨S1x128x128x2x64, .f32⟩
  | 3 => ⟨S1x128x128x2x64, .f32⟩
  | 4 => ⟨S1x1024, .f32⟩
  | 5 => ⟨S1x1024x4368, .f32⟩
  | 6 => ⟨S1x16x256, .f32⟩
  | 7 => ⟨S1x256, .f32⟩
  | 8 => ⟨S1x8, .f32⟩
  | 9 => ⟨S8, .f32⟩
  | 10 => ⟨S1024, .f32⟩
  | 11 => ⟨S128x4x1024, .f32⟩
  | 12 => ⟨S_, .f32⟩
  | 13 => ⟨S128x4, .f32⟩
  | 14 => ⟨S128x4x1, .f32⟩
  | 15 => ⟨S_, .f32⟩
  | 16 => ⟨S128x4x1, .f32⟩
  | 17 => ⟨S128x4x1, .f32⟩
  | 18 => ⟨S_, .f32⟩
  | 19 => ⟨S128x4x1, .f32⟩
  | 20 => ⟨S128x4x1, .f32⟩
  | 21 => ⟨S128x4x1, .f32⟩
  | 22 => ⟨S128x4x1024, .f32⟩
  | 23 => ⟨S128x4x1024, .f32⟩
  | 24 => ⟨S1x1x1024, .f32⟩
  | 25 => ⟨S128x4x1024, .f32⟩
  | 26 => ⟨S128x4x1024, .f32⟩
  | 27 => ⟨S1024x4368, .f32⟩
  | 28 => ⟨S128x4x4368, .f32⟩
  | 29 => ⟨S128x4x256, .f32⟩
  | 30 => ⟨S128x4x256, .f32⟩
  | 31 => ⟨S128x4x512, .f32⟩
  | 32 => ⟨S128x4x16, .f32⟩
  | 33 => ⟨S128x4x512, .f32⟩
  | 34 => ⟨S128x4x512, .f32⟩
  | 35 => ⟨S128x4x128, .f32⟩
  | 36 => ⟨S128x4x128, .f32⟩
  | 37 => ⟨S128x4x1024, .f32⟩
  | 38 => ⟨S128x4x1024, .f32⟩
  | 39 => ⟨S16x256, .f32⟩
  | 40 => ⟨S128x4x256, .f32⟩
  | 41 => ⟨S256, .f32⟩
  | 42 => ⟨S1x1x256, .f32⟩
  | 43 => ⟨S128x4x256, .f32⟩
  | 44 => ⟨S128x4x256, .f32⟩
  | 45 => ⟨S128x4x256, .f32⟩
  | 46 => ⟨S_, .f32⟩
  | 47 => ⟨S128x4x256, .f32⟩
  | 48 => ⟨S128x4x256, .f32⟩
  | 49 => ⟨S128x4x256, .f32⟩
  | 50 => ⟨S128x4x256, .f32⟩
  | 51 => ⟨S128x4x256, .i1⟩
  | 52 => ⟨S128x4x256, .f32⟩
  | 53 => ⟨S128x4x256, .f32⟩
  | 54 => ⟨S128x4x256, .f32⟩
  | 55 => ⟨S128x4x256, .f32⟩
  | 56 => ⟨S128x4x256, .f32⟩
  | 57 => ⟨S128x4x256, .f32⟩
  | 58 => ⟨S128x4x256, .f32⟩
  | 59 => ⟨S128x4x256, .f32⟩
  | 60 => ⟨S128x4x256, .f32⟩
  | 61 => ⟨S_, .f32⟩
  | 62 => ⟨S128x4x256, .f32⟩
  | 63 => ⟨S128x4x256, .f32⟩
  | 64 => ⟨S128x4x4x64, .f32⟩
  | 65 => ⟨S_, .f32⟩
  | 66 => ⟨S128x4x4x64, .f32⟩
  | 67 => ⟨S128x4x4x64, .f32⟩
  | 68 => ⟨S128x4x4x64, .f32⟩
  | 69 => ⟨S128x4x4x128, .f32⟩
  | 70 => ⟨S128x4x4x64, .f32⟩
  | 71 => ⟨S128x4x64x128, .f32⟩
  | 72 => ⟨S128x4x4x64, .f32⟩
  | 73 => ⟨S128x4x4x64, .f32⟩
  | 74 => ⟨S128x4x4x128, .f32⟩
  | 75 => ⟨S128x4x4x64, .f32⟩
  | 76 => ⟨S128x4x1x64, .f32⟩
  | 77 => ⟨S128x4x1x64, .f32⟩
  | 78 => ⟨S128x4x1x64, .f32⟩
  | 79 => ⟨S128x4x1x64, .f32⟩
  | 80 => ⟨S128x4x1x64, .f32⟩
  | 81 => ⟨S128x4x1x64, .f32⟩
  | 82 => ⟨S128x4x1x64, .f32⟩
  | 83 => ⟨S128x4x4x64, .f32⟩
  | 84 => ⟨S128x4x4x64, .f32⟩
  | 85 => ⟨S128x4x4x64, .f32⟩
  | 86 => ⟨S128x4x4x128, .f32⟩
  | 87 => ⟨S128x4x4x1x64, .f32⟩
  | 88 => ⟨S128x4x1x4x64, .f32⟩
  | 89 => ⟨S128x4x4x4x64, .f32⟩
  | 90 => ⟨S128x4x4x4x64, .f32⟩
  | 91 => ⟨S128x4x4x4x64, .f32⟩
  | 92 => ⟨S_, .i1⟩
  | 93 => ⟨S4x4, .i1⟩
  | 94 => ⟨S4x4, .i32⟩
  | 95 => ⟨S_, .i32⟩
  | 96 => ⟨S4x4, .i32⟩
  | 97 => ⟨S4x4, .i32⟩
  | 98 => ⟨S4x4, .i32⟩
  | 99 => ⟨S4x4, .i1⟩
  | 100 => ⟨S_, .i1⟩
  | 101 => ⟨S4x4, .i1⟩
  | 102 => ⟨S4x4, .i1⟩
  | 103 => ⟨S4x4x1, .i1⟩
  | 104 => ⟨S_, .f32⟩
  | 105 => ⟨S_, .f32⟩
  | 106 => ⟨S128x4x4x4x64, .i1⟩
  | 107 => ⟨S128x4x4x4x64, .f32⟩
  | 108 => ⟨S128x4x4x4x64, .f32⟩
  | 109 => ⟨S128x4x4x4x64, .f32⟩
  | 110 => ⟨S128x4x4x1x64, .f32⟩
  | 111 => ⟨S128x4x1x4x64, .f32⟩
  | 112 => ⟨S128x4x4x4x64, .f32⟩
  | 113 => ⟨S128x4x4x4x64, .f32⟩
  | 114 => ⟨S128x4x4x4x64, .f32⟩
  | 115 => ⟨S128x4x4x4x64, .f32⟩
  | 116 => ⟨S_, .f32⟩
  | 117 => ⟨S128x4x4x4, .f32⟩
  | 118 => ⟨S128x4x4x128, .f32⟩
  | 119 => ⟨S128x4x4x128, .f32⟩
  | 120 => ⟨S128x4x1x64, .f32⟩
  | 121 => ⟨S128x4x64, .f32⟩
  | 122 => ⟨S128x4x64, .f32⟩
  | 123 => ⟨S128x4x64x1, .f32⟩
  | 124 => ⟨S128x4x64x128, .f32⟩
  | 125 => ⟨S128x4x64x128, .f32⟩
  | 126 => ⟨S128x4x4x64, .f32⟩
  | 127 => ⟨S128x4x4x64, .f32⟩
  | _ => ⟨S128x4x1024, .f32⟩

abbrev hbmTy0_1 (i : Nat) : BufTy := match i % 128 with
  | 0 => ⟨S128x4x4x64, .f32⟩
  | 1 => ⟨S128x4x4x64, .f32⟩
  | 2 => ⟨S128x4x64x128, .f32⟩
  | 3 => ⟨S128x4x64x128, .f32⟩
  | 4 => ⟨S128x4x4x128, .f32⟩
  | 5 => ⟨S128x4x2x4x64, .f32⟩
  | 6 => ⟨S128x4x2x64, .f32⟩
  | 7 => ⟨S128x4x2x64, .f32⟩
  | 8 => ⟨S128x128x2x64, .f32⟩
  | 9 => ⟨S128x132x2x64, .f32⟩
  | 10 => ⟨S128x128x2x64, .f32⟩
  | 11 => ⟨S128x132x2x64, .f32⟩
  | 12 => ⟨S4, .i32⟩
  | 13 => ⟨S4x1, .i32⟩
  | 14 => ⟨S_, .i32⟩
  | 15 => ⟨S4x1, .i32⟩
  | 16 => ⟨S4x1, .i32⟩
  | 17 => ⟨S132, .i32⟩
  | 18 => ⟨S1x132, .i32⟩
  | 19 => ⟨S4x132, .i32⟩
  | 20 => ⟨S4x132, .i32⟩
  | 21 => ⟨S4x132, .i32⟩
  | 22 => ⟨S8, .f32⟩
  | 23 => ⟨S128x2x132x4x4, .f32⟩
  | 24 => ⟨S128x2x4x4x132, .f32⟩
  | 25 => ⟨S_, .f32⟩
  | 26 => ⟨S128x2x4x4x132, .f32⟩
  | 27 => ⟨S128x2x4x4x132, .f32⟩
  | 28 => ⟨S2x4, .f32⟩
  | 29 => ⟨S2x4x1x1, .f32⟩
  | 30 => ⟨S2x4x1x1, .f32⟩
  | 31 => ⟨S4x132, .f32⟩
  | 32 => ⟨S1x1x4x132, .f32⟩
  | 33 => ⟨S2x4x4x132, .f32⟩
  | 34 => ⟨S2x4x4x132, .f32⟩
  | 35 => ⟨S2x4x4x132, .f32⟩
  | 36 => ⟨S_, .i32⟩
  | 37 => ⟨S4x132, .i32⟩
  | 38 => ⟨S4x132, .i1⟩
  | 39 => ⟨S_, .i32⟩
  | 40 => ⟨S4x132, .i32⟩
  | 41 => ⟨S4x132, .i1⟩
  | 42 => ⟨S4x132, .i1⟩
  | 43 => ⟨S1x2x4x4x132, .f32⟩
  | 44 => ⟨S128x2x4x4x132, .f32⟩
  | 45 => ⟨S128x2x4x4x132, .f32⟩
  | 46 => ⟨S_, .f32⟩
  | 47 => ⟨S_, .f32⟩
  | 48 => ⟨S128x2x4x4x132, .i1⟩
  | 49 => ⟨S128x2x4x4x132, .f32⟩
  | 50 => ⟨S128x2x4x4x132, .f32⟩
  | 51 => ⟨S2x4, .f32⟩
  | 52 => ⟨S2x4x1x1, .f32⟩
  | 53 => ⟨S_, .f32⟩
  | 54 => ⟨S128x2x4x4, .f32⟩
  | 55 => ⟨S128x2x4x4x1, .f32⟩
  | 56 => ⟨S1x2x4x1x1, .f32⟩
  | 57 => ⟨S128x2x4x4x1, .f32⟩
  | 58 => ⟨S128x2x4x4x1, .f32⟩
  | 59 => ⟨S128x2x4x4x132, .f32⟩
  | 60 => ⟨S128x2x4x4x132, .f32⟩
  | 61 => ⟨S128x2x4x4x132, .f32⟩
  | 62 => ⟨S_, .f32⟩
  | 63 => ⟨S128x2x4x4, .f32⟩
  | 64 => ⟨S128x2x4x4x1, .f32⟩
  | 65 => ⟨S1x2x4x1x1, .f32⟩
  | 66 => ⟨S128x2x4x4x1, .f32⟩
  | 67 => ⟨S128x2x4x4x1, .f32⟩
  | 68 => ⟨S128x2x4x4x1, .f32⟩
  | 69 => ⟨S128x2x4x4x1, .f32⟩
  | 70 => ⟨S128x2x4x4x132, .f32⟩
  | 71 => ⟨S128x2x4x4x132, .f32⟩
  | 72 => ⟨S128x2x64x4x4, .f32⟩
  | 73 => ⟨S128x4x2x4x64, .f32⟩
  | 74 => ⟨S128x128x2x64, .f32⟩
  | 75 => ⟨S128x128x2x64, .f32⟩
  | 76 => ⟨S4x128x4x128, .f32⟩
  | 77 => ⟨S4x128x512, .f32⟩
  | 78 => ⟨S128x4x512, .f32⟩
  | 79 => ⟨S4x128x512, .f32⟩
  | 80 => ⟨S128x256x128, .f32⟩
  | 81 => ⟨S128x2x64x128, .f32⟩
  | 82 => ⟨S128x128x128, .f32⟩
  | 83 => ⟨S128x2x64x128, .f32⟩
  | 84 => ⟨S128x128x128, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_v1 : Ref sig .tc := ⟨.hbm, 59, rfl⟩
abbrev main_v32 : Ref sig .tc := ⟨.hbm, 60, rfl⟩
abbrev main_cst_3 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_4 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c : Ref sig .tc := ⟨.hbm, 92, rfl⟩
abbrev main_v62 : Ref sig .tc := ⟨.hbm, 93, rfl⟩
abbrev main_call1_v0 : Ref sig .tc := ⟨.hbm, 94, rfl⟩
abbrev main_call1_c : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_c_0 : Ref sig .tc := ⟨.hbm, 100, rfl⟩
abbrev main_call1_v5 : Ref sig .tc := ⟨.hbm, 101, rfl⟩
abbrev main_v63 : Ref sig .tc := ⟨.hbm, 102, rfl⟩
abbrev main_v64 : Ref sig .tc := ⟨.hbm, 103, rfl⟩
abbrev main_cst_5 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_6 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_c_7 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_8 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_c_9 : Ref sig .tc := ⟨.hbm, 164, rfl⟩
abbrev main_v118 : Ref sig .tc := ⟨.hbm, 165, rfl⟩
abbrev main_v119 : Ref sig .tc := ⟨.hbm, 166, rfl⟩
abbrev main_c_10 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_11 : Ref sig .tc := ⟨.hbm, 174, rfl⟩
abbrev main_call3_v0 : Ref sig .tc := ⟨.hbm, 175, rfl⟩
abbrev main_call3_v1 : Ref sig .tc := ⟨.hbm, 176, rfl⟩
abbrev main_call3_v2 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_12 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_13 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩

abbrev nD : Nat := 1
abbrev τ : Topo := Topo.v7x

variable {F : FTy → Type} [FloatOps F]
-- ==== Proof.PrepValue.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Prep

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The prepared weights before rounding, at row `r` and column `col`: the columns of the input weights up to the gate's
    low-rank block, then the columns behind it, then that block, then zeros. -/
def laid (x : Vec F S1x1024x4368 .f32) (r : Fin 1024) (col : ℕ) : F .f32 :=
  if h : col < 1024 then x (ix3 0 r ⟨col, by omega⟩)
  else if h : col < 4352 then x (ix3 0 r ⟨col + 16, by omega⟩)
  else if h : col < 4368 then x (ix3 0 r ⟨col - 3328, by omega⟩)
  else FloatOps.ofBits .f32 0x00000000#32

/-- The array the input windows read: the weights with rows and columns exchanged. -/
theorem V_rows (c : Dev nD) (a : Fin 4368) (r : Fin 1024) :
    (V m c main_v1 : S4368x1024.Idx → Elt F .f32) (ix2 a r)
      = (m ((c : Thread nD τ).loc main_arg0) : S1x1024x4368.Idx → Elt F .f32) (ix3 0 r a) := by
  entry_read
  pointwise

/-- The row of that array at which the tile of columns `256 v … 256 v + 255` of the result starts. -/
def start (v : ℕ) : ℕ := if v < 4 then 256 * v else if v < 17 then 256 * v + 16 else 1024

theorem off0 : ∀ (t : Fin cfg0.N) (a : Fin 2), win0_0.index t a = (![start (3 * t.val), 0] : Fin 2 → ℕ) a :=
  (by decide +kernel : ∀ (t : Fin grid0.N) (a : Fin 2), _)
theorem off1 : ∀ (t : Fin cfg0.N) (a : Fin 2), win0_1.index t a = (![start (3 * t.val + 1), 0] : Fin 2 → ℕ) a :=
  (by decide +kernel : ∀ (t : Fin grid0.N) (a : Fin 2), _)
theorem off2 : ∀ (t : Fin cfg0.N) (a : Fin 2), win0_2.index t a = (![start (3 * t.val + 2), 0] : Fin 2 → ℕ) a :=
  (by decide +kernel : ∀ (t : Fin grid0.N) (a : Fin 2), _)
theorem off3 : ∀ t : Fin cfg0.N, win0_3.index t = ![0, t.val] :=
  (by decide +kernel : ∀ t : Fin grid0.N, _)

theorem point (t : Fin cfg0.N) : ((grid0.coords t) 0).val = t.val :=
  (by decide +kernel : ∀ t : Fin grid0.N, ((grid0.coords t) 0).val = t.val) t

/-- Window 0's block holds the 256 rows from `start (3 t)` on: its index map gives the element offset itself. -/
theorem blk0 (c : Dev nD) (t : Fin cfg0.N) (k : Fin 256) (r : Fin 1024) (a : Fin 4368)
    (ha : start (3 * t.val) + k.val = a.val) :
    (iblk m c 0 t : S256x1024.Idx → Elt F .f32) (ix2 k r)
      = (m ((c : Thread nD τ).loc main_arg0) : S1x1024x4368.Idx → Elt F .f32) (ix3 0 r a) := by
  rw [← V_rows m]
  show (V m c main_v1 : S4368x1024.Idx → Elt F .f32) ((win0_0.rect t).emb (ix2 k r)) = _
  congr 1
  funext x; apply Fin.ext
  rw [Pipeline.Window.rect_emb_val_off, off0]
  fin_cases x
  · exact ha
  · exact Nat.zero_add _

theorem blk1 (c : Dev nD) (t : Fin cfg0.N) (k : Fin 256) (r : Fin 1024) (a : Fin 4368)
    (ha : start (3 * t.val + 1) + k.val = a.val) :
    (iblk m c 1 t : S256x1024.Idx → Elt F .f32) (ix2 k r)
      = (m ((c : Thread nD τ).loc main_arg0) : S1x1024x4368.Idx → Elt F .f32) (ix3 0 r a) := by
  rw [← V_rows m]
  show (V m c main_v1 : S4368x1024.Idx → Elt F .f32) ((win0_1.rect t).emb (ix2 k r)) = _
  congr 1
  funext x; apply Fin.ext
  rw [Pipeline.Window.rect_emb_val_off, off1]
  fin_cases x
  · exact ha
  · exact Nat.zero_add _

theorem blk2 (c : Dev nD) (t : Fin cfg0.N) (k : Fin 256) (r : Fin 1024) (a : Fin 4368)
    (ha : start (3 * t.val + 2) + k.val = a.val) :
    (iblk m c 2 t : S256x1024.Idx → Elt F .f32) (ix2 k r)
      = (m ((c : Thread nD τ).loc main_arg0) : S1x1024x4368.Idx → Elt F .f32) (ix3 0 r a) := by
  rw [← V_rows m]
  show (V m c main_v1 : S4368x1024.Idx → Elt F .f32) ((win0_2.rect t).emb (ix2 k r)) = _
  congr 1
  funext x; apply Fin.ext
  rw [Pipeline.Window.rect_emb_val_off, off2]
  fin_cases x
  · exact ha
  · exact Nat.zero_add _

/-- The rows kept of a tile: all of them, but of the last tile the first 16. -/
theorem keep_tile : ∀ (t : Fin 6) (d : Fin 3) (k : Fin 256),
    IntOp.ori (Scalar.cmpi .slt (Scalar.addi (Scalar.muli (BitVec.ofNat 32 t.val) 3#32) (BitVec.ofNat 32 d.val)) 17#32)
        (IntOp.cmpi .slt (BitVec.ofNat 32 k.val) 16#32)
      = if 3 * t.val + d.val < 17 ∨ k.val < 16 then 1#1 else 0#1 := by
  decide +kernel

/-- A tile of the result, from the rows that hold it. -/
theorem tile (x : Vec F S1x1024x4368 .f32) (t : Fin cfg0.N) (d : Fin 3) (k : Fin 256) (r : Fin 1024) (v : F .f32)
    (hv : ∀ a : Fin 4368, start (3 * t.val + d.val) + k.val = a.val → v = x (ix3 0 r a)) :
    Scalar.select (IntOp.ori (Scalar.cmpi .slt (Scalar.addi (Scalar.muli (BitVec.ofNat 32 ((grid0.coords t) 0).val) 3#32) (BitVec.ofNat 32 d.val)) 17#32)
        (IntOp.cmpi .slt (BitVec.ofNat 32 k.val) 16#32)) v (FloatOps.ofBits .f32 0x00000000#32)
      = laid x r (768 * t.val + 256 * d.val + k.val) := by
  have ht : t.val < 6 := t.isLt
  have hk := k.isLt
  have hd := d.isLt
  rw [point, keep_tile ⟨t.val, ht⟩ d k]
  unfold laid
  unfold start at hv
  by_cases h : 3 * t.val + d.val < 17 ∨ k.val < 16
  · rw [if_pos h]
    show v = _
    by_cases h4 : 3 * t.val + d.val < 4
    · rw [dif_pos (by omega)]; apply hv; rw [if_pos h4]; show _ = (_ : ℕ); dsimp only; omega
    · by_cases h17 : 3 * t.val + d.val < 17
      · rw [dif_neg (by omega), dif_pos (by omega)]; apply hv; rw [if_neg h4, if_pos h17]; show _ = (_ : ℕ); dsimp only; omega
      · rw [dif_neg (by omega), dif_neg (by omega), dif_pos (by omega)]; apply hv; rw [if_neg h4, if_neg h17]; show _ = (_ : ℕ); dsimp only; omega
  · rw [if_neg h, dif_neg (by omega), dif_neg (by omega), dif_neg (by omega)]
    rfl

/-- Each of the three tiles a grid point writes, at an index: the rows it loaded, masked, exchanged and rounded. -/
theorem pay0 (i : grid0.Coords) (v : Vec F S256x1024 .f32) (r : Fin 1024) (k : Fin 256) :
    k0_pay2 i (View.ld v r0_0) (ix2 r k) = FloatOps.truncf .bf16 bitsLt_bf16_f32 (Scalar.select (IntOp.ori
      (Scalar.cmpi .slt (Scalar.addi (Scalar.muli (BitVec.ofNat 32 (i 0).val) 3#32) 0#32) 17#32)
        (IntOp.cmpi .slt (BitVec.ofNat 32 k.val) 16#32)) (v (ix2 k r)) (FloatOps.ofBits .f32 0x00000000#32)) := by
  pointwise [k0_pay2]
theorem pay1 (i : grid0.Coords) (v : Vec F S256x1024 .f32) (r : Fin 1024) (k : Fin 256) :
    k0_pay3 i (View.ld v r0_0) (ix2 r k) = FloatOps.truncf .bf16 bitsLt_bf16_f32 (Scalar.select (IntOp.ori
      (Scalar.cmpi .slt (Scalar.addi (Scalar.muli (BitVec.ofNat 32 (i 0).val) 3#32) 1#32) 17#32)
        (IntOp.cmpi .slt (BitVec.ofNat 32 k.val) 16#32)) (v (ix2 k r)) (FloatOps.ofBits .f32 0x00000000#32)) := by
  pointwise [k0_pay3]
theorem pay2 (i : grid0.Coords) (v : Vec F S256x1024 .f32) (r : Fin 1024) (k : Fin 256) :
    k0_pay1 (k0_pay4 (View.ld v r0_0)) (iota Kind.tc S256x1024 32 [0] iota_S256x1024_d0_w32)
      (Scalar.addi (Scalar.muli (BitVec.ofNat 32 (i 0).val) 3#32) 2#32) (ix2 r k)
      = FloatOps.truncf .bf16 bitsLt_bf16_f32 (Scalar.select (IntOp.ori
      (Scalar.cmpi .slt (Scalar.addi (Scalar.muli (BitVec.ofNat 32 (i 0).val) 3#32) 2#32) 17#32)
        (IntOp.cmpi .slt (BitVec.ofNat 32 k.val) 16#32)) (v (ix2 k r)) (FloatOps.ofBits .f32 0x00000000#32)) := by
  pointwise [k0_pay1, k0_pay4]

/-- The result array after the run. -/
theorem final (c : Dev nD) : ((dats m 0 c).arrAt 3 cfg0.N : S1024x4608.Idx → Elt F .bf16)
    = fun i => FloatOps.truncf .bf16 bitsLt_bf16_f32 (laid (m ((c : Thread nD τ).loc main_arg0)) (i 0) (i 1).val) := by
  refine (dats m 0 c).arrAt_eq_of_covers 3 _ (by decide +kernel) fun t _ y => ?_
  blk_simp
  rw [after0_3]
  unfold out0_3
  canon_tiles x h
  all_goals
    have e0 : (win0_3.blk t).view.emb y 0 = x 0 := Fin.ext (by blk_simp; rw [off3]; simpa using h0)
    have e1 : win0_3.index t 1 = t.val := by rw [off3]; rfl
    rw [e0, e1, h1]
    obtain ⟨r, k, rfl⟩ : ∃ r k, x = ix2 r k := ⟨x 0, x 1, by funext a; fin_cases a <;> rfl⟩
  · rw [pay2]
    have e : t.val * 768 + (512 + k.val) = 768 * t.val + 256 * 2 + k.val := by omega
    exact congrArg _ ((tile _ t 2 k r _ (blk2 m c t k r)).trans (congrArg (laid _ r) e.symm))
  · rw [pay1]
    have e : t.val * 768 + (256 + k.val) = 768 * t.val + 256 * 1 + k.val := by omega
    exact congrArg _ ((tile _ t 1 k r _ (blk1 m c t k r)).trans (congrArg (laid _ r) e.symm))
  · rw [pay0]
    have e : t.val * 768 + k.val = 768 * t.val + 256 * 0 + k.val := by omega
    exact congrArg _ ((tile _ t 0 k r _ (blk0 m c t k r)).trans (congrArg (laid _ r) e.symm))

end Cert.KernelIdeal.Prep

end
-- ==== Proof.PrepReference.lean ====
module

public import proofs.«01_k».proof.Proof.Gen.ReferenceIdeal.Run
public import proofs.«01_k».proof.Proof.PrepValue
public import Idealize.ShloMosaic.Lib.Pointwise

@[expose] public section

set_option maxRecDepth 16384

noncomputable section

namespace Cert.ReferenceIdeal.Prep

open Cert.ReferenceIdeal Cert.ReferenceIdeal.Gen Idealize.ShloMosaic Idealize.ShloMosaic.TcCoe Idealize.SL.Sem Idealize.ShloMosaic.StableHlo

variable {F : FTy → Type} [FloatOps F]

/-- The reference's own term for the prepared weights: three slices of the input weights and zeros, side by side, rounded. -/
abbrev joined (x : Vec F S1x1024x4368 .f32) : Vec F S1024x4608 .bf16 :=
  truncf .bf16 (concatenate S1024x4608 1
    [⟨S1024x1024, extractStridedSlice S1024x1024 ![0, 0] (shapeCast S1024x4368 x shapeCasts_S1x1024x4368_S1024x4368) slices_S1024x4368_S1024x1024_0_0⟩,
     ⟨S1024x3328, extractStridedSlice S1024x3328 ![0, 1040] (shapeCast S1024x4368 x shapeCasts_S1x1024x4368_S1024x4368) slices_S1024x4368_S1024x3328_0_1040⟩,
     ⟨S1024x16, extractStridedSlice S1024x16 ![0, 1024] (shapeCast S1024x4368 x shapeCasts_S1x1024x4368_S1024x4368) slices_S1024x4368_S1024x16_0_1024⟩,
     ⟨S1024x240, broadcastInDim S1024x240 ![] bcast_S_S1024x240 (constant S_ .f32 0x00000000#32)⟩]
    concatenates_S1024x1024_S1024x3328_S1024x16_S1024x240_S1024x4608_d1) bitsLt_bf16_f32

/-- At an index it is the same function of the column as the kernel's. -/
theorem joined_eq (x : Vec F S1x1024x4368 .f32) :
    joined x = fun i => FloatOps.truncf .bf16 Cert.KernelIdeal.Gen.facts.bitsLt_bf16_f32 (Cert.KernelIdeal.Prep.laid x (i 0) (i 1).val) := by
  funext i
  idx_vars i
  pointwise [joined]
  refine congrArg _ ?_
  unfold Cert.KernelIdeal.Prep.laid
  by_cases h1 : i1.val < 1024
  · rw [dif_pos h1, dif_pos h1]
  · by_cases h2 : i1.val < 4352
    · rw [dif_neg h1, dif_neg h1, dif_pos (by omega), dif_pos h2]
      refine congrArg (fun a => x (ix3 0 i0 a)) (Fin.ext ?_); dsimp only; omega
    · by_cases h3 : i1.val < 4368
      · rw [dif_neg h1, dif_neg h1, dif_neg (by omega), dif_neg h2, dif_pos (by omega), dif_pos h3]
        refine congrArg (fun a => x (ix3 0 i0 a)) (Fin.ext ?_); dsimp only; omega
      · rw [dif_neg h1, dif_neg h1, dif_neg (by omega), dif_neg h2, dif_neg (by omega), dif_neg h3]

end Cert.ReferenceIdeal.Prep

end
-- ==== Proof.PrepClaims.lean ====
module

public import proofs.«01_k».proof.Defs
public import proofs.«01_k».proof.Proof.Gen.Kernel
public import proofs.«01_k».proof.Proof.Gen.Reference
public import proofs.«01_k».proof.Proof.PrepValue
public import proofs.«01_k».proof.Proof.PrepReference
public import Idealize.ShloMosaic.Lib.Claim
public import Idealize.ShloMosaic.Lib.Quiescent

@[expose] public section

set_option maxRecDepth 16384

noncomputable section

namespace Cert.Proof.Prep

open Idealize.ShloMosaic Idealize.ShloMosaic.TcCoe Idealize.SL.Sem

variable {F : FTy → Type} [FloatOps F]

/-- The kernel's run: the result is the reference's term of the argument, which stays as it was. -/
theorem kernel_run (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      ∀ c : Dev Cert.KernelIdeal.nD,
        r.2.mem ((c : Thread Cert.KernelIdeal.nD Cert.KernelIdeal.τ).loc Cert.KernelIdeal.main_v2)
            = Cert.ReferenceIdeal.Prep.joined (m ((c : Thread Cert.KernelIdeal.nD Cert.KernelIdeal.τ).loc Cert.KernelIdeal.main_arg0))
        ∧ r.2.mem ((c : Thread Cert.KernelIdeal.nD Cert.KernelIdeal.τ).loc Cert.KernelIdeal.main_arg0)
            = m ((c : Thread Cert.KernelIdeal.nD Cert.KernelIdeal.τ).loc Cert.KernelIdeal.main_arg0) :=
  (θ_run Cert.KernelIdeal.defs _ _).mono (fun _ h c =>
    ⟨(h c).1.trans ((Cert.KernelIdeal.Prep.final m c).trans (Cert.ReferenceIdeal.Prep.joined_eq _).symm), (h c).2⟩)
    (Cert.KernelIdeal.Value.run_blocks m ρ)

/-- The two prints of the kernel are one text: their tables of bodies, -/
theorem bodies : Cert.Kernel.defs₀ (F := Bits) = Cert.KernelIdeal.defs₀ (F := Bits) := by
  unfold Cert.Kernel.defs₀ Cert.KernelIdeal.defs₀
  congr 1
  funext l a
  match l, a with
  | 0, (t, s) => rfl

/-- and so the whole tables. -/
theorem tables : Cert.Kernel.defs (F := Bits) = Cert.KernelIdeal.defs (F := Bits) :=
  congrArg (Pipeline.defs (Cert.KernelIdeal.pcfgs (F := Bits))) bodies

theorem frame_kernel : Cert.quiescent_Kernel := fun m ρ _ => by
  rw [tables]
  exact Cert.KernelIdeal.Gen.frame (F := Bits) m ρ

theorem frame_kernelIdeal : Cert.quiescent_KernelIdeal := fun m ρ _ => Cert.KernelIdeal.Gen.frame (F := Ideal) m ρ

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_Reference := fun m ρ _ =>
  (θ_run Cert.ReferenceIdeal.defs _ _).mono (fun r h => ⟨fun c => (h c).2, sem_eq_zero_of_no_sems (by decide) r.2⟩)
    (Cert.ReferenceIdeal.Value.run (F := Bits) m ρ)

theorem preserves : Cert.preserves_Kernel_KernelIdeal := trivial

/-- On equal weights the kernel and the reference end with equal arrays of extended reals, -/
theorem algebraic : Cert.algebraic_KernelIdeal_ReferenceIdeal := fun m ρ m' ρ' _ hag =>
  ⟨_, kernel_run (F := Ideal) m ρ,
    (θ_run Cert.ReferenceIdeal.defs _ _).mono
      (fun _ h c => ⟨(h c).1.trans (congrArg Cert.ReferenceIdeal.Prep.joined (hag c)), (h c).2⟩)
      (Cert.ReferenceIdeal.Value.run (F := Ideal) m' ρ')⟩

/-- and with equal words. -/
theorem bitexact : Cert.bitexact_Kernel_Reference := fun m ρ m' ρ' _ hag =>
  ⟨fun c => Cert.ReferenceIdeal.Prep.joined (m ((c : Thread Cert.KernelIdeal.nD Cert.KernelIdeal.τ).loc Cert.KernelIdeal.main_arg0)),
    by rw [tables]; exact kernel_run (F := Bits) m ρ,
    (θ_run Cert.ReferenceIdeal.defs _ _).mono
      (fun _ h c => ⟨(h c).1.trans (congrArg Cert.ReferenceIdeal.Prep.joined (hag c)), (h c).2⟩)
      (Cert.ReferenceIdeal.Value.run (F := Bits) m' ρ')⟩

end Cert.Proof.Prep

end
-- ==== Proof.FfnSpec.lean ====
module

public import Idealize.ShloMosaic.Lib.Pointwise
public import Mathlib.Analysis.SpecialFunctions.Pow.Real
public import Mathlib.Analysis.SpecialFunctions.Trigonometric.DerivHyp

@[expose] public section

noncomputable section

/-! The convolutional feed-forward block over the extended reals, entry by entry, on plain functions of the indices. -/

namespace Cert.Ffn

open Idealize.ShloMosaic

/-- One entry of a row divided by its root mean square and scaled. -/
def rms (v g : Fin 1024 → EReal) (k : Fin 1024) : EReal :=
  v k * Ideal.rsqrt (Ideal.div (∑ j, v j * v j) (Ideal.ofBits .f32 0x44800000#32) + Ideal.ofBits .f32 0x358637BD#32) * g k

/-- The tanh form of the GELU, with its two constants as float words. -/
def gelu (c : EReal) : EReal :=
  c * (Ideal.ofBits .f32 0x3F000000#32 *
    (1 + Ideal.tanh (Ideal.ofBits .f32 0x3F4C422A#32 * (c + Ideal.ofBits .f32 0x3D372713#32 * (c * c * c)))))

/-- The arguments: the rows, the two scales, the input product's weights, the convolution's taps and bias, and the output
    product's weights. -/
structure Args where
  x : Fin 16384 → Fin 1024 → EReal
  pre : Fin 1024 → EReal
  post : Fin 1024 → EReal
  w : Fin 1024 → Fin 5632 → EReal
  taps : Fin 3 → Fin 2816 → EReal
  bias : Fin 2816 → EReal
  wo : Fin 2816 → Fin 1024 → EReal

variable (A : Args)

/-- The input product at row `R` and column `j`. -/
def up (R : Fin 16384) (j : Fin 5632) : EReal := ∑ k, rms (A.x R) A.pre k * A.w k j

/-- The convolved half of the input product behind eight rows of zeros. -/
def padded (q : ℕ) (j : Fin 2816) : EReal :=
  if h : 8 ≤ q ∧ q - 8 < 16384 then up A ⟨q - 8, h.2⟩ ⟨j.val, by omega⟩ else 0

/-- The convolution over three rows, the last of them row `R`. -/
def conv (R : Fin 16384) (j : Fin 2816) : EReal :=
  A.bias j + A.taps 0 j * padded A (R.val + 6) j + A.taps 1 j * padded A (R.val + 7) j + A.taps 2 j * padded A (R.val + 8) j

/-- What the output product multiplies: the convolution's GELU gated by the product's other half. -/
def act (R : Fin 16384) (j : Fin 2816) : EReal := gelu (conv A R j) * up A R ⟨2816 + j.val, by omega⟩

/-- The output product. -/
def down (R : Fin 16384) (n : Fin 1024) : EReal := ∑ j, act A R j * A.wo j n

/-- The block's result: the row plus the scaled output product. -/
def result (R : Fin 16384) (n : Fin 1024) : EReal := A.x R n + rms (down A R) A.post n

/-- The arguments read from arrays, -/
def Args.of (x0 : FVec Ideal ⟨3, ![1, 16384, 1024]⟩ .f32) (x1 x2 : FVec Ideal ⟨2, ![1, 1024]⟩ .f32)
    (x3 : FVec Ideal ⟨3, ![1, 1024, 5632]⟩ .f32) (x4 : FVec Ideal ⟨3, ![1, 3, 2816]⟩ .f32)
    (x5 : FVec Ideal ⟨2, ![1, 2816]⟩ .f32) (x6 : FVec Ideal ⟨3, ![1, 2816, 1024]⟩ .f32) : Args where
  x R k := x0 (ix3 0 R k)
  pre k := x1 (ix2 0 k)
  post k := x2 (ix2 0 k)
  w k j := x3 (ix3 0 k j)
  taps a j := x4 (ix3 0 a j)
  bias j := x5 (ix2 0 j)
  wo j n := x6 (ix3 0 j n)

/-- the result as an array, -/
def rows : FVec Ideal ⟨2, ![16384, 1024]⟩ .f32 := fun i => result A (i 0) (i 1)

/-- and the last two rows of the convolved half as an array. -/
def tail : FVec Ideal ⟨2, ![2, 2816]⟩ .f32 := fun i => padded A (16390 + (i 0).val) (i 1)

/-! ### The GELU by a power of two -/

theorem ofBits_half : Ideal.ofBits .f32 0x3F000000#32 = ((1 / 2 : ℝ) : EReal) := by
  simp [Ideal.ofBits, Ideal.ieee, -EReal.coe_mul]; norm_num
theorem ofBits_root : Ideal.ofBits .f32 0x3F4C422A#32 = ((6693141 / 8388608 : ℝ) : EReal) := by
  simp [Ideal.ofBits, Ideal.ieee, -EReal.coe_mul]; norm_num
theorem ofBits_cubic : Ideal.ofBits .f32 0x3D372713#32 = ((12003091 / 268435456 : ℝ) : EReal) := by
  simp [Ideal.ofBits, Ideal.ieee, -EReal.coe_mul]; norm_num

/-- Half of one plus the hyperbolic tangent is the logistic function of twice the argument. -/
theorem half_one_add_tanh (z : ℝ) : 1 / 2 * (1 + Real.tanh z) = (1 + Real.exp (-(2 * z)))⁻¹ := by
  have e : Real.exp (-(2 * z)) = Real.exp (-z) * Real.exp (-z) := by rw [← Real.exp_add]; congr 1; ring
  have e' : Real.exp z * Real.exp (-z) = 1 := by rw [← Real.exp_add]; simp
  have p := Real.exp_pos z
  have p' := Real.exp_pos (-z)
  rw [Real.tanh_eq_sinh_div_cosh, Real.sinh_eq, Real.cosh_eq, e]
  field_simp
  nlinarith [e']

theorem gelu_real (s a r : ℝ) :
    r / (1 + Real.rpow 2 (r * (-(2 * (s * (Real.log 2)⁻¹)) + -(2 * (s * (Real.log 2)⁻¹)) * a * (r * r))))
      = r * (1 / 2 * (1 + Real.tanh (s * (r + a * (r * r * r))))) := by
  have hl : Real.log 2 ≠ 0 := (Real.log_pos (by norm_num)).ne'
  rw [half_one_add_tanh, div_eq_mul_inv]
  congr 3
  show (2 : ℝ) ^ (_ : ℝ) = _
  rw [Real.rpow_def_of_pos (by norm_num)]
  congr 1
  field_simp
  ring

/-- The quotient by one plus a power of two is the tanh form, at every extended real. -/
theorem gelu_exp2 (c : EReal) :
    Ideal.div c (1 + Ideal.exp2 (c * (((-(2 * ((6693141 / 8388608) * (Real.log 2)⁻¹)) : ℝ) : EReal)
      + (((-(2 * ((6693141 / 8388608) * (Real.log 2)⁻¹))) * (12003091 / 268435456) : ℝ) : EReal) * (c * c)))) = gelu c := by
  have hl : 0 < Real.log 2 := Real.log_pos (by norm_num)
  have hi : 0 < (Real.log 2)⁻¹ := inv_pos.mpr hl
  unfold gelu
  rw [ofBits_half, ofBits_root, ofBits_cubic]
  induction c using EReal.rec with
  | bot =>
    have k3 : (-(2 * ((6693141 / 8388608) * (Real.log 2)⁻¹))) * (12003091 / 268435456) < 0 := by nlinarith
    rw [EReal.bot_mul_bot, EReal.coe_mul_top_of_neg k3, EReal.add_bot, EReal.bot_mul_bot, EReal.top_mul_bot,
      EReal.coe_mul_bot_of_pos (by norm_num), EReal.add_bot, EReal.coe_mul_bot_of_pos (by norm_num)]
    show Ideal.div ⊥ (1 + ⊤) = ⊥ * (_ * (1 + (-1)))
    have : (1 : EReal) + -1 = 0 := by
      rw [← EReal.coe_one, ← EReal.coe_neg, ← EReal.coe_add]; simp
    rw [this]
    have h1 : (1 : EReal) + ⊤ = ⊤ := EReal.coe_add_top 1
    rw [h1]
    simp [Ideal.div]
  | top =>
    have k3 : (-(2 * ((6693141 / 8388608) * (Real.log 2)⁻¹))) * (12003091 / 268435456) < 0 := by nlinarith
    rw [EReal.top_mul_top, EReal.coe_mul_top_of_neg k3, EReal.add_bot, EReal.top_mul_bot, EReal.top_mul_top,
      EReal.coe_mul_top_of_pos (by norm_num), EReal.top_add_top, EReal.coe_mul_top_of_pos (by norm_num)]
    show Ideal.div ⊤ (1 + 0) = ⊤ * (_ * (1 + 1))
    have : ((1 / 2 : ℝ) : EReal) * (1 + 1) = 1 := by
      rw [← EReal.coe_one, ← EReal.coe_add, ← EReal.coe_mul]; norm_num
    rw [this]
    simp [Ideal.div]
  | coe r =>
    have hp : ∀ q : ℝ, 0 < 1 + Real.rpow 2 q := fun q => add_pos one_pos (Real.rpow_pos_of_pos (by norm_num) q)
    simp only [← EReal.coe_mul, ← EReal.coe_add]
    show Ideal.div (r : EReal) (1 + ((Real.rpow 2 _ : ℝ) : EReal)) = (r : EReal) * (_ * (1 + ((Real.tanh _ : ℝ) : EReal)))
    rw [← EReal.coe_one, ← EReal.coe_add, ← EReal.coe_add, ← EReal.coe_mul, ← EReal.coe_mul]
    rw [Ideal.div, if_neg (by exact_mod_cast (hp _).ne'), ← EReal.coe_inv, ← EReal.coe_mul, ← div_eq_mul_inv, gelu_real]

end Cert.Ffn

end
-- ==== Proof.FfnPieces.lean ====
module

public import proofs.«01_k».proof.Proof.Gen.Kernel2Ideal.Skeleton
public import proofs.«01_k».proof.Proof.FfnSpec
public import Idealize.ShloMosaic.Lib.Pipeline.ValueKit
public import Idealize.ShloMosaic.Lib.Pipeline.ReadBack

@[expose] public section

set_option maxRecDepth 16384

noncomputable section

/-! One grid point of the feed-forward call: the pieces it stores, column block by column block, and what they hold. -/

namespace Cert.Kernel2Ideal.Ffn

open Cert.Kernel2Ideal Cert.Kernel2Ideal.Gen Idealize.ShloMosaic Idealize.ShloMosaic.TcCoe Idealize.SL.Sem

/-- The gated GELU of a grid point's rows. -/
def acts (A : Cert.Ffn.Args) (t : ℕ) (ht : t < 32) : Vec Ideal S512x2816 .bf16 :=
  fun i => Cert.Ffn.act A ⟨512 * t + (i 0).val, by have := (i 0).isLt; change _ < 512 at this; omega⟩ (i 1)

/-- A list of pieces that are all blocks of one array, read where the pieces cover, is that array. -/
theorem readCov_apply {sig : RefSig} {κ : Kind} {sp : Space} {s : Shape} {e : EltTy} {Val : EltTy → Type} [∀ e, Nonempty (Val e)]
    (v : View sig κ sp s e) (G : s.Idx → Val e) (L : List (View.Piece Val s e)) (B : LoadRect s)
    (h : ∀ p ∈ L, ∀ x : p.1.shape.Idx, p.2 x = G (p.1.emb x)) (j : B.shape.Idx) (hc : ∃ p ∈ L, B.idx j ∈ p.1.set) :
    v.readCov L B j = G (B.idx j) := by
  rw [View.readCov_eq_canon']
  exact View.canon_apply_of_pieces G L h _ hc

variable (x0 : Vec Ideal S512x1024 .f32) (x1 : Vec Ideal S1x1024 .f32) (x2 : Vec Ideal S1024x5632 .bf16) (x3 : Vec Ideal S3x2816 .f32)
  (x4 : Vec Ideal S1x2816 .f32) (hd : Vec Ideal S8x2816 .f32)

theorem inbW {o : ℕ} (h : o + 256 ≤ 5632) : ∀ a, (![0, o] : Fin 2 → ℕ) a + (![1024, 256] : Fin 2 → ℕ) a ≤ S1024x5632.size a := by
  intro a; fin_cases a <;> (simp; try omega)
theorem inbU {r k : ℕ} (hr : r ≤ 8) (h : k + 1 ≤ 11) : ∀ a, (![r, 256 * k] : Fin 2 → ℕ) a + (![512, 256] : Fin 2 → ℕ) a ≤ S520x2816.size a := by
  intro a; fin_cases a <;> (simp; try omega)
theorem inbY {k : ℕ} (h : k + 1 ≤ 11) : ∀ a, (![0, 256 * k] : Fin 2 → ℕ) a + (![512, 256] : Fin 2 → ℕ) a ≤ S512x2816.size a := by
  intro a; fin_cases a <;> (simp; try omega)
theorem inbT {r k : ℕ} (hr : r ≤ 2) (h : k + 1 ≤ 11) : ∀ a, (![r, 256 * k] : Fin 2 → ℕ) a + (![1, 256] : Fin 2 → ℕ) a ≤ S3x2816.size a := by
  intro a; fin_cases a <;> (simp; try omega)
theorem inbB {k : ℕ} (h : k + 1 ≤ 11) : ∀ a, (![0, 256 * k] : Fin 2 → ℕ) a + (![1, 256] : Fin 2 → ℕ) a ≤ S1x2816.size a := by
  intro a; fin_cases a <;> (simp; try omega)

/-- The normalised rows times 256 columns of the input weights, from column `o`. -/
def prod (o : ℕ) (h : o + 256 ≤ 5632) : FVec Ideal S512x256 .f32 :=
  k0_pay57 (k0_pay5 x0 x1) (View.ld x2 (Rect.unit ![0, o] ![1024, 256] (inbW h)))

/-- The same product as the gate takes it, before it is stored. -/
def raw (o : ℕ) (h : o + 256 ≤ 5632) : FVec Ideal S512x256 .f32 :=
  k0_pay55 (k0_pay5 x0 x1) (View.ld x2 (Rect.unit ![0, o] ![1024, 256] (inbW h)))

/-- The pieces of the convolved half stored before block `k`, the newest first. -/
def upTo : (k : ℕ) → k ≤ 11 → List (View.Piece (Elt Ideal) S520x2816 .f32)
  | 0, _ => [⟨Rect.unit ![0, 0] ![8, 2816] inb_S520x2816_S8x2816_0_0, hd⟩]
  | k + 1, h => ⟨Rect.unit ![8, 256 * k] ![512, 256] (inbU (le_refl 8) h), prod x0 x1 x2 (256 * k) (by omega)⟩ :: upTo k (Nat.le_of_succ_le h)

/-- What block `k` reads of them, from row `r`. -/
def upRead (r k : ℕ) (hr : r ≤ 8) (h : k + 1 ≤ 11) : Vec Ideal S512x256 .f32 :=
  (View.whole cc0_scratch0).readCov (upTo x0 x1 x2 hd (k + 1) h) (Rect.unit (s := S520x2816) ![r, 256 * k] ![512, 256] (inbU hr h)).toLoadRect

/-- The pieces of the gated GELU stored before block `k`, the newest first. -/
def actTo : (k : ℕ) → k ≤ 11 → List (View.Piece (Elt Ideal) S512x2816 .bf16)
  | 0, _ => []
  | k + 1, h => ⟨Rect.unit ![0, 256 * k] ![512, 256] (inbY h),
      k0_pay9 (raw x0 x1 x2 (256 * k) (by omega)) (raw x0 x1 x2 (2816 + 256 * k) (by omega))
        (upRead x0 x1 x2 hd 7 k (by omega) h) (upRead x0 x1 x2 hd 6 k (by omega) h)
        (View.ld x4 (Rect.unit ![0, 256 * k] ![1, 256] (inbB h))) (View.ld x3 (Rect.unit ![2, 256 * k] ![1, 256] (inbT (by omega) h)))
        (View.ld x3 (Rect.unit ![1, 256 * k] ![1, 256] (inbT (by omega) h))) (View.ld x3 (Rect.unit ![0, 256 * k] ![1, 256] (inbT (by omega) h)))⟩
      :: actTo k (Nat.le_of_succ_le h)

/-- What the output product reads of them, -/
def actRead : Vec Ideal S512x2816 .bf16 :=
  (View.whole cc0_scratch1).readCov (actTo x0 x1 x2 x3 x4 hd 11 (le_refl 11)) (Rect.unit (s := S512x2816) ![0, 0] ![512, 2816] inb_S512x2816_S512x2816_0_0).toLoadRect

/-- and the block of results. -/
def outBlock (x5 : Vec Ideal S2816x1024 .bf16) (x6 : Vec Ideal S1x1024 .f32) : FVec Ideal S512x1024 .f32 :=
  k0_pay1 (k0_pay4 x0) (k0_pay61 (actRead x0 x1 x2 x3 x4 hd) x5) (k0_pay62 x6) (k0_pay63 (actRead x0 x1 x2 x3 x4 hd) x5) k0_pay64

/-! ### At an index -/

variable (A : Cert.Ffn.Args) (t : ℕ) (ht : t < 32)

/-- The rows of the arguments a grid point works on. -/
structure Holds : Prop where
  x0 : ∀ (a : Fin 512) (k : Fin 1024), x0 (ix2 a k) = A.x ⟨512 * t + a.val, by omega⟩ k
  x1 : ∀ k : Fin 1024, x1 (ix2 0 k) = A.pre k
  x2 : ∀ (k : Fin 1024) (j : Fin 5632), x2 (ix2 k j) = A.w k j
  x3 : ∀ (a : Fin 3) (j : Fin 2816), x3 (ix2 a j) = A.taps a j
  x4 : ∀ j : Fin 2816, x4 (ix2 0 j) = A.bias j
  hd : ∀ (a : Fin 8) (j : Fin 2816), hd (ix2 a j) = Cert.Ffn.padded A (512 * t + a.val) j

variable {x0 x1 x2 x3 x4 hd A t ht}
variable (H : Holds x0 x1 x2 x3 x4 hd A t ht)
include H

theorem prod_apply (o : ℕ) (h : o + 256 ≤ 5632) (a : Fin 512) (b : Fin 256) :
    prod x0 x1 x2 o h (ix2 a b) = Cert.Ffn.up A ⟨512 * t + a.val, by omega⟩ ⟨o + b.val, by omega⟩ := by
  unfold prod
  pointwise [k0_pay57, k0_pay55, k0_pay5, k0_pay4]
  unfold Cert.Ffn.up Cert.Ffn.rms
  refine Finset.sum_congr rfl fun k _ => ?_
  simp only [H.x0, H.x1]
  refine congrArg _ ?_
  exact H.x2 _ _

theorem raw_apply (o : ℕ) (h : o + 256 ≤ 5632) (a : Fin 512) (b : Fin 256) :
    raw x0 x1 x2 o h (ix2 a b) = Cert.Ffn.up A ⟨512 * t + a.val, by omega⟩ ⟨o + b.val, by omega⟩ := by
  unfold raw
  pointwise [k0_pay55, k0_pay5, k0_pay4]
  unfold Cert.Ffn.up Cert.Ffn.rms
  refine Finset.sum_congr rfl fun k _ => ?_
  simp only [H.x0, H.x1]
  refine congrArg _ ?_
  exact H.x2 _ _

/-- The carried rows of the convolved half at a grid point. -/
def carried (A : Cert.Ffn.Args) (t : ℕ) : Vec Ideal S520x2816 .f32 := fun i => Cert.Ffn.padded A (512 * t + (i 0).val) (i 1)

theorem upTo_pieces : ∀ (k : ℕ) (h : k ≤ 11), ∀ p ∈ upTo x0 x1 x2 hd k h, ∀ x : p.1.shape.Idx, p.2 x = carried A t (p.1.emb x)
  | 0, h => by
    intro p hp
    rw [upTo, List.mem_singleton] at hp
    subst hp
    intro y
    change Shape.Idx ⟨2, ![8, 2816]⟩ at y
    idx_vars y
    refine (H.hd y0 y1).trans ?_
    show Cert.Ffn.padded A _ _ = Cert.Ffn.padded A (512 * t + (0 + 1 * y0.val)) ⟨0 + 1 * y1.val, _⟩
    congr 1
    · omega
    · apply Fin.ext; dsimp only; omega
  | k + 1, h => by
    intro p hp
    rw [upTo, List.mem_cons] at hp
    rcases hp with rfl | hp
    · intro y
      change Shape.Idx ⟨2, ![512, 256]⟩ at y
      idx_vars y
      refine (prod_apply H _ _ _ _).trans ?_
      show _ = Cert.Ffn.padded A (512 * t + (8 + 1 * y0.val)) ⟨256 * k + 1 * y1.val, _⟩
      unfold Cert.Ffn.padded
      rw [dif_pos (by omega)]
      congr 1 <;> apply Fin.ext <;> dsimp only <;> omega
    · exact upTo_pieces k _ p hp

omit H in
theorem upTo_head : ∀ (k : ℕ) (h : k ≤ 11),
    (⟨Rect.unit ![0, 0] ![8, 2816] inb_S520x2816_S8x2816_0_0, hd⟩ : View.Piece (Elt Ideal) S520x2816 .f32) ∈ upTo x0 x1 x2 hd k h
  | 0, _ => List.mem_singleton.mpr rfl
  | k + 1, _ => List.mem_cons_of_mem _ (upTo_head k _)

omit H in
theorem upTo_cover : ∀ (k : ℕ) (h : k ≤ 11) (y : S520x2816.Idx), (y 1).val < 256 * k → ∃ p ∈ upTo x0 x1 x2 hd k h, y ∈ p.1.set
  | 0, h, y, hy => by omega
  | k + 1, h, y, hy => by
    by_cases hk : (y 1).val < 256 * k
    · obtain ⟨p, hp, hm⟩ := upTo_cover k (Nat.le_of_succ_le h) y hk
      exact ⟨p, List.mem_cons_of_mem _ hp, hm⟩
    · have h0 : (y 0).val < 520 := (y 0).isLt
      have h1 : (y 1).val < 2816 := (y 1).isLt
      by_cases h8 : (y 0).val < 8
      · refine ⟨_, upTo_head (k + 1) h, (Rect.mem_set_unit (inb := inb_S520x2816_S8x2816_0_0)).mpr fun c => ?_⟩
        fin_cases c
        · show 0 ≤ (y 0).val ∧ (y 0).val < 0 + 8; omega
        · show 0 ≤ (y 1).val ∧ (y 1).val < 0 + 2816; omega
      · refine ⟨_, List.mem_cons_self, (Rect.mem_set_unit (inb := inbU (le_refl 8) h)).mpr fun c => ?_⟩
        fin_cases c
        · show 8 ≤ (y 0).val ∧ (y 0).val < 8 + 512; omega
        · show 256 * k ≤ (y 1).val ∧ (y 1).val < 256 * k + 256; omega

/-- What block `k` reads, at an index: the convolved half, `r` rows down. -/
theorem upRead_apply (r k : ℕ) (hr : r ≤ 8) (h : k + 1 ≤ 11) (a : Fin 512) (b : Fin 256) :
    upRead x0 x1 x2 hd r k hr h (ix2 a b) = Cert.Ffn.padded A (512 * t + a.val + r) ⟨256 * k + b.val, by omega⟩ := by
  unfold upRead
  refine (readCov_apply _ (carried A t) _ _ (upTo_pieces H (k + 1) h) _ ?_).trans ?_
  · by_cases h8 : r + a.val < 8
    · refine ⟨⟨Rect.unit ![0, 0] ![8, 2816] inb_S520x2816_S8x2816_0_0, hd⟩, ?_, ?_⟩
      · exact upTo_head _ _
      · refine (Rect.mem_set_unit (inb := inb_S520x2816_S8x2816_0_0)).mpr fun c => ?_
        fin_cases c
        · show 0 ≤ r + 1 * a.val ∧ r + 1 * a.val < 0 + 8; omega
        · show 0 ≤ 256 * k + 1 * b.val ∧ 256 * k + 1 * b.val < 0 + 2816; omega
    · refine ⟨_, List.mem_cons_self, ?_⟩
      refine (Rect.mem_set_unit (inb := inbU (le_refl 8) h)).mpr fun c => ?_
      fin_cases c
      · show 8 ≤ r + 1 * a.val ∧ r + 1 * a.val < 8 + 512; omega
      · show 256 * k ≤ 256 * k + 1 * b.val ∧ 256 * k + 1 * b.val < 256 * k + 256; omega
  · show Cert.Ffn.padded A (512 * t + (r + 1 * a.val)) ⟨256 * k + 1 * b.val, _⟩ = _
    congr 1
    · omega
    · apply Fin.ext; dsimp only; omega

/-- A block of the gated GELU, at an index. -/
theorem actBlock_apply (k : ℕ) (h : k + 1 ≤ 11) (a : Fin 512) (b : Fin 256) :
    k0_pay9 (raw x0 x1 x2 (256 * k) (by omega)) (raw x0 x1 x2 (2816 + 256 * k) (by omega))
        (upRead x0 x1 x2 hd 7 k (by omega) h) (upRead x0 x1 x2 hd 6 k (by omega) h)
        (View.ld x4 (Rect.unit ![0, 256 * k] ![1, 256] (inbB h))) (View.ld x3 (Rect.unit ![2, 256 * k] ![1, 256] (inbT (by omega) h)))
        (View.ld x3 (Rect.unit ![1, 256 * k] ![1, 256] (inbT (by omega) h))) (View.ld x3 (Rect.unit ![0, 256 * k] ![1, 256] (inbT (by omega) h)))
        (ix2 a b)
      = Cert.Ffn.act A ⟨512 * t + a.val, by omega⟩ ⟨256 * k + b.val, by omega⟩ := by
  pointwise [k0_pay9]
  simp only [raw_apply H, upRead_apply H, H.x3, H.x4]
  unfold Cert.Ffn.act
  refine congrArg₂ (· * ·) ?_ (congrArg _ (Fin.ext (by dsimp only; omega)))
  refine (Cert.Ffn.gelu_exp2 _).trans (congrArg Cert.Ffn.gelu ?_)
  unfold Cert.Ffn.conv
  have h8 : Cert.Ffn.padded A (512 * t + a.val + 8) ⟨256 * k + b.val, by omega⟩
      = Cert.Ffn.up A ⟨512 * t + a.val, by omega⟩ ⟨256 * k + b.val, by omega⟩ := by
    unfold Cert.Ffn.padded
    rw [dif_pos (by omega)]
    congr 1
  show _ = _ + _ * Cert.Ffn.padded A (512 * t + a.val + 6) _ + _ * Cert.Ffn.padded A (512 * t + a.val + 7) _
    + _ * Cert.Ffn.padded A (512 * t + a.val + 8) _
  rw [h8]
  generalize Cert.Ffn.padded A (512 * t + a.val + 7) ⟨256 * k + b.val, by omega⟩ = p7
  generalize Cert.Ffn.padded A (512 * t + a.val + 6) ⟨256 * k + b.val, by omega⟩ = p6
  ac_rfl

theorem actTo_pieces : ∀ (k : ℕ) (h : k ≤ 11), ∀ p ∈ actTo x0 x1 x2 x3 x4 hd k h, ∀ y : p.1.shape.Idx,
    p.2 y = acts A t ht (p.1.emb y)
  | 0, h => fun p hp => absurd hp List.not_mem_nil
  | k + 1, h => by
    intro p hp
    rw [actTo, List.mem_cons] at hp
    rcases hp with rfl | hp
    · intro y
      change Shape.Idx ⟨2, ![512, 256]⟩ at y
      idx_vars y
      refine (actBlock_apply H k h y0 y1).trans ?_
      show _ = Cert.Ffn.act A ⟨512 * t + (0 + 1 * y0.val), _⟩ ⟨256 * k + 1 * y1.val, _⟩
      congr 1 <;> apply Fin.ext <;> dsimp only <;> omega
    · exact actTo_pieces k _ p hp

omit H in
theorem actTo_cover : ∀ (k : ℕ) (h : k ≤ 11) (y : S512x2816.Idx), (y 1).val < 256 * k → ∃ p ∈ actTo x0 x1 x2 x3 x4 hd k h, y ∈ p.1.set
  | 0, h, y, hy => by omega
  | k + 1, h, y, hy => by
    by_cases hk : (y 1).val < 256 * k
    · obtain ⟨p, hp, hm⟩ := actTo_cover k (Nat.le_of_succ_le h) y hk
      exact ⟨p, List.mem_cons_of_mem _ hp, hm⟩
    · refine ⟨_, List.mem_cons_self, (Rect.mem_set_unit (inb := inbY h)).mpr fun c => ?_⟩
      have h0 : (y 0).val < 512 := (y 0).isLt
      fin_cases c
      · show 0 ≤ (y 0).val ∧ (y 0).val < 0 + 512; omega
      · show 256 * k ≤ (y 1).val ∧ (y 1).val < 256 * k + 256; omega

theorem actRead_apply (a : Fin 512) (j : Fin 2816) :
    actRead x0 x1 x2 x3 x4 hd (ix2 a j) = Cert.Ffn.act A ⟨512 * t + a.val, by omega⟩ j := by
  unfold actRead
  refine (readCov_apply _ (acts A t ht) _ _ (actTo_pieces H 11 (le_refl 11)) _ (actTo_cover 11 (le_refl 11) _ ?_)).trans ?_
  · show 0 + 1 * j.val < 256 * 11; omega
  · show Cert.Ffn.act A ⟨512 * t + (0 + 1 * a.val), _⟩ ⟨0 + 1 * j.val, _⟩ = _
    congr 1 <;> apply Fin.ext <;> dsimp only <;> omega

/-- The block of results, at an index. -/
theorem outBlock_apply (x5 : Vec Ideal S2816x1024 .bf16) (x6 : Vec Ideal S1x1024 .f32)
    (h5 : ∀ (j : Fin 2816) (n : Fin 1024), x5 (ix2 j n) = A.wo j n) (h6 : ∀ n : Fin 1024, x6 (ix2 0 n) = A.post n)
    (a : Fin 512) (n : Fin 1024) :
    outBlock x0 x1 x2 x3 x4 hd x5 x6 (ix2 a n) = Cert.Ffn.result A ⟨512 * t + a.val, by omega⟩ n := by
  unfold outBlock
  pointwise [k0_pay1, k0_pay4, k0_pay61, k0_pay63, k0_pay64, k0_pay62]
  simp only [actRead_apply H, h5, h6, H.x0]
  rfl

end Cert.Kernel2Ideal.Ffn

end
-- ==== Proof.FfnBlocks.lean ====
module

public import proofs.«01_k».proof.Proof.Gen.Kernel2Ideal.Value
public import proofs.«01_k».proof.Proof.FfnPieces
public import Idealize.ShloMosaic.Lib.Pointwise

@[expose] public section

set_option maxRecDepth 16384

noncomputable section

/-! What the input windows of the feed-forward call hold: blocks of its prepared arguments. -/

namespace Cert.Kernel2Ideal.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The arguments of the call. -/
def args (c : Dev nD) : Cert.Ffn.Args :=
  Cert.Ffn.Args.of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem V_x (c : Dev nD) (a : Fin 16384) (b : Fin 1024) :
    (V m c main_v11 : S16384x1024.Idx → Elt Ideal .f32) (ix2 a b) = (args m c).x a b := by
  entry_read
  pointwise
  rfl

theorem off0 : ∀ (t : Fin cfg0.N) (a : Fin 2), win0_0.index t a = (![t.val, 0] : Fin 2 → ℕ) a :=
  (by decide +kernel : ∀ (t : Fin grid0.N) (a : Fin 2), _)

theorem blk_x (c : Dev nD) (t : Fin cfg0.N) (a : Fin 512) (b : Fin 1024) :
    (iblk m c 0 t : S512x1024.Idx → Elt Ideal .f32) (ix2 a b) = (args m c).x ⟨512 * t.val + a.val, by have := t.isLt; have hN : cfg0.N = 32 := N_0; omega⟩ b := by
  rw [← V_x m]
  show (V m c main_v11 : S16384x1024.Idx → Elt Ideal .f32) ((win0_0.rect t).emb (ix2 a b)) = _
  congr 1
  funext x; apply Fin.ext
  rw [Pipeline.Window.rect_emb_val_off, off0]
  fin_cases x
  · show t.val * 512 + a.val = 512 * t.val + a.val; omega
  · exact Nat.zero_add _

theorem V_pre (c : Dev nD) (b : Fin 1024) :
    (V m c main_v1 : S1x1024.Idx → Elt Ideal .f32) (ix2 0 b) = (args m c).pre b := by
  entry_read
  pointwise
  rfl

theorem off1 : ∀ (t : Fin cfg0.N) (a : Fin 2), win0_1.index t a = (![0, 0] : Fin 2 → ℕ) a :=
  (by decide +kernel : ∀ (t : Fin grid0.N) (a : Fin 2), _)

theorem blk_pre (c : Dev nD) (t : Fin cfg0.N) (b : Fin 1024) :
    (iblk m c 1 t : S1x1024.Idx → Elt Ideal .f32) (ix2 0 b) = (args m c).pre b := by
  rw [← V_pre m]
  show (V m c main_v1 : S1x1024.Idx → Elt Ideal .f32) ((win0_1.rect t).emb (ix2 0 b)) = _
  congr 1
  funext x; apply Fin.ext
  rw [Pipeline.Window.rect_emb_val_off, off1]
  fin_cases x
  · exact Nat.zero_add _
  · exact Nat.zero_add _

theorem V_w (c : Dev nD) (a : Fin 1024) (b : Fin 5632) :
    (V m c main_v5 : S1024x5632.Idx → Elt Ideal .bf16) (ix2 a b) = (args m c).w a b := by
  entry_read
  pointwise
  rfl

theorem off2 : ∀ (t : Fin cfg0.N) (a : Fin 2), win0_2.index t a = (![0, 0] : Fin 2 → ℕ) a :=
  (by decide +kernel : ∀ (t : Fin grid0.N) (a : Fin 2), _)

theorem blk_w (c : Dev nD) (t : Fin cfg0.N) (a : Fin 1024) (b : Fin 5632) :
    (iblk m c 2 t : S1024x5632.Idx → Elt Ideal .bf16) (ix2 a b) = (args m c).w a b := by
  rw [← V_w m]
  show (V m c main_v5 : S1024x5632.Idx → Elt Ideal .bf16) ((win0_2.rect t).emb (ix2 a b)) = _
  congr 1
  funext x; apply Fin.ext
  rw [Pipeline.Window.rect_emb_val_off, off2]
  fin_cases x
  · exact Nat.zero_add _
  · exact Nat.zero_add _

theorem V_taps (c : Dev nD) (a : Fin 3) (b : Fin 2816) :
    (V m c main_v6 : S3x2816.Idx → Elt Ideal .f32) (ix2 a b) = (args m c).taps a b := by
  entry_read
  pointwise
  rfl

theorem off3 : ∀ (t : Fin cfg0.N) (a : Fin 2), win0_3.index t a = (![0, 0] : Fin 2 → ℕ) a :=
  (by decide +kernel : ∀ (t : Fin grid0.N) (a : Fin 2), _)

theorem blk_taps (c : Dev nD) (t : Fin cfg0.N) (a : Fin 3) (b : Fin 2816) :
    (iblk m c 3 t : S3x2816.Idx → Elt Ideal .f32) (ix2 a b) = (args m c).taps a b := by
  rw [← V_taps m]
  show (V m c main_v6 : S3x2816.Idx → Elt Ideal .f32) ((win0_3.rect t).emb (ix2 a b)) = _
  congr 1
  funext x; apply Fin.ext
  rw [Pipeline.Window.rect_emb_val_off, off3]
  fin_cases x
  · exact Nat.zero_add _
  · exact Nat.zero_add _

theorem V_bias (c : Dev nD) (b : Fin 2816) :
    (V m c main_v8 : S1x2816.Idx → Elt Ideal .f32) (ix2 0 b) = (args m c).bias b := by
  entry_read
  pointwise
  rfl

theorem off4 : ∀ (t : Fin cfg0.N) (a : Fin 2), win0_4.index t a = (![0, 0] : Fin 2 → ℕ) a :=
  (by decide +kernel : ∀ (t : Fin grid0.N) (a : Fin 2), _)

theorem blk_bias (c : Dev nD) (t : Fin cfg0.N) (b : Fin 2816) :
    (iblk m c 4 t : S1x2816.Idx → Elt Ideal .f32) (ix2 0 b) = (args m c).bias b := by
  rw [← V_bias m]
  show (V m c main_v8 : S1x2816.Idx → Elt Ideal .f32) ((win0_4.rect t).emb (ix2 0 b)) = _
  congr 1
  funext x; apply Fin.ext
  rw [Pipeline.Window.rect_emb_val_off, off4]
  fin_cases x
  · exact Nat.zero_add _
  · exact Nat.zero_add _

theorem V_wo (c : Dev nD) (a : Fin 2816) (b : Fin 1024) :
    (V m c main_v10 : S2816x1024.Idx → Elt Ideal .bf16) (ix2 a b) = (args m c).wo a b := by
  entry_read
  pointwise
  rfl

theorem off5 : ∀ (t : Fin cfg0.N) (a : Fin 2), win0_5.index t a = (![0, 0] : Fin 2 → ℕ) a :=
  (by decide +kernel : ∀ (t : Fin grid0.N) (a : Fin 2), _)

theorem blk_wo (c : Dev nD) (t : Fin cfg0.N) (a : Fin 2816) (b : Fin 1024) :
    (iblk m c 5 t : S2816x1024.Idx → Elt Ideal .bf16) (ix2 a b) = (args m c).wo a b := by
  rw [← V_wo m]
  show (V m c main_v10 : S2816x1024.Idx → Elt Ideal .bf16) ((win0_5.rect t).emb (ix2 a b)) = _
  congr 1
  funext x; apply Fin.ext
  rw [Pipeline.Window.rect_emb_val_off, off5]
  fin_cases x
  · exact Nat.zero_add _
  · exact Nat.zero_add _

theorem V_post (c : Dev nD) (b : Fin 1024) :
    (V m c main_v3 : S1x1024.Idx → Elt Ideal .f32) (ix2 0 b) = (args m c).post b := by
  entry_read
  pointwise
  rfl

theorem off6 : ∀ (t : Fin cfg0.N) (a : Fin 2), win0_6.index t a = (![0, 0] : Fin 2 → ℕ) a :=
  (by decide +kernel : ∀ (t : Fin grid0.N) (a : Fin 2), _)

theorem blk_post (c : Dev nD) (t : Fin cfg0.N) (b : Fin 1024) :
    (iblk m c 6 t : S1x1024.Idx → Elt Ideal .f32) (ix2 0 b) = (args m c).post b := by
  rw [← V_post m]
  show (V m c main_v3 : S1x1024.Idx → Elt Ideal .f32) ((win0_6.rect t).emb (ix2 0 b)) = _
  congr 1
  funext x; apply Fin.ext
  rw [Pipeline.Window.rect_emb_val_off, off6]
  fin_cases x
  · exact Nat.zero_add _
  · exact Nat.zero_add _

end Cert.Kernel2Ideal.Ffn

end
-- ==== Proof.FfnSame.lean ====
module

public import proofs.«01_k».proof.Proof.FfnPieces

@[expose] public section

set_option maxRecDepth 16384

noncomputable section

/-! Every column block of the feed-forward call computes the same product and the same gated GELU. -/

namespace Cert.Kernel2Ideal.Ffn

open Cert.Kernel2Ideal Cert.Kernel2Ideal.Gen Idealize.ShloMosaic Idealize.ShloMosaic.TcCoe

variable (x0 : Vec Ideal S512x1024 .f32) (x1 : Vec Ideal S1x1024 .f32) (h : FVec Ideal S512x1024 .bf16) (w z : Vec Ideal S1024x256 .bf16)
  (u7 u6 : Vec Ideal S512x256 .f32) (b c d e : Vec Ideal S1x256 .f32)

theorem up_1 : k0_pay12 (k0_pay10 h w) = k0_pay57 h w := rfl
theorem up_2 : k0_pay16 h w = k0_pay57 h w := rfl
theorem up_3 : k0_pay23 h w = k0_pay57 h w := rfl
theorem up_4 : k0_pay28 h w = k0_pay57 h w := rfl
theorem up_5 : k0_pay33 h w = k0_pay57 h w := rfl
theorem up_6 : k0_pay38 h w = k0_pay57 h w := rfl
theorem up_7 : k0_pay41 (k0_pay40 h w) = k0_pay57 h w := rfl
theorem up_8 : k0_pay46 h w = k0_pay57 h w := rfl
theorem up_9 : k0_pay52 h w = k0_pay57 h w := rfl
theorem up_0 : k0_pay8 x0 x1 w = k0_pay57 (k0_pay5 x0 x1) w := rfl

theorem act_1 : k0_pay13 (k0_pay10 h w) (k0_pay11 h z) u7 u6 b c d e
    = k0_pay9 (k0_pay55 h w) (k0_pay55 h z) u7 u6 b c d e := by
  simp only [k0_pay13, k0_pay10, k0_pay11, k0_pay9, k0_pay57, k0_pay55]
theorem act_2 : k0_pay20 (k0_pay15 h z) (k0_pay17 h w u7 u6 b c d e) (k0_pay18 h w u7 u6 b c d e) k0_pay19
    = k0_pay9 (k0_pay55 h w) (k0_pay55 h z) u7 u6 b c d e := by
  simp only [k0_pay20, k0_pay15, k0_pay17, k0_pay18, k0_pay19, k0_pay9, k0_pay57, k0_pay55, k0_pay14]
theorem act_3 : k0_pay25 (k0_pay22 h z) (k0_pay24 h w u7 u6 b c d e)
    = k0_pay9 (k0_pay55 h w) (k0_pay55 h z) u7 u6 b c d e := by
  simp only [k0_pay25, k0_pay22, k0_pay24, k0_pay9, k0_pay57, k0_pay55, k0_pay21]
theorem act_4 : k0_pay30 (k0_pay27 h z) u7 u6 (k0_pay29 h w b c) d e
    = k0_pay9 (k0_pay55 h w) (k0_pay55 h z) u7 u6 b c d e := by
  simp only [k0_pay30, k0_pay27, k0_pay29, k0_pay9, k0_pay57, k0_pay55, k0_pay26]
theorem act_5 : k0_pay35 (k0_pay31 h w) (k0_pay32 h z) u7 u6 (k0_pay34 b) c d e
    = k0_pay9 (k0_pay55 h w) (k0_pay55 h z) u7 u6 b c d e := by
  simp only [k0_pay35, k0_pay31, k0_pay32, k0_pay34, k0_pay9, k0_pay57, k0_pay55]
theorem act_6 : k0_pay39 (k0_pay36 h w) (k0_pay37 h z) u7 u6 b c d e
    = k0_pay9 (k0_pay55 h w) (k0_pay55 h z) u7 u6 b c d e := by
  simp only [k0_pay39, k0_pay36, k0_pay37, k0_pay9, k0_pay57, k0_pay55]
theorem act_7 : k0_pay43 (k0_pay42 h (k0_pay40 h w) z u7 u6 b c d e)
    = k0_pay9 (k0_pay55 h w) (k0_pay55 h z) u7 u6 b c d e := by
  simp only [k0_pay43, k0_pay42, k0_pay40, k0_pay9, k0_pay57, k0_pay55]
theorem act_8 : k0_pay49 (k0_pay45 h z) (k0_pay47 h w u7 u6 b c d e) (k0_pay48 h w u7 u6 b c d e) (Named.named κ "gelu_k" 3222493025#32)
    = k0_pay9 (k0_pay55 h w) (k0_pay55 h z) u7 u6 b c d e := by
  simp only [k0_pay49, k0_pay45, k0_pay47, k0_pay48, k0_pay9, k0_pay57, k0_pay55, k0_pay44]
theorem act_9 : k0_pay54 (k0_pay51 h z) u6 (k0_pay53 h w u7 b c d) e
    = k0_pay9 (k0_pay55 h w) (k0_pay55 h z) u7 u6 b c d e := by
  simp only [k0_pay54, k0_pay51, k0_pay53, k0_pay9, k0_pay57, k0_pay55, k0_pay50]
theorem act_10 : k0_pay60 (k0_pay55 h w) (k0_pay56 h z) u7 u6 (k0_pay58 b) (k0_pay59 c) d e
    = k0_pay9 (k0_pay55 h w) (k0_pay55 h z) u7 u6 b c d e := by
  simp only [k0_pay60, k0_pay55, k0_pay56, k0_pay58, k0_pay59, k0_pay9, k0_pay55]
theorem act_0 : k0_pay9 (k0_pay6 x0 x1 w) (k0_pay7 x0 x1 z) u7 u6 b c d e
    = k0_pay9 (k0_pay55 (k0_pay5 x0 x1) w) (k0_pay55 (k0_pay5 x0 x1) z) u7 u6 b c d e := by
  simp only [k0_pay9, k0_pay6, k0_pay7, k0_pay57, k0_pay5, k0_pay55, k0_pay4]

end Cert.Kernel2Ideal.Ffn

end
-- ==== Proof.FfnValue.lean ====
module

public import proofs.«01_k».proof.Proof.FfnBlocks
public import proofs.«01_k».proof.Proof.FfnSame

@[expose] public section

set_option maxRecDepth 65536

noncomputable section

/-! What each grid point of the feed-forward call leaves in its outputs and in the rows it carries. -/

namespace Cert.Kernel2Ideal.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem lt32 (t : Fin cfg0.N) : t.val < 32 := lt_of_lt_of_eq t.isLt N_0

/-- The last eight rows carried, which the next point starts from. -/
def headOf (p : Vec Ideal S520x2816 .f32) : Vec Ideal S8x2816 .f32 :=
  k0_pay3 (View.ld p (Rect.unit ![512, 0] ![8, 2816] inb_S520x2816_S8x2816_512_0))

section
variable (c : Dev nD) (t : Fin cfg0.N)

/-- What a point carries on, given the rows it starts from. -/
abbrev scr (hd : Vec Ideal S8x2816 .f32) : Vec Ideal S520x2816 .f32 :=
  View.canon (upTo (iblk m c 0 t) (iblk m c 1 t) (iblk m c 2 t) hd 11 (le_refl 11))

/-- The block of results a point leaves, given the rows it starts from. -/
abbrev res (hd : Vec Ideal S8x2816 .f32) : Vec Ideal S512x1024 .f32 :=
  outBlock (iblk m c 0 t) (iblk m c 1 t) (iblk m c 2 t) (iblk m c 3 t) (iblk m c 4 t) hd (iblk m c 5 t) (iblk m c 6 t)

theorem scr_B (h0 : ¬t.val % 32 = 0) (h1 : 1 ≤ t.val) (h2 : ¬t.val % 32 = 31) :
    (outsAt0 m c t.val t.isLt).2.2 = scr m c t (headOf (outsAt0 m c (t.val - 1) (Nat.lt_of_le_of_lt (Nat.sub_le _ _) t.isLt)).2.2) := by
  funext y
  rw [outsAt0_B m c t h0 h1 h2]
  frame_out
  simp only [read_unread_whole]
  rfl

theorem scr_C (h0 : ¬t.val % 32 = 0) (h1 : 1 ≤ t.val) (h2 : t.val % 32 = 31) :
    (outsAt0 m c t.val t.isLt).2.2 = scr m c t (headOf (outsAt0 m c (t.val - 1) (Nat.lt_of_le_of_lt (Nat.sub_le _ _) t.isLt)).2.2) := by
  funext y
  rw [outsAt0_C m c t h0 h1 h2]
  frame_out
  simp only [read_unread_whole]
  rfl

theorem scr_A (h0 : t.val % 32 = 0) (h1 : ¬1 ≤ t.val) (h2 : ¬t.val % 32 = 31) :
    (outsAt0 m c t.val t.isLt).2.2 = scr m c t (k0_pay2 (F := Ideal)) := by
  funext y
  rw [outsAt0_A m c t h0 h1 h2]
  frame_out
  rfl

theorem res_B (h0 : ¬t.val % 32 = 0) (h1 : 1 ≤ t.val) (h2 : ¬t.val % 32 = 31) :
    (outsAt0 m c t.val t.isLt).1 = res m c t (headOf (outsAt0 m c (t.val - 1) (Nat.lt_of_le_of_lt (Nat.sub_le _ _) t.isLt)).2.2) := by
  funext y
  rw [outsAt0_B m c t h0 h1 h2]
  frame_out
  simp only [read_unread_whole,
    up_0, up_1, up_2, up_3, up_4, up_5, up_6, up_7, up_8, up_9, act_0, act_1, act_2, act_3, act_4, act_5, act_6, act_7, act_8, act_9, act_10]
  rfl

theorem res_C (h0 : ¬t.val % 32 = 0) (h1 : 1 ≤ t.val) (h2 : t.val % 32 = 31) :
    (outsAt0 m c t.val t.isLt).1 = res m c t (headOf (outsAt0 m c (t.val - 1) (Nat.lt_of_le_of_lt (Nat.sub_le _ _) t.isLt)).2.2) := by
  funext y
  rw [outsAt0_C m c t h0 h1 h2]
  frame_out
  simp only [read_unread_whole,
    up_0, up_1, up_2, up_3, up_4, up_5, up_6, up_7, up_8, up_9, act_0, act_1, act_2, act_3, act_4, act_5, act_6, act_7, act_8, act_9, act_10]
  rfl

theorem res_A (h0 : t.val % 32 = 0) (h1 : ¬1 ≤ t.val) (h2 : ¬t.val % 32 = 31) :
    (outsAt0 m c t.val t.isLt).1 = res m c t (k0_pay2 (F := Ideal)) := by
  funext y
  rw [outsAt0_A m c t h0 h1 h2]
  frame_out
  simp only [up_0, up_1, up_2, up_3, up_4, up_5, up_6, up_7, up_8, up_9, act_0, act_1, act_2, act_3, act_4, act_5, act_6, act_7, act_8, act_9, act_10]
  rfl

theorem tail_C (h0 : ¬t.val % 32 = 0) (h1 : 1 ≤ t.val) (h2 : t.val % 32 = 31) (y : S2x2816.Idx) :
    (outsAt0 m c t.val t.isLt).2.1 y = scr m c t (headOf (outsAt0 m c (t.val - 1) (Nat.lt_of_le_of_lt (Nat.sub_le _ _) t.isLt)).2.2)
      (ix2 ⟨518 + (y 0).val, by have := (y 0).isLt; change _ < 2 at this; omega⟩ (y 1)) := by
  rw [outsAt0_C m c t h0 h1 h2]
  frame_out
  simp only [read_unread_whole]
  rw [View.readCov_eq_canon']
  refine congrArg (scr m c t _) ?_
  funext a; apply Fin.ext
  fin_cases a
  · show 518 + 1 * (y 0).val = 518 + (y 0).val; omega
  · show 0 + 1 * (y 1).val = (y 1).val; omega

end

/-- The rows before the first are zeros, -/
theorem head_zero (A : Cert.Ffn.Args) (t : ℕ) (ht : t = 0) (a : Fin 8) (j : Fin 2816) :
    (k0_pay2 (F := Ideal)) (ix2 a j) = Cert.Ffn.padded A (512 * t + a.val) j := by
  unfold Cert.Ffn.padded
  rw [dif_neg (by omega)]
  pointwise [k0_pay2]

/-- and a later point starts from the last rows of the point before. -/
theorem head_next (A : Cert.Ffn.Args) (t : ℕ) (ht : 1 ≤ t) (a : Fin 8) (j : Fin 2816) :
    headOf (carried A (t - 1)) (ix2 a j) = Cert.Ffn.padded A (512 * t + a.val) j := by
  unfold headOf
  pointwise [k0_pay3]
  show Cert.Ffn.padded A (512 * (t - 1) + (512 + a.val)) j = _
  congr 1
  omega

theorem holds (c : Dev nD) (t : Fin cfg0.N) (hd : Vec Ideal S8x2816 .f32)
    (h : ∀ (a : Fin 8) (j : Fin 2816), hd (ix2 a j) = Cert.Ffn.padded (args m c) (512 * t.val + a.val) j) :
    Holds (iblk m c 0 t) (iblk m c 1 t) (iblk m c 2 t) (iblk m c 3 t) (iblk m c 4 t) hd (args m c) t.val (lt32 t) :=
  ⟨blk_x m c t, blk_pre m c t, blk_w m c t, blk_taps m c t, blk_bias m c t, h⟩

theorem scr_carried (c : Dev nD) (t : Fin cfg0.N) (hd : Vec Ideal S8x2816 .f32)
    (h : ∀ (a : Fin 8) (j : Fin 2816), hd (ix2 a j) = Cert.Ffn.padded (args m c) (512 * t.val + a.val) j) :
    scr m c t hd = carried (args m c) t.val := by
  funext y
  refine View.canon_apply_of_pieces (carried (args m c) t.val) _ (upTo_pieces (holds m c t hd h) 11 _) y (upTo_cover 11 _ y ?_)
  have := (y 1).isLt
  change _ < 2816 at this
  omega

/-- THE INVARIANT: after point `n` the carried rows are those of the convolved half from row `512 n - 8` on. -/
theorem carried_eq (c : Dev nD) : ∀ (n : ℕ) (hn : n < cfg0.N), (outsAt0 m c n hn).2.2 = carried (args m c) n
  | 0, hn => (scr_A m c ⟨0, hn⟩ rfl (Nat.not_succ_le_zero 0) (Nat.zero_ne_add_one 30)).trans (scr_carried m c ⟨0, hn⟩ _ (head_zero _ _ rfl))
  | n + 1, hn => by
    have h32 : n + 1 < 32 := lt_of_lt_of_eq hn N_0
    have ih := carried_eq c n (Nat.lt_of_succ_lt hn)
    have hh : ∀ (a : Fin 8) (j : Fin 2816), headOf (outsAt0 m c n (Nat.lt_of_succ_lt hn)).2.2 (ix2 a j) = Cert.Ffn.padded (args m c) (512 * (n + 1) + a.val) j := by
      rw [ih]; exact head_next _ (n + 1) (Nat.succ_pos n)
    by_cases h2 : (n + 1) % 32 = 31
    · exact (scr_C m c ⟨n + 1, hn⟩ (by dsimp only; omega) (by dsimp only; omega) h2).trans (scr_carried m c ⟨n + 1, hn⟩ _ hh)
    · exact (scr_B m c ⟨n + 1, hn⟩ (by dsimp only; omega) (by dsimp only; omega) h2).trans (scr_carried m c ⟨n + 1, hn⟩ _ hh)

/-- A point's block of results, at an index. -/
theorem res_apply (c : Dev nD) (t : Fin cfg0.N) (a : Fin 512) (n : Fin 1024) :
    (outsAt0 m c t.val t.isLt).1 (ix2 a n) = Cert.Ffn.result (args m c) ⟨512 * t.val + a.val, by have := lt32 t; omega⟩ n := by
  have ht := lt32 t
  by_cases h1 : 1 ≤ t.val
  · have hh : ∀ (a : Fin 8) (j : Fin 2816), headOf (outsAt0 m c (t.val - 1) (Nat.lt_of_le_of_lt (Nat.sub_le _ _) t.isLt)).2.2 (ix2 a j)
        = Cert.Ffn.padded (args m c) (512 * t.val + a.val) j := by
      rw [carried_eq]; exact head_next _ t.val h1
    by_cases h2 : t.val % 32 = 31
    · rw [res_C m c t (by omega) h1 h2]
      exact outBlock_apply (holds m c t _ hh) _ _ (blk_wo m c t) (blk_post m c t) a n
    · rw [res_B m c t (by omega) h1 h2]
      exact outBlock_apply (holds m c t _ hh) _ _ (blk_wo m c t) (blk_post m c t) a n
  · rw [res_A m c t (by omega) h1 (by omega)]
    exact outBlock_apply (holds m c t _ (head_zero _ _ (by omega))) _ _ (blk_wo m c t) (blk_post m c t) a n

theorem off7 : ∀ (t : Fin cfg0.N) (a : Fin 2), win0_7.index t a = (![t.val, 0] : Fin 2 → ℕ) a :=
  (by decide +kernel : ∀ (t : Fin grid0.N) (a : Fin 2), _)

theorem off8 : ∀ (t : Fin cfg0.N) (a : Fin 2), win0_8.index t a = (![0, 0] : Fin 2 → ℕ) a :=
  (by decide +kernel : ∀ (t : Fin grid0.N) (a : Fin 2), _)

/-- The array of results after the run. -/
theorem final_rows (c : Dev nD) : (dats m 0 c).arrAt 7 cfg0.N = Cert.Ffn.rows (args m c) := by
  refine (dats m 0 c).arrAt_eq_of_covers 7 _ (by decide +kernel) fun t _ y => ?_
  blk_simp
  rw [after0_7]
  change Shape.Idx ⟨2, ![512, 1024]⟩ at y
  idx_vars y
  refine (res_apply m c t y0 y1).trans ?_
  show Cert.Ffn.result _ _ _ = Cert.Ffn.result _ ((win0_7.rect t).emb (ix2 y0 y1) 0) ((win0_7.rect t).emb (ix2 y0 y1) 1)
  congr 1 <;> apply Fin.ext <;> rw [Pipeline.Window.rect_emb_val_off, off7]
  · show 512 * t.val + y0.val = t.val * 512 + y0.val; omega
  · exact (Nat.zero_add _).symm

/-- The convolution's tail after the run. -/
theorem final_tail (c : Dev nD) : (dats m 0 c).arrAt 8 cfg0.N = Cert.Ffn.tail (args m c) := by
  refine (dats m 0 c).arrAt_eq_of_covers 8 _ (by decide +kernel) fun t ht y => ?_
  blk_simp
  rw [after0_8]
  change Shape.Idx ⟨2, ![2, 2816]⟩ at y
  have h31 : t.val = 31 := by have := (flush0_8 t).mp ht; have := lt32 t; omega
  have hh : ∀ (a : Fin 8) (j : Fin 2816), headOf (outsAt0 m c (t.val - 1) (Nat.lt_of_le_of_lt (Nat.sub_le _ _) t.isLt)).2.2 (ix2 a j)
      = Cert.Ffn.padded (args m c) (512 * t.val + a.val) j := by
    rw [carried_eq]; exact head_next _ t.val (by omega)
  idx_vars y
  refine (tail_C m c t (by omega) (by omega) (by omega) (ix2 y0 y1)).trans ?_
  rw [scr_carried m c t _ hh]
  show Cert.Ffn.padded _ (512 * t.val + (518 + y0.val)) y1
    = Cert.Ffn.padded _ (16390 + ((win0_8.rect t).emb (ix2 y0 y1) 0).val) ((win0_8.rect t).emb (ix2 y0 y1) 1)
  congr 1
  · rw [Pipeline.Window.rect_emb_val_off, off8]
    show 512 * t.val + (518 + y0.val) = 16390 + (0 * 2 + y0.val); omega
  · apply Fin.ext; rw [Pipeline.Window.rect_emb_val_off, off8]; exact (Nat.zero_add _).symm

end Cert.Kernel2Ideal.Ffn

end
-- ==== Proof.FfnReference.lean ====
module

public import proofs.«01_k».proof.Proof.Gen.Reference2Ideal.Run
public import proofs.«01_k».proof.Proof.FfnSpec
public import Idealize.ShloMosaic.Lib.Pointwise

@[expose] public section

set_option maxRecDepth 16384

noncomputable section

namespace Cert.Reference2Ideal.Ffn

open Cert.Reference2Ideal Cert.Reference2Ideal.Gen Idealize.ShloMosaic Idealize.ShloMosaic.TcCoe Idealize.SL.Sem

/-- The normalised rows times the input weights, as the host writes it, -/
def hostUp (x0 : FVec Ideal S1x16384x1024 .f32) (x1 : FVec Ideal S1x1024 .f32) (x3 : FVec Ideal S1x1024x5632 .f32) : FVec Ideal S1x16384x5632 .f32 :=
  Host.dotGeneral dot_S1x16384x1024_S1024x5632_S1x16384x5632_2_0_01_1_n_n none (mulf (mulf x0 (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x0 x0) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (shapeCast _ x1 shapeCasts_S1x1024_S1024)))) (shapeCast _ x3 shapeCasts_S1x1024x5632_S1024x5632)

/-- the convolved half of it behind two rows of zeros, -/
def hostPadded (Z : FVec Ideal S1x16384x5632 .f32) : FVec Ideal S1x16386x2816 .f32 :=
  concatenate S1x16386x2816 1 [⟨S1x2x2816, (broadcastInDim S1x2x2816 ![] bcast_S_S1x2x2816 (constant S_ .f32 0x00000000#32))⟩, ⟨S1x16384x2816, (extractStridedSlice S1x16384x2816 ![0, 0, 0] Z slices_S1x16384x5632_S1x16384x2816_0_0_0)⟩] concatenates_S1x2x2816_S1x16384x2816_S1x16386x2816_d1

/-- the convolution, -/
def hostConv (x4 : FVec Ideal S1x3x2816 .f32) (x5 : FVec Ideal S1x2816 .f32) (UP : FVec Ideal S1x16386x2816 .f32) : FVec Ideal S1x16384x2816 .f32 :=
  addf (addf (addf (broadcastInDim S1x16384x2816 ![0, 1, 2] bcast_S1x1x2816_S1x16384x2816_0_1_2 (broadcastInDim S1x1x2816 ![2] bcast_S2816_S1x1x2816_2 (shapeCast _ x5 shapeCasts_S1x2816_S2816))) (mulf (broadcastInDim S1x16384x2816 ![0, 1, 2] bcast_S1x1x2816_S1x16384x2816_0_1_2 (broadcastInDim S1x1x2816 ![2] bcast_S2816_S1x1x2816_2 (shapeCast _ (extractStridedSlice S1x2816 ![0, 0] (shapeCast _ x4 shapeCasts_S1x3x2816_S3x2816) slices_S3x2816_S1x2816_0_0) shapeCasts_S1x2816_S2816))) (extractStridedSlice S1x16384x2816 ![0, 0, 0] UP slices_S1x16386x2816_S1x16384x2816_0_0_0))) (mulf (broadcastInDim S1x16384x2816 ![0, 1, 2] bcast_S1x1x2816_S1x16384x2816_0_1_2 (broadcastInDim S1x1x2816 ![2] bcast_S2816_S1x1x2816_2 (shapeCast _ (extractStridedSlice S1x2816 ![1, 0] (shapeCast _ x4 shapeCasts_S1x3x2816_S3x2816) slices_S3x2816_S1x2816_1_0) shapeCasts_S1x2816_S2816))) (extractStridedSlice S1x16384x2816 ![0, 1, 0] UP slices_S1x16386x2816_S1x16384x2816_0_1_0))) (mulf (broadcastInDim S1x16384x2816 ![0, 1, 2] bcast_S1x1x2816_S1x16384x2816_0_1_2 (broadcastInDim S1x1x2816 ![2] bcast_S2816_S1x1x2816_2 (shapeCast _ (extractStridedSlice S1x2816 ![2, 0] (shapeCast _ x4 shapeCasts_S1x3x2816_S3x2816) slices_S3x2816_S1x2816_2_0) shapeCasts_S1x2816_S2816))) (extractStridedSlice S1x16384x2816 ![0, 2, 0] UP slices_S1x16386x2816_S1x16384x2816_0_2_0))

/-- the output product, -/
def hostDown (x6 : FVec Ideal S1x2816x1024 .f32) (Z : FVec Ideal S1x16384x5632 .f32) (C : FVec Ideal S1x16384x2816 .f32) : FVec Ideal S1x16384x1024 .f32 :=
  Host.dotGeneral dot_S1x16384x2816_S2816x1024_S1x16384x1024_2_0_01_1_n_n none (mulf (mulf C (mulf (broadcastInDim S1x16384x2816 ![] bcast_S_S1x16384x2816 (constant S_ .f32 0x3F000000#32)) (addf (broadcastInDim S1x16384x2816 ![] bcast_S_S1x16384x2816 (constant S_ .f32 0x3F800000#32)) (Host.tanh (mulf (broadcastInDim S1x16384x2816 ![] bcast_S_S1x16384x2816 (constant S_ .f32 0x3F4C422A#32)) (addf C (mulf (broadcastInDim S1x16384x2816 ![] bcast_S_S1x16384x2816 (constant S_ .f32 0x3D372713#32)) (mulf (mulf C C) C)))))))) (extractStridedSlice S1x16384x2816 ![0, 0, 2816] Z slices_S1x16384x5632_S1x16384x2816_0_0_2816)) (shapeCast _ x6 shapeCasts_S1x2816x1024_S2816x1024)

/-- and the result. -/
def hostResult (x0 : FVec Ideal S1x16384x1024 .f32) (x2 : FVec Ideal S1x1024 .f32) (O : FVec Ideal S1x16384x1024 .f32) : FVec Ideal S16384x1024 .f32 :=
  shapeCast _ (addf x0 (mulf (mulf O (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf O O) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (shapeCast _ x2 shapeCasts_S1x1024_S1024))))) shapeCasts_S1x16384x1024_S16384x1024

/-- The second result: the last two rows. -/
def hostTail (UP : FVec Ideal S1x16386x2816 .f32) : FVec Ideal S2x2816 .f32 :=
  shapeCast _ (extractStridedSlice S1x2x2816 ![0, 16384, 0] UP slices_S1x16386x2816_S1x2x2816_0_16384_0) shapeCasts_S1x2x2816_S2x2816

variable (x0 : FVec Ideal S1x16384x1024 .f32) (x1 x2 : FVec Ideal S1x1024 .f32) (x3 : FVec Ideal S1x1024x5632 .f32)
  (x4 : FVec Ideal S1x3x2816 .f32) (x5 : FVec Ideal S1x2816 .f32) (x6 : FVec Ideal S1x2816x1024 .f32)

theorem hostUp_eq (a : Fin 16384) (b : Fin 5632) : hostUp x0 x1 x3 (ix3 0 a b) = Cert.Ffn.up (Cert.Ffn.Args.of x0 x1 x2 x3 x4 x5 x6) a b := by
  pointwise [hostUp]
  rfl

theorem hostPadded_eq (a : Fin 16386) (b : Fin 2816) :
    hostPadded (hostUp x0 x1 x3) (ix3 0 a b) = Cert.Ffn.padded (Cert.Ffn.Args.of x0 x1 x2 x3 x4 x5 x6) (a.val + 6) b := by
  pointwise [hostPadded]
  unfold Cert.Ffn.padded
  have ha := a.isLt
  by_cases h : a.val < 2
  · rw [dif_pos h, dif_neg (by omega)]
  · rw [dif_neg h, dif_pos (by omega), hostUp_eq x0 x1 x2 x3 x4 x5 x6]
    congr 1

theorem hostConv_eq (a : Fin 16384) (b : Fin 2816) :
    hostConv x4 x5 (hostPadded (hostUp x0 x1 x3)) (ix3 0 a b) = Cert.Ffn.conv (Cert.Ffn.Args.of x0 x1 x2 x3 x4 x5 x6) a b := by
  pointwise [hostConv]
  simp only [hostPadded_eq x0 x1 x2 x3 x4 x5 x6]
  rw [show 1 + a.val + 6 = a.val + 7 by omega, show 2 + a.val + 6 = a.val + 8 by omega]
  rfl

theorem hostDown_eq (a : Fin 16384) (b : Fin 1024) :
    hostDown x6 (hostUp x0 x1 x3) (hostConv x4 x5 (hostPadded (hostUp x0 x1 x3))) (ix3 0 a b) = Cert.Ffn.down (Cert.Ffn.Args.of x0 x1 x2 x3 x4 x5 x6) a b := by
  pointwise [hostDown]
  simp only [hostConv_eq x0 x1 x2 x3 x4 x5 x6, hostUp_eq x0 x1 x2 x3 x4 x5 x6]
  rfl

/-- The first result, -/
theorem hostResult_eq :
    hostResult x0 x2 (hostDown x6 (hostUp x0 x1 x3) (hostConv x4 x5 (hostPadded (hostUp x0 x1 x3)))) = Cert.Ffn.rows (Cert.Ffn.Args.of x0 x1 x2 x3 x4 x5 x6) := by
  funext i
  idx_vars i
  pointwise [hostResult]
  simp only [hostDown_eq x0 x1 x2 x3 x4 x5 x6]
  rfl

/-- and the second. -/
theorem hostTail_eq : hostTail (hostPadded (hostUp x0 x1 x3)) = Cert.Ffn.tail (Cert.Ffn.Args.of x0 x1 x2 x3 x4 x5 x6) := by
  funext i
  idx_vars i
  pointwise [hostTail]
  rw [hostPadded_eq x0 x1 x2 x3 x4 x5 x6]
  show Cert.Ffn.padded _ (16384 + i0.val + 6) i1 = Cert.Ffn.padded _ (16390 + i0.val) i1
  congr 1
  omega

variable (m : (ℓ : Loc nD τ sig) → Buf (Elt Ideal) ℓ) (ρ : Dev nD → PrngReg)

/-- The arguments of the run. -/
def args (c : Dev nD) : Cert.Ffn.Args :=
  Cert.Ffn.Args.of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem res0 (c : Dev nD) : Value.res_main_v77 m c = Cert.Ffn.rows (args m c) :=
  Eq.trans (b := hostResult (m ((c.tc : Thread nD τ).loc main_arg0)) (m ((c.tc : Thread nD τ).loc main_arg2)) (hostDown (m ((c.tc : Thread nD τ).loc main_arg6)) (hostUp (m ((c.tc : Thread nD τ).loc main_arg0)) (m ((c.tc : Thread nD τ).loc main_arg1)) (m ((c.tc : Thread nD τ).loc main_arg3)))
    (hostConv (m ((c.tc : Thread nD τ).loc main_arg4)) (m ((c.tc : Thread nD τ).loc main_arg5)) (hostPadded (hostUp (m ((c.tc : Thread nD τ).loc main_arg0)) (m ((c.tc : Thread nD τ).loc main_arg1)) (m ((c.tc : Thread nD τ).loc main_arg3))))))) rfl (hostResult_eq ..)

/-- The reference's run over the extended reals. -/
theorem run : θ_run defs (onTc (τ := τ) (main (F := Ideal))) ⟨m, fun _ => 0, ρ⟩ fun r => ∀ c : Dev nD,
    r.2.mem ((c.tc : Thread nD τ).loc main_v77) = Cert.Ffn.rows (args m c)
    ∧ r.2.mem ((c.tc : Thread nD τ).loc main_v78) = Cert.Ffn.tail (args m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨(h c).1.trans (res0 m c), (h c).2.1.trans (hostTail_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))), (h c).2.2⟩)
    (Value.run (F := Ideal) m ρ)

end Cert.Reference2Ideal.Ffn

end
-- ==== Proof.FfnClaims.lean ====
module

public import proofs.«01_k».proof.Defs
public import proofs.«01_k».proof.Proof.Gen.Kernel2.Frame
public import proofs.«01_k».proof.Proof.Gen.Kernel2Ideal.Frame
public import proofs.«01_k».proof.Proof.FfnValue
public import proofs.«01_k».proof.Proof.FfnReference
public import Idealize.ShloMosaic.Lib.Claim
public import Idealize.ShloMosaic.Lib.Quiescent

@[expose] public section

set_option maxRecDepth 16384

noncomputable section

/-! The claims about the feed-forward call. -/

namespace Cert.Proof.Ffn

open Idealize.ShloMosaic Idealize.ShloMosaic.TcCoe Idealize.SL.Sem

theorem frame_kernel : Cert.quiescent_Kernel2 := fun m ρ _ => Cert.Kernel2.Gen.frame (F := Bits) m ρ

theorem frame_kernelIdeal : Cert.quiescent_Kernel2Ideal := fun m ρ _ => Cert.Kernel2Ideal.Gen.frame (F := Ideal) m ρ

theorem frame_referenceIdeal : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem preserves : Cert.preserves_Kernel2_Kernel2Ideal :=
  ⟨IdealRules.named_const.statement Cert.Kernel2Ideal.κ "gelu_k3" .f32 0xBDD2D3E8#32 (((-(2 * ((6693141 / 8388608) * (Real.log 2)⁻¹))) * (12003091 / 268435456) : ℝ) : EReal) rfl,
    IdealRules.named_const.statement Cert.Kernel2Ideal.κ "gelu_k" .f32 0xC0135761#32 ((-(2 * ((6693141 / 8388608) * (Real.log 2)⁻¹)) : ℝ) : EReal) rfl⟩

/-- On equal arguments the kernel and the reference end with equal arrays of extended reals. -/
theorem algebraic : Cert.algebraic_Kernel2Ideal_Reference2Ideal := fun m ρ m' ρ' _ hag => by
  have he : ∀ c, Cert.Reference2Ideal.Ffn.args m' c = Cert.Kernel2Ideal.Ffn.args m c := fun c => by
    obtain ⟨h0, h1, h2, h3, h4, h5, h6⟩ := hag c
    unfold Cert.Reference2Ideal.Ffn.args Cert.Kernel2Ideal.Ffn.args
    rw [h0, h1, h2, h3, h4, h5, h6]
  exact ⟨fun c => Cert.Ffn.rows (Cert.Kernel2Ideal.Ffn.args m c), fun c => Cert.Ffn.tail (Cert.Kernel2Ideal.Ffn.args m c),
    (θ_run Cert.Kernel2Ideal.defs _ _).mono
      (fun _ h c => ⟨(h c).1.trans (Cert.Kernel2Ideal.Ffn.final_rows m c), (h c).2.1.trans (Cert.Kernel2Ideal.Ffn.final_tail m c), (h c).2.2⟩)
      (Cert.Kernel2Ideal.Value.run_blocks m ρ),
    (θ_run Cert.Reference2Ideal.defs _ _).mono
      (fun _ h c => ⟨(h c).1.trans (congrArg Cert.Ffn.rows (he c)), (h c).2.1.trans (congrArg Cert.Ffn.tail (he c)), (h c).2.2⟩)
      (Cert.Reference2Ideal.Ffn.run m' ρ')⟩

end Cert.Proof.Ffn

end
-- ==== Proof.SmpSpec.lean ====
module

public import proofs.«01_k».proof.Proof.FfnSpec

@[expose] public section

noncomputable section

/-! The mixer of the sampled tokens over the extended reals, entry by entry, on plain functions of the indices: four steps
    of the gated linear recurrence with its state, and the windowed attention with sinks over the cached and new keys. -/

namespace Cert.Smp

open Idealize.ShloMosaic

/-- The arguments: the rows, the recurrence's state, the cached keys and values, the scale of the rows, the input
    product's weights, the decay gate's second factor and bias, and the attention's sinks. -/
structure Args where
  x : Fin 128 → Fin 4 → Fin 1024 → EReal
  S : Fin 128 → Fin 4 → Fin 64 → Fin 128 → EReal
  ck : Fin 128 → Fin 128 → Fin 2 → Fin 64 → EReal
  cv : Fin 128 → Fin 128 → Fin 2 → Fin 64 → EReal
  pre : Fin 1024 → EReal
  w : Fin 1024 → Fin 4368 → EReal
  up : Fin 16 → Fin 256 → EReal
  bg : Fin 256 → EReal
  sink : Fin 8 → EReal

variable (A : Args)

/-- The input product at sequence `b`, step `t` and column `j`. -/
def z (b : Fin 128) (t : Fin 4) (j : Fin 4368) : EReal := ∑ k, Cert.Ffn.rms (A.x b t) A.pre k * A.w k j

/-- The decay gate before its logistic. -/
def gate (b : Fin 128) (t : Fin 4) (j : Fin 256) : EReal :=
  (∑ r : Fin 16, z A b t ⟨1024 + r.val, by omega⟩ * A.up r j) + A.bg j

/-- The logarithm of one plus an exponential, as the two programs compute it. -/
def softplus (y : EReal) : EReal := max y 0 + Ideal.log1p (Ideal.exp (-(max y (-y))))

/-- The logarithm of a step's decay. -/
def la (b : Fin 128) (t : Fin 4) (j : Fin 256) : EReal :=
  Ideal.div (-(softplus (-(gate A b t j)))) (Ideal.ofBits .f32 0x41800000#32)

/-- Its sum over the steps up to `t`. -/
def cum (b : Fin 128) (t : Fin 4) (j : Fin 256) : EReal :=
  ![la A b 0 j, la A b 0 j + la A b 1 j, la A b 0 j + la A b 1 j + la A b 2 j,
    la A b 0 j + la A b 1 j + la A b 2 j + la A b 3 j] t

/-- The recurrence's queries, scaled, -/
def qa (b : Fin 128) (t : Fin 4) (j : Fin 256) : EReal := z A b t ⟨j.val, by omega⟩ * Ideal.ofBits .f32 0x3E000000#32

/-- keys, -/
def ka (b : Fin 128) (t : Fin 4) (j : Fin 256) : EReal := z A b t ⟨256 + j.val, by omega⟩

/-- and values. -/
def va (b : Fin 128) (t : Fin 4) (j : Fin 512) : EReal := z A b t ⟨512 + j.val, by omega⟩

/-- Lane `d` of head `h` of the keys. -/
def lane (h : Fin 4) (d : Fin 64) : Fin 256 := ⟨h.val * 64 + d.val, by omega⟩

/-- How much step `t` attends to step `j` inside the recurrence. -/
def att (b : Fin 128) (h : Fin 4) (t j : Fin 4) : EReal :=
  ∑ d, qa A b t (lane h d) * ka A b j (lane h d) * Ideal.exp (if j ≤ t then cum A b t (lane h d) - cum A b j (lane h d) else ⊥)

/-- The recurrence's output at step `t`: what the state gives and what the new steps give. -/
def oa (t : Fin 4) (b : Fin 128) (c : Fin 512) : EReal :=
  (∑ d, qa A b t (lane ⟨c.val / 128, by omega⟩ d) * Ideal.exp (cum A b t (lane ⟨c.val / 128, by omega⟩ d))
      * A.S b ⟨c.val / 128, by omega⟩ d ⟨c.val % 128, by omega⟩)
    + ∑ j, att A b ⟨c.val / 128, by omega⟩ t j * va A b j c

/-- The state after the four steps. -/
def snew (b : Fin 128) (r : Fin 256) (v : Fin 128) : EReal :=
  Ideal.exp (cum A b 3 r) * A.S b ⟨r.val / 64, by omega⟩ ⟨r.val % 64, by omega⟩ v
    + ∑ j, ka A b j r * Ideal.exp (cum A b 3 r - cum A b j r) * va A b j ⟨r.val / 64 * 128 + v.val, by omega⟩

/-- The cached keys with the new ones behind them, -/
def kall (b : Fin 128) (s : Fin 132) (g : Fin 2) (d : Fin 64) : EReal :=
  if h : s.val < 128 then A.ck b ⟨s.val, h⟩ g d else z A b ⟨s.val - 128, by omega⟩ ⟨2064 + (g.val * 64 + d.val), by omega⟩

/-- and the values. -/
def vall (b : Fin 128) (s : Fin 132) (g : Fin 2) (d : Fin 64) : EReal :=
  if h : s.val < 128 then A.cv b ⟨s.val, h⟩ g d else z A b ⟨s.val - 128, by omega⟩ ⟨2192 + (g.val * 64 + d.val), by omega⟩

/-- The attention's queries. -/
def qb (b : Fin 128) (t : Fin 4) (j : Fin 512) : EReal := z A b t ⟨1552 + j.val, by omega⟩

/-- A head's slope of the linear bias, a power of two. -/
def slope (h : Fin 8) : EReal := (((1 / 2 : ℝ) ^ (h.val + 1) : ℝ) : EReal)

/-- The biased score of head `h` at step `t` against key `s`, `⊥` outside the window. -/
def score (b : Fin 128) (h : Fin 8) (t : Fin 4) (s : Fin 132) : EReal :=
  if t.val < s.val ∧ s.val ≤ t.val + 128 then
    (∑ d, kall A b s ⟨h.val / 4, by omega⟩ d * qb A b t ⟨h.val * 64 + d.val, by omega⟩) * Ideal.ofBits .f32 0x3E000000#32
      + -(slope h) * (((t.val + 128 : ℝ) - s.val : ℝ) : EReal)
  else ⊥

/-- The largest of the scores and the sink, -/
def top (b : Fin 128) (h : Fin 8) (t : Fin 4) : EReal := max (Finset.univ.sup (score A b h t)) (A.sink h)

/-- the exponentials' sum, -/
def denom (b : Fin 128) (h : Fin 8) (t : Fin 4) : EReal :=
  (∑ s, Ideal.exp (score A b h t s - top A b h t)) + Ideal.exp (A.sink h - top A b h t)

/-- and the attention's output at lane `d` of head `h`. -/
def obAt (t : Fin 4) (b : Fin 128) (h : Fin 8) (d : Fin 64) : EReal :=
  ∑ s, vall A b s ⟨h.val / 4, by omega⟩ d * Ideal.div (Ideal.exp (score A b h t s - top A b h t)) (denom A b h t)

/-- The arguments read from arrays, -/
def Args.of (x0 : FVec Ideal ⟨3, ![128, 4, 1024]⟩ .f32) (x1 : FVec Ideal ⟨5, ![1, 128, 4, 64, 128]⟩ .f32)
    (x2 x3 : FVec Ideal ⟨5, ![1, 128, 128, 2, 64]⟩ .f32) (x4 : FVec Ideal ⟨2, ![1, 1024]⟩ .f32)
    (x5 : FVec Ideal ⟨3, ![1, 1024, 4368]⟩ .f32) (x6 : FVec Ideal ⟨3, ![1, 16, 256]⟩ .f32)
    (x7 : FVec Ideal ⟨2, ![1, 256]⟩ .f32) (x8 : FVec Ideal ⟨2, ![1, 8]⟩ .f32) : Args where
  x b t k := x0 (ix3 b t k)
  S b h d v := x1 (ix5 0 b h d v)
  ck b s g d := x2 (ix5 0 b s g d)
  cv b s g d := x3 (ix5 0 b s g d)
  pre k := x4 (ix2 0 k)
  w k j := x5 (ix3 0 k j)
  up r j := x6 (ix3 0 r j)
  bg j := x7 (ix2 0 j)
  sink h := x8 (ix2 0 h)

/-- and the five results as arrays. -/
def oaArr : FVec Ideal ⟨3, ![4, 128, 512]⟩ .f32 := fun i => oa A (i 0) (i 1) (i 2)
def obArr : FVec Ideal ⟨3, ![4, 128, 512]⟩ .f32 := fun i =>
  obAt A (i 0) (i 1) ⟨(i 2).val / 64, by have : (i 2).val < 512 := (i 2).isLt; omega⟩ ⟨(i 2).val % 64, by omega⟩
def sArr : FVec Ideal ⟨3, ![128, 256, 128]⟩ .f32 := fun i => snew A (i 0) (i 1) (i 2)
def kArr : FVec Ideal ⟨3, ![128, 128, 128]⟩ .f32 := fun i =>
  kall A (i 0) ⟨4 + (i 2).val, by have : (i 2).val < 128 := (i 2).isLt; omega⟩
    ⟨(i 1).val / 64, by have : (i 1).val < 128 := (i 1).isLt; omega⟩ ⟨(i 1).val % 64, by omega⟩
def vArr : FVec Ideal ⟨3, ![128, 128, 128]⟩ .f32 := fun i =>
  vall A (i 0) ⟨4 + (i 2).val, by have : (i 2).val < 128 := (i 2).isLt; omega⟩
    ⟨(i 1).val / 64, by have : (i 1).val < 128 := (i 1).isLt; omega⟩ ⟨(i 1).val % 64, by omega⟩

end Cert.Smp
-- ==== Proof.SmpConsts.lean ====
module

public import proofs.«01_k».proof.Proof.SmpSpec
public import Idealize.ShloMosaic.Lib.Pointwise

@[expose] public section

noncomputable section

/-! The literals of the sampled tokens' mixer as extended reals. -/

namespace Cert.Smp

open Idealize.ShloMosaic

theorem lit_bot : Ideal.ofBits .f32 0xFF800000#32 = ⊥ := by
  simp [Ideal.ofBits, Ideal.ieee]

theorem lit_16 : Ideal.ofBits .f32 0x41800000#32 = ((16 : ℝ) : EReal) := by
  simp [Ideal.ofBits, Ideal.ieee, -EReal.coe_mul]; norm_num

theorem lit_sixteenth : Ideal.ofBits .f32 0x3D800000#32 = ((1 / 16 : ℝ) : EReal) := by
  simp [Ideal.ofBits, Ideal.ieee, -EReal.coe_mul]; norm_num

theorem lit_eighth : Ideal.ofBits .f32 0x3E000000#32 = ((1 / 8 : ℝ) : EReal) := by
  simp [Ideal.ofBits, Ideal.ieee, -EReal.coe_mul]; norm_num

theorem lit_half1 : Ideal.ofBits .f32 0x3F000000#32 = (((1 / 2 : ℝ) ^ 1 : ℝ) : EReal) := by
  simp [Ideal.ofBits, Ideal.ieee, -EReal.coe_mul]; norm_num
theorem lit_half2 : Ideal.ofBits .f32 0x3E800000#32 = (((1 / 2 : ℝ) ^ 2 : ℝ) : EReal) := by
  simp [Ideal.ofBits, Ideal.ieee, -EReal.coe_mul]; norm_num
theorem lit_half3 : Ideal.ofBits .f32 0x3E000000#32 = (((1 / 2 : ℝ) ^ 3 : ℝ) : EReal) := by
  simp [Ideal.ofBits, Ideal.ieee, -EReal.coe_mul]; norm_num
theorem lit_half4 : Ideal.ofBits .f32 0x3D800000#32 = (((1 / 2 : ℝ) ^ 4 : ℝ) : EReal) := by
  simp [Ideal.ofBits, Ideal.ieee, -EReal.coe_mul]; norm_num
theorem lit_half5 : Ideal.ofBits .f32 0x3D000000#32 = (((1 / 2 : ℝ) ^ 5 : ℝ) : EReal) := by
  simp [Ideal.ofBits, Ideal.ieee, -EReal.coe_mul]; norm_num
theorem lit_half6 : Ideal.ofBits .f32 0x3C800000#32 = (((1 / 2 : ℝ) ^ 6 : ℝ) : EReal) := by
  simp [Ideal.ofBits, Ideal.ieee, -EReal.coe_mul]; norm_num
theorem lit_half7 : Ideal.ofBits .f32 0x3C000000#32 = (((1 / 2 : ℝ) ^ 7 : ℝ) : EReal) := by
  simp [Ideal.ofBits, Ideal.ieee, -EReal.coe_mul]; norm_num
theorem lit_half8 : Ideal.ofBits .f32 0x3B800000#32 = (((1 / 2 : ℝ) ^ 8 : ℝ) : EReal) := by
  simp [Ideal.ofBits, Ideal.ieee, -EReal.coe_mul]; norm_num

end Cert.Smp
-- ==== Proof.SmpReference.lean ====
module

public import proofs.«01_k».proof.Proof.Gen.Reference3Ideal.Run
public import proofs.«01_k».proof.Proof.SmpConsts
public import Idealize.ShloMosaic.Lib.Pointwise

@[expose] public section

set_option maxRecDepth 16384

noncomputable section

/-! The reference's mixer of the sampled tokens computes what `SmpSpec` says: each of its intermediate arrays, entry by
    entry. -/

namespace Cert.Reference3Ideal.Smp

open Cert.Reference3Ideal Cert.Reference3Ideal.Gen Cert.Reference3Ideal.Value Idealize.ShloMosaic Idealize.ShloMosaic.TcCoe Idealize.SL.Sem Idealize.ShloMosaic.StableHlo

variable (V : Valuation τ sig (Elt Ideal))

/-- The arguments among the buffers. -/
def args : Cert.Smp.Args :=
  Cert.Smp.Args.of (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))

theorem z_eq (b : Fin 128) (t : Fin 4) (j : Fin 4368) : res_main_v15 V (ix3 b t j) = Cert.Smp.z (args V) b t j := by
  pointwise [res_main_v15]
  rfl

theorem gate_eq (b : Fin 128) (t : Fin 4) (j : Fin 256) : res_main_call0_v0 V (ix3 b t j) = -(Cert.Smp.gate (args V) b t j) := by
  pointwise [res_main_call0_v0]
  simp only [z_eq]
  rfl

theorem la_eq (b : Fin 128) (h t : Fin 4) (d : Fin 64) : res_main_v45 V (ix4 b h t d) = Cert.Smp.la (args V) b t (Cert.Smp.lane h d) := by
  pointwise [res_main_v45, res_main_call0_call0_v3, res_main_call0_call0_cst]
  simp only [gate_eq, ne_eq, not_true_eq_false, if_false]
  rfl

theorem qa_eq (b : Fin 128) (h t : Fin 4) (d : Fin 64) : res_main_v42 V (ix4 b h t d) = Cert.Smp.qa (args V) b t (Cert.Smp.lane h d) := by
  pointwise [res_main_v42]
  simp only [z_eq]
  rfl

theorem ka_eq (b : Fin 128) (h t : Fin 4) (d : Fin 64) : res_main_v43 V (ix4 b h t d) = Cert.Smp.ka (args V) b t (Cert.Smp.lane h d) := by
  pointwise [res_main_v43]
  simp only [z_eq]
  rfl

theorem va_eq (b : Fin 128) (h t : Fin 4) (d : Fin 128) : res_main_v44 V (ix4 b h t d) = Cert.Smp.va (args V) b t ⟨h.val * 128 + d.val, by omega⟩ := by
  pointwise [res_main_v44]
  simp only [z_eq]
  rfl

theorem cum_eq (b : Fin 128) (h t : Fin 4) (d : Fin 64) : res_main_v53 V (ix4 b h t d) = Cert.Smp.cum (args V) b t (Cert.Smp.lane h d) := by
  pointwise [res_main_v53, res_main_v50, res_main_v48, res_main_v46]
  simp only [la_eq]
  fin_cases t <;> rfl

theorem kall_eq (b : Fin 128) (s : Fin 132) (g : Fin 2) (d : Fin 64) : res_main_v93 V (ix4 b s g d) = Cert.Smp.kall (args V) b s g d := by
  pointwise [res_main_v93]
  simp only [z_eq]
  rfl

theorem vall_eq (b : Fin 128) (s : Fin 132) (g : Fin 2) (d : Fin 64) : res_main_v95 V (ix4 b s g d) = Cert.Smp.vall (args V) b s g d := by
  pointwise [res_main_v95]
  simp only [z_eq]
  rfl

/-- The distance of key `s` behind step `t` as the reference's integers compute it: whether it lies in the window, -/
theorem rel_mask : ∀ (t : Fin 4) (s : Fin 132),
    IntOp.andi (IntOp.cmpi CmpIPredicate.sge (IntOp.subi (IntOp.addi (BitVec.ofNat 32 t.val) 128#32) (BitVec.ofNat 32 s.val)) 0#32)
        (IntOp.cmpi CmpIPredicate.slt (IntOp.subi (IntOp.addi (BitVec.ofNat 32 t.val) 128#32) (BitVec.ofNat 32 s.val)) 128#32)
      = if t.val < s.val ∧ s.val ≤ t.val + 128 then 1#1 else 0#1 := by
  decide +kernel

/-- and its value. -/
theorem rel_val : ∀ (t : Fin 4) (s : Fin 132),
    (IntOp.subi (IntOp.addi (BitVec.ofNat 32 t.val) 128#32) (BitVec.ofNat 32 s.val)).toInt = (t.val : ℤ) + 128 - s.val := by
  decide +kernel

/-- The slopes' literals. -/
theorem slope_eq (g : Fin 2) (e : Fin 4) :
    Ideal.ofBits .f32 (lit0 (S8.rowMajor (ix1 (⟨g.val * 4 + e.val, by omega⟩ : Fin 8)))) = Cert.Smp.slope ⟨g.val * 4 + e.val, by omega⟩ := by
  fin_cases g <;> fin_cases e
  · exact Cert.Smp.lit_half1
  · exact Cert.Smp.lit_half2
  · exact Cert.Smp.lit_half3
  · exact Cert.Smp.lit_half4
  · exact Cert.Smp.lit_half5
  · exact Cert.Smp.lit_half6
  · exact Cert.Smp.lit_half7
  · exact Cert.Smp.lit_half8

theorem score_eq (b : Fin 128) (g : Fin 2) (e t : Fin 4) (s : Fin 132) : res_main_v126 V (ix5 b g e t s) = Cert.Smp.score (args V) b ⟨g.val * 4 + e.val, by omega⟩ t s := by
  pointwise [res_main_v126, res_main_v104]
  simp only [z_eq, kall_eq, slope_eq, rel_mask]
  have hb : id (constant (F := Ideal) S_ FTy.f32 4286578688#32) ix0 = (⊥ : EReal) := Cert.Smp.lit_bot
  have hg : (g.val * 4 + e.val) / 4 = g.val := by omega
  have hr : (FloatOps.sitofp FTy.f32 (IntOp.subi (IntOp.addi (BitVec.ofNat 32 t.val) 128#32) (BitVec.ofNat 32 s.val)) : Ideal .f32)
      = (((t.val + 128 : ℝ) - s.val : ℝ) : EReal) := by
    show ((((IntOp.subi (IntOp.addi (BitVec.ofNat 32 t.val) 128#32) (BitVec.ofNat 32 s.val)).toInt : ℤ) : ℝ) : EReal) = _
    rw [rel_val]
    push_cast
    rfl
  rw [hb, hr]
  unfold Cert.Smp.score
  by_cases h : t.val < s.val ∧ s.val ≤ t.val + 128
  · rw [if_pos h, if_pos h]
    have hq : ∀ x : Fin 64, Cert.Smp.z (args V) b t ⟨1552 + (g.val * 256 + e.val * 64 + x.val), by omega⟩
        = Cert.Smp.qb (args V) b t ⟨(g.val * 4 + e.val) * 64 + x.val, by omega⟩ := fun x => by
      unfold Cert.Smp.qb
      congr 2
      show 1552 + (g.val * 256 + e.val * 64 + x.val) = 1552 + ((g.val * 4 + e.val) * 64 + x.val)
      omega
    simp only [hq, hg]
    rfl
  · rw [if_neg h, if_neg h]
    rfl

theorem top_eq (b : Fin 128) (g : Fin 2) (e t : Fin 4) : res_main_v133 V (ix5 b g e t 0) = Cert.Smp.top (args V) b ⟨g.val * 4 + e.val, by omega⟩ t := by
  pointwise [res_main_v133, res_main_v128]
  have hf := Shape.ReducesTo.fold_fiber_r5_a4 reducesTo_S128x2x4x4x132_S128x2x4x4_d4 (ix4 b g e t) max (Ideal.ofBits .f32 0xFF800000#32) (res_main_v126 V)
  refine (congrArg (fun u => max u _) (hf.trans ?_)).trans rfl
  rw [Cert.Smp.lit_bot]
  exact congrArg (fun f => Finset.univ.fold max (⊥ : EReal) f) (funext fun s => score_eq V b g e t s)

theorem prob_eq (b : Fin 128) (g : Fin 2) (e t : Fin 4) (s : Fin 132) : res_main_v136 V (ix5 b g e t s)
    = Ideal.exp (Cert.Smp.score (args V) b ⟨g.val * 4 + e.val, by omega⟩ t s - Cert.Smp.top (args V) b ⟨g.val * 4 + e.val, by omega⟩ t) := by
  pointwise [res_main_v136]
  simp only [score_eq, top_eq]

/-- Whether step `j` is one of the steps up to `t`, as the reference's integers compute it. -/
theorem tri_mask : ∀ t j : Fin 4,
    Scalar.select (IntOp.cmpi CmpIPredicate.sge (IntOp.addi (BitVec.ofNat 32 t.val) 0#32) (BitVec.ofNat 32 j.val)) (1#1) (0#1)
      = if j ≤ t then 1#1 else 0#1 := by
  decide +kernel

theorem outA_eq : shapeCast _ (transpose S4x128x4x128 [1, 0, 2, 3] (transpose S128x4x4x128 [0, 2, 1, 3] (addf (Host.dotGeneral (φ₁ := .f32) (φ₂ := .f32) dot_S128x4x4x64_S128x4x64x128_S128x4x4x128_3_2_2_3_01_01 none (mulf (res_main_v42 V) (Host.exp (res_main_v53 V))) (res_main_v41 V)) (Host.dotGeneral (φ₁ := .f32) (φ₂ := .f32) dot_S128x4x4x4_S128x4x4x128_S128x4x4x128_3_2_2_3_01_01 none (Host.reduceAdd (mulf (mulf (broadcastInDim S128x4x4x4x64 ![0, 1, 2, 3, 4] bcast_S128x4x4x1x64_S128x4x4x4x64_0_1_2_3_4 (broadcastInDim S128x4x4x1x64 ![0, 1, 2, 4] bcast_S128x4x4x64_S128x4x4x1x64_0_1_2_4 (res_main_v42 V))) (broadcastInDim S128x4x4x4x64 ![0, 1, 2, 3, 4] bcast_S128x4x1x4x64_S128x4x4x4x64_0_1_2_3_4 (broadcastInDim S128x4x1x4x64 ![0, 1, 3, 4] bcast_S128x4x4x64_S128x4x1x4x64_0_1_3_4 (res_main_v43 V)))) (Host.exp (select (broadcastInDim S128x4x4x4x64 ![2, 3, 4] bcast_S4x4x1_S128x4x4x4x64_2_3_4 (broadcastInDim S4x4x1 ![0, 1] bcast_S4x4_S4x4x1_0_1 (select (cmpi .sge (addi (iotaInDim S4x4 32 0) (broadcastInDim S4x4 ![] bcast_S_S4x4 (constantI S_ 32 0#32))) (iotaInDim S4x4 32 1)) (broadcastInDim S4x4 ![] bcast_S_S4x4 (constantI S_ 1 1#1)) (broadcastInDim S4x4 ![] bcast_S_S4x4 (constantI S_ 1 0#1))))) (subf (broadcastInDim S128x4x4x4x64 ![0, 1, 2, 3, 4] bcast_S128x4x4x1x64_S128x4x4x4x64_0_1_2_3_4 (broadcastInDim S128x4x4x1x64 ![0, 1, 2, 4] bcast_S128x4x4x64_S128x4x4x1x64_0_1_2_4 (res_main_v53 V))) (broadcastInDim S128x4x4x4x64 ![0, 1, 2, 3, 4] bcast_S128x4x1x4x64_S128x4x4x4x64_0_1_2_3_4 (broadcastInDim S128x4x1x4x64 ![0, 1, 3, 4] bcast_S128x4x4x64_S128x4x1x4x64_0_1_3_4 (res_main_v53 V)))) (broadcastInDim S128x4x4x4x64 ![] bcast_S_S128x4x4x4x64 (id (constant S_ .f32 0xFF800000#32)))))) (constant S_ .f32 0x00000000#32) reducesTo_S128x4x4x4x64_S128x4x4x4_d4 h_S_) (res_main_v44 V))) transposes_S128x4x4x128_S128x4x4x128_0_2_1_3) transposes_S128x4x4x128_S4x128x4x128_1_0_2_3) shapeCasts_S4x128x4x128_S4x128x512
    = Cert.Smp.oaArr (args V) := by
  funext i
  idx_vars i
  pointwise [res_main_v41]
  simp only [qa_eq, ka_eq, va_eq, cum_eq]
  have hb : id (constant (F := Ideal) S_ FTy.f32 4286578688#32) ix0 = (⊥ : EReal) := Cert.Smp.lit_bot
  have hv : (⟨i2.val / 128 * 128 + i2.val % 128, by omega⟩ : Fin 512) = i2 := Fin.ext (by show i2.val / 128 * 128 + i2.val % 128 = i2.val; omega)
  have hs : ∀ (j : Fin 4) (a c : EReal), Scalar.select (if j ≤ i0 then 1#1 else 0#1) a c = if j ≤ i0 then a else c := fun j a c => by
    by_cases h : j ≤ i0
    · rw [if_pos h, if_pos h]; rfl
    · rw [if_neg h, if_neg h]; rfl
  simp only [hb, tri_mask, hs, hv]
  rfl

theorem outB_eq : transpose S4x128x512 [1, 0, 2] (shapeCast _ (transpose S128x4x2x4x64 [0, 4, 1, 3, 2] (Host.dotGeneral (φ₁ := .f32) (φ₂ := .f32) dot_S128x132x2x64_S128x2x4x4x132_S128x2x64x4x4_1_4_3_23_02_01 none (res_main_v95 V) (Host.divf (res_main_v136 V) (broadcastInDim S128x2x4x4x132 ![0, 1, 2, 3, 4] bcast_S128x2x4x4x1_S128x2x4x4x132_0_1_2_3_4 (addf (broadcastInDim S128x2x4x4x1 ![0, 1, 2, 3] bcast_S128x2x4x4_S128x2x4x4x1_0_1_2_3 (Host.reduceAdd (res_main_v136 V) (constant S_ .f32 0x00000000#32) reducesTo_S128x2x4x4x132_S128x2x4x4_d4 h_S_)) (Host.exp (subf (broadcastInDim S128x2x4x4x1 ![0, 1, 2, 3, 4] bcast_S1x2x4x1x1_S128x2x4x4x1_0_1_2_3_4 (broadcastInDim S1x2x4x1x1 ![1, 2, 3, 4] bcast_S2x4x1x1_S1x2x4x1x1_1_2_3_4 (res_main_v128 V))) (res_main_v133 V))))))) transposes_S128x2x64x4x4_S128x4x2x4x64_0_4_1_3_2) shapeCasts_S128x4x2x4x64_S128x4x512) transposes_S128x4x512_S4x128x512_1_0_2
    = Cert.Smp.obArr (args V) := by
  funext i
  idx_vars i
  pointwise [res_main_v128]
  simp only [vall_eq, prob_eq, top_eq]
  have hh : (⟨i2.val / 256 * 4 + i2.val / 64 % 4, by omega⟩ : Fin 8) = ⟨i2.val / 64, by omega⟩ := Fin.ext (by show i2.val / 256 * 4 + i2.val / 64 % 4 = i2.val / 64; omega)
  have hg : (⟨i2.val / 256, by omega⟩ : Fin 2) = ⟨i2.val / 64 / 4, by omega⟩ := Fin.ext (by show i2.val / 256 = i2.val / 64 / 4; omega)
  simp only [hh, hg]
  rfl

theorem state_eq : shapeCast _ (addf (mulf (broadcastInDim S128x4x64x128 ![0, 1, 2, 3] bcast_S128x4x64x1_S128x4x64x128_0_1_2_3 (broadcastInDim S128x4x64x1 ![0, 1, 2] bcast_S128x4x64_S128x4x64x1_0_1_2 (Host.exp (shapeCast _ (res_main_v76 V) shapeCasts_S128x4x1x64_S128x4x64)))) (res_main_v41 V)) (Host.dotGeneral (φ₁ := .f32) (φ₂ := .f32) dot_S128x4x4x64_S128x4x4x128_S128x4x64x128_2_2_3_3_01_01 none (mulf (res_main_v43 V) (Host.exp (subf (broadcastInDim S128x4x4x64 ![0, 1, 2, 3] bcast_S128x4x1x64_S128x4x4x64_0_1_2_3 (res_main_v76 V)) (res_main_v53 V)))) (res_main_v44 V))) shapeCasts_S128x4x64x128_S128x256x128
    = Cert.Smp.sArr (args V) := by
  funext i
  idx_vars i
  pointwise [res_main_v41, res_main_v76]
  simp only [ka_eq, va_eq, cum_eq]
  have hl : Cert.Smp.lane ⟨i1.val / 64, by omega⟩ ⟨i1.val % 64, by omega⟩ = i1 := Fin.ext (by show i1.val / 64 * 64 + i1.val % 64 = i1.val; omega)
  simp only [hl]
  rfl

theorem keys_eq : shapeCast _ (transpose S128x2x64x128 [0, 2, 3, 1] (extractStridedSlice S128x128x2x64 ![0, 4, 0, 0] (res_main_v93 V) slices_S128x132x2x64_S128x128x2x64_0_4_0_0) transposes_S128x128x2x64_S128x2x64x128_0_2_3_1) shapeCasts_S128x2x64x128_S128x128x128
    = Cert.Smp.kArr (args V) := by
  funext i
  idx_vars i
  pointwise []
  simp only [kall_eq]
  rfl

theorem values_eq : shapeCast _ (transpose S128x2x64x128 [0, 2, 3, 1] (extractStridedSlice S128x128x2x64 ![0, 4, 0, 0] (res_main_v95 V) slices_S128x132x2x64_S128x128x2x64_0_4_0_0) transposes_S128x128x2x64_S128x2x64x128_0_2_3_1) shapeCasts_S128x2x64x128_S128x128x128
    = Cert.Smp.vArr (args V) := by
  funext i
  idx_vars i
  pointwise []
  simp only [vall_eq]
  rfl

set_option maxHeartbeats 2000000 in
/-- The reference's run over the extended reals. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v151) = Cert.Smp.oaArr (args (launchContents m c))
    ∧ r.2.mem ((c.tc : Thread nD τ).loc main_v153) = Cert.Smp.obArr (args (launchContents m c))
    ∧ r.2.mem ((c.tc : Thread nD τ).loc main_v154) = Cert.Smp.sArr (args (launchContents m c))
    ∧ r.2.mem ((c.tc : Thread nD τ).loc main_v156) = Cert.Smp.kArr (args (launchContents m c))
    ∧ r.2.mem ((c.tc : Thread nD τ).loc main_v158) = Cert.Smp.vArr (args (launchContents m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  (θ_run defs _ _).mono (fun _ h c => ⟨(h c).1.trans (outA_eq _), (h c).2.1.trans (outB_eq _), (h c).2.2.1.trans (state_eq _),
      (h c).2.2.2.1.trans (keys_eq _), (h c).2.2.2.2.1.trans (values_eq _), (h c).2.2.2.2.2⟩)
    (Value.run (F := Ideal) m ρ)

end Cert.Reference3Ideal.Smp

end
-- ==== Proof.SmpRows.lean ====
module

public import proofs.«01_k».proof.Proof.Gen.Kernel3Ideal.Skeleton
public import proofs.«01_k».proof.Proof.SmpConsts
public import Idealize.ShloMosaic.Lib.Pipeline.ValueKit
public import Idealize.ShloMosaic.Lib.Pipeline.ReadBack
public import Idealize.ShloMosaic.Lib.Pointwise

@[expose] public section

set_option maxRecDepth 16384

noncomputable section

/-! What the first of the mixer's two kernels computes of the rows: the products and the decay. A row of a block is
    128·t + b for step `t` of sequence `b`. -/

namespace Cert.Kernel3Ideal.Smp

open Cert.Kernel3Ideal Cert.Kernel3Ideal.Gen Idealize.ShloMosaic Idealize.ShloMosaic.TcCoe Idealize.SL.Sem Cert.Smp

/-- A list of pieces that are all blocks of one array, read where the pieces cover, is that array. -/
theorem readCov_apply {sig : RefSig} {κ : Kind} {sp : Space} {s : Shape} {e : EltTy} {Val : EltTy → Type} [∀ e, Nonempty (Val e)]
    (v : View sig κ sp s e) (G : s.Idx → Val e) (L : List (View.Piece Val s e)) (B : LoadRect s)
    (h : ∀ p ∈ L, ∀ x : p.1.shape.Idx, p.2 x = G (p.1.emb x)) (j : B.shape.Idx) (hc : ∃ p ∈ L, B.idx j ∈ p.1.set) :
    v.readCov L B j = G (B.idx j) := by
  rw [View.readCov_eq_canon']
  exact View.canon_apply_of_pieces G L h _ hc

/-- The sequence and the step of a row. -/
def sq (a : Fin 512) : Fin 128 := ⟨a.val % 128, by omega⟩
def st (a : Fin 512) : Fin 4 := ⟨a.val / 128, by omega⟩

/-- Four blocks of 128 rows, one for each step, are one array. -/
theorem rows4_pieces {n : ℕ} (f : Fin 128 → Fin 4 → Fin n → EReal)
    (i0 : ∀ a, (![0, 0] : Fin 2 → ℕ) a + (![128, n] : Fin 2 → ℕ) a ≤ (⟨2, ![512, n]⟩ : Shape).size a)
    (i1 : ∀ a, (![128, 0] : Fin 2 → ℕ) a + (![128, n] : Fin 2 → ℕ) a ≤ (⟨2, ![512, n]⟩ : Shape).size a)
    (i2 : ∀ a, (![256, 0] : Fin 2 → ℕ) a + (![128, n] : Fin 2 → ℕ) a ≤ (⟨2, ![512, n]⟩ : Shape).size a)
    (i3 : ∀ a, (![384, 0] : Fin 2 → ℕ) a + (![128, n] : Fin 2 → ℕ) a ≤ (⟨2, ![512, n]⟩ : Shape).size a)
    (w0 w1 w2 w3 : FVec Ideal ⟨2, ![128, n]⟩ .f32)
    (h0 : ∀ y : (⟨2, ![128, n]⟩ : Shape).Idx, w0 y = f (y 0) 0 (y 1)) (h1 : ∀ y : (⟨2, ![128, n]⟩ : Shape).Idx, w1 y = f (y 0) 1 (y 1)) (h2 : ∀ y : (⟨2, ![128, n]⟩ : Shape).Idx, w2 y = f (y 0) 2 (y 1))
    (h3 : ∀ y : (⟨2, ![128, n]⟩ : Shape).Idx, w3 y = f (y 0) 3 (y 1)) :
    ∀ p ∈ ([⟨Rect.unit ![384, 0] ![128, n] i3, w3⟩, ⟨Rect.unit ![256, 0] ![128, n] i2, w2⟩,
        ⟨Rect.unit ![128, 0] ![128, n] i1, w1⟩, ⟨Rect.unit ![0, 0] ![128, n] i0, w0⟩] : List (View.Piece (Elt Ideal) ⟨2, ![512, n]⟩ .f32)),
      ∀ x : p.1.shape.Idx, p.2 x = (fun i => f (sq (i 0)) (st (i 0)) (i 1) : FVec Ideal ⟨2, ![512, n]⟩ .f32) (p.1.emb x) := by
  intro p hp y
  simp only [List.mem_cons, List.not_mem_nil, or_false] at hp
  rcases hp with rfl | rfl | rfl | rfl
  · change Shape.Idx ⟨2, ![128, n]⟩ at y
    refine (h3 _).trans ?_
    have b0 : (y 0).val < 128 := (y 0).isLt
    show _ = f (sq ⟨384 + 1 * (y 0).val, _⟩) (st ⟨384 + 1 * (y 0).val, _⟩) ⟨0 + 1 * (y 1).val, _⟩
    congr 1 <;> apply Fin.ext
    · show (y 0).val = (384 + 1 * (y 0).val) % 128; omega
    · show 3 = (384 + 1 * (y 0).val) / 128; omega
    · show (y 1).val = 0 + 1 * (y 1).val; omega
  · change Shape.Idx ⟨2, ![128, n]⟩ at y
    refine (h2 _).trans ?_
    have b0 : (y 0).val < 128 := (y 0).isLt
    show _ = f (sq ⟨256 + 1 * (y 0).val, _⟩) (st ⟨256 + 1 * (y 0).val, _⟩) ⟨0 + 1 * (y 1).val, _⟩
    congr 1 <;> apply Fin.ext
    · show (y 0).val = (256 + 1 * (y 0).val) % 128; omega
    · show 2 = (256 + 1 * (y 0).val) / 128; omega
    · show (y 1).val = 0 + 1 * (y 1).val; omega
  · change Shape.Idx ⟨2, ![128, n]⟩ at y
    refine (h1 _).trans ?_
    have b0 : (y 0).val < 128 := (y 0).isLt
    show _ = f (sq ⟨128 + 1 * (y 0).val, _⟩) (st ⟨128 + 1 * (y 0).val, _⟩) ⟨0 + 1 * (y 1).val, _⟩
    congr 1 <;> apply Fin.ext
    · show (y 0).val = (128 + 1 * (y 0).val) % 128; omega
    · show 1 = (128 + 1 * (y 0).val) / 128; omega
    · show (y 1).val = 0 + 1 * (y 1).val; omega
  · change Shape.Idx ⟨2, ![128, n]⟩ at y
    refine (h0 _).trans ?_
    have b0 : (y 0).val < 128 := (y 0).isLt
    show _ = f (sq ⟨0 + 1 * (y 0).val, _⟩) (st ⟨0 + 1 * (y 0).val, _⟩) ⟨0 + 1 * (y 1).val, _⟩
    congr 1 <;> apply Fin.ext
    · show (y 0).val = (0 + 1 * (y 0).val) % 128; omega
    · show 0 = (0 + 1 * (y 0).val) / 128; omega
    · show (y 1).val = 0 + 1 * (y 1).val; omega

theorem rows4_cover {n : ℕ}
    (i0 : ∀ a, (![0, 0] : Fin 2 → ℕ) a + (![128, n] : Fin 2 → ℕ) a ≤ (⟨2, ![512, n]⟩ : Shape).size a)
    (i1 : ∀ a, (![128, 0] : Fin 2 → ℕ) a + (![128, n] : Fin 2 → ℕ) a ≤ (⟨2, ![512, n]⟩ : Shape).size a)
    (i2 : ∀ a, (![256, 0] : Fin 2 → ℕ) a + (![128, n] : Fin 2 → ℕ) a ≤ (⟨2, ![512, n]⟩ : Shape).size a)
    (i3 : ∀ a, (![384, 0] : Fin 2 → ℕ) a + (![128, n] : Fin 2 → ℕ) a ≤ (⟨2, ![512, n]⟩ : Shape).size a)
    (w0 w1 w2 w3 : FVec Ideal ⟨2, ![128, n]⟩ .f32) (y : (⟨2, ![512, n]⟩ : Shape).Idx) :
    ∃ p ∈ ([⟨Rect.unit ![384, 0] ![128, n] i3, w3⟩, ⟨Rect.unit ![256, 0] ![128, n] i2, w2⟩,
        ⟨Rect.unit ![128, 0] ![128, n] i1, w1⟩, ⟨Rect.unit ![0, 0] ![128, n] i0, w0⟩] : List (View.Piece (Elt Ideal) ⟨2, ![512, n]⟩ .f32)),
      y ∈ p.1.set := by
  have b0 : (y 0).val < 512 := (y 0).isLt
  have b1 : (y 1).val < n := (y 1).isLt
  by_cases c3 : 384 ≤ (y 0).val
  · refine ⟨_, List.mem_cons_self, (Rect.mem_set_unit (inb := i3)).mpr fun c => ?_⟩
    fin_cases c
    · show 384 ≤ (y 0).val ∧ (y 0).val < 384 + 128; omega
    · show 0 ≤ (y 1).val ∧ (y 1).val < 0 + n; omega
  by_cases c2 : 256 ≤ (y 0).val
  · refine ⟨_, List.mem_cons_of_mem _ List.mem_cons_self, (Rect.mem_set_unit (inb := i2)).mpr fun c => ?_⟩
    fin_cases c
    · show 256 ≤ (y 0).val ∧ (y 0).val < 256 + 128; omega
    · show 0 ≤ (y 1).val ∧ (y 1).val < 0 + n; omega
  by_cases c1 : 128 ≤ (y 0).val
  · refine ⟨_, List.mem_cons_of_mem _ (List.mem_cons_of_mem _ List.mem_cons_self), (Rect.mem_set_unit (inb := i1)).mpr fun c => ?_⟩
    fin_cases c
    · show 128 ≤ (y 0).val ∧ (y 0).val < 128 + 128; omega
    · show 0 ≤ (y 1).val ∧ (y 1).val < 0 + n; omega
  · refine ⟨_, List.mem_cons_of_mem _ (List.mem_cons_of_mem _ (List.mem_cons_of_mem _ List.mem_cons_self)), (Rect.mem_set_unit (inb := i0)).mpr fun c => ?_⟩
    fin_cases c
    · show 0 ≤ (y 0).val ∧ (y 0).val < 0 + 128; omega
    · show 0 ≤ (y 1).val ∧ (y 1).val < 0 + n; omega

theorem rows4 {n : ℕ} (f : Fin 128 → Fin 4 → Fin n → EReal)
    (i0 : ∀ a, (![0, 0] : Fin 2 → ℕ) a + (![128, n] : Fin 2 → ℕ) a ≤ (⟨2, ![512, n]⟩ : Shape).size a)
    (i1 : ∀ a, (![128, 0] : Fin 2 → ℕ) a + (![128, n] : Fin 2 → ℕ) a ≤ (⟨2, ![512, n]⟩ : Shape).size a)
    (i2 : ∀ a, (![256, 0] : Fin 2 → ℕ) a + (![128, n] : Fin 2 → ℕ) a ≤ (⟨2, ![512, n]⟩ : Shape).size a)
    (i3 : ∀ a, (![384, 0] : Fin 2 → ℕ) a + (![128, n] : Fin 2 → ℕ) a ≤ (⟨2, ![512, n]⟩ : Shape).size a)
    (w0 w1 w2 w3 : FVec Ideal ⟨2, ![128, n]⟩ .f32)
    (h0 : ∀ y : (⟨2, ![128, n]⟩ : Shape).Idx, w0 y = f (y 0) 0 (y 1)) (h1 : ∀ y : (⟨2, ![128, n]⟩ : Shape).Idx, w1 y = f (y 0) 1 (y 1))
    (h2 : ∀ y : (⟨2, ![128, n]⟩ : Shape).Idx, w2 y = f (y 0) 2 (y 1)) (h3 : ∀ y : (⟨2, ![128, n]⟩ : Shape).Idx, w3 y = f (y 0) 3 (y 1)) :
    View.canon ([⟨Rect.unit ![384, 0] ![128, n] i3, w3⟩, ⟨Rect.unit ![256, 0] ![128, n] i2, w2⟩,
        ⟨Rect.unit ![128, 0] ![128, n] i1, w1⟩, ⟨Rect.unit ![0, 0] ![128, n] i0, w0⟩] : List (View.Piece (Elt Ideal) ⟨2, ![512, n]⟩ .f32))
      = fun i => f (sq (i 0)) (st (i 0)) (i 1) :=
  funext fun y => View.canon_apply_of_pieces (fun i => f (sq (i 0)) (st (i 0)) (i 1)) _ (rows4_pieces f i0 i1 i2 i3 w0 w1 w2 w3 h0 h1 h2 h3) y
    (rows4_cover i0 i1 i2 i3 w0 w1 w2 w3 y)

/-- A sum over 128 places whose terms behind the first sixteen are zero. -/
theorem sum_low (f : Fin 128 → EReal) (h : ∀ r : Fin 128, 16 ≤ r.val → f r = 0) : ∑ r, f r = ∑ r : Fin 16, f ⟨r.val, by omega⟩ := by
  have := Fin.sum_univ_add (M := EReal) (a := 16) (b := 112) f
  refine this.trans ?_
  rw [Finset.sum_eq_zero (s := Finset.univ) (f := fun i : Fin 112 => f (Fin.natAdd 16 i)) (fun r _ => h _ (by show 16 ≤ 16 + r.val; omega)), add_zero]
  rfl

variable (A : Cert.Smp.Args)

/-- The rows, and what is computed of them. -/
def X : Vec Ideal S512x1024 .f32 := fun i => A.x (sq (i 0)) (st (i 0)) (i 1)
def Q : FVec Ideal S512x256 .f32 := fun i => qa A (sq (i 0)) (st (i 0)) (i 1)
def K : FVec Ideal S512x256 .f32 := fun i => ka A (sq (i 0)) (st (i 0)) (i 1)
def W : FVec Ideal S512x512 .f32 := fun i => va A (sq (i 0)) (st (i 0)) (i 1)
def Y : FVec Ideal S512x256 .f32 := fun i => 0 - gate A (sq (i 0)) (st (i 0)) (i 1)
def Cm (t : Fin 4) : FVec Ideal S128x256 .f32 := fun i => cum A (i 0) t (i 1)

variable (x0 : Vec Ideal S128x4x1024 .f32) (x1 : Vec Ideal S1x1024 .f32) (x2 : Vec Ideal S1024x4608 .bf16)
  (x3 : Vec Ideal S128x256 .bf16) (x4 : Vec Ideal S1x256 .f32)

/-- What the kernel is given: the rows, the weights with the gate's columns moved behind the others, the gate's second
    factor padded with rows of zeros, and its bias. -/
structure Holds : Prop where
  x0 : ∀ (b : Fin 128) (t : Fin 4) (k : Fin 1024), x0 (ix3 b t k) = A.x b t k
  x1 : ∀ k : Fin 1024, x1 (ix2 0 k) = A.pre k
  lo : ∀ (k : Fin 1024) (j : Fin 4608) (_ : j.val < 1024), x2 (ix2 k j) = A.w k ⟨j.val, by omega⟩
  hi : ∀ (k : Fin 1024) (j : Fin 4608) (h : 1024 ≤ j.val) (h' : j.val < 4352), x2 (ix2 k j) = A.w k ⟨j.val + 16, by omega⟩
  gt : ∀ (k : Fin 1024) (j : Fin 4608) (h : 4352 ≤ j.val) (h' : j.val < 4368), x2 (ix2 k j) = A.w k ⟨j.val - 3328, by omega⟩
  up : ∀ (r : Fin 128) (j : Fin 256) (h : r.val < 16), x3 (ix2 r j) = A.up ⟨r.val, h⟩ j
  pad : ∀ (r : Fin 128) (j : Fin 256) (h : 16 ≤ r.val), x3 (ix2 r j) = 0
  bg : ∀ j : Fin 256, x4 (ix2 0 j) = A.bg j

variable {A x0 x1 x2 x3 x4}
variable (H : Holds A x0 x1 x2 x3 x4)

include H

theorem scr_eq : (View.whole cc0_scratch0).readCov (Val := Elt Ideal)
    [⟨Rect.unit ![384, 0] ![128, 1024] inb_S512x1024_S128x1024_384_0, k0_pay7 (View.ld x0 (Rect.unit ![0, 3, 0] ![128, 1, 1024] inb_S128x4x1024_S128x1x1024_0_3_0))⟩,
     ⟨Rect.unit ![256, 0] ![128, 1024] inb_S512x1024_S128x1024_256_0, k0_pay6 (View.ld x0 (Rect.unit ![0, 2, 0] ![128, 1, 1024] inb_S128x4x1024_S128x1x1024_0_2_0))⟩,
     ⟨Rect.unit ![128, 0] ![128, 1024] inb_S512x1024_S128x1024_128_0, k0_pay5 (View.ld x0 (Rect.unit ![0, 1, 0] ![128, 1, 1024] inb_S128x4x1024_S128x1x1024_0_1_0))⟩,
     ⟨Rect.unit ![0, 0] ![128, 1024] inb_S512x1024_S128x1024_0_0, k0_pay4 (View.ld x0 (Rect.unit ![0, 0, 0] ![128, 1, 1024] inb_S128x4x1024_S128x1x1024_0_0_0))⟩]
    (Rect.unit ![0, 0] ![512, 1024] inb_S512x1024_S512x1024_0_0).toLoadRect = X A := by
  have h := rows4 (n := 1024) A.x inb_S512x1024_S128x1024_0_0 inb_S512x1024_S128x1024_128_0 inb_S512x1024_S128x1024_256_0 inb_S512x1024_S128x1024_384_0
    (k0_pay4 (View.ld x0 (Rect.unit ![0, 0, 0] ![128, 1, 1024] inb_S128x4x1024_S128x1x1024_0_0_0)))
    (k0_pay5 (View.ld x0 (Rect.unit ![0, 1, 0] ![128, 1, 1024] inb_S128x4x1024_S128x1x1024_0_1_0)))
    (k0_pay6 (View.ld x0 (Rect.unit ![0, 2, 0] ![128, 1, 1024] inb_S128x4x1024_S128x1x1024_0_2_0)))
    (k0_pay7 (View.ld x0 (Rect.unit ![0, 3, 0] ![128, 1, 1024] inb_S128x4x1024_S128x1x1024_0_3_0)))
    (by intro y; idx_vars y; pointwise [k0_pay4]; exact H.x0 _ _ _)
    (by intro y; idx_vars y; pointwise [k0_pay5]; exact H.x0 _ _ _)
    (by intro y; idx_vars y; pointwise [k0_pay6]; exact H.x0 _ _ _)
    (by intro y; idx_vars y; pointwise [k0_pay7]; exact H.x0 _ _ _)
  funext y
  change Shape.Idx ⟨2, ![512, 1024]⟩ at y
  rw [View.readCov_eq_canon']
  refine (congrFun h _).trans ?_
  idx_vars y
  show A.x (sq ⟨0 + 1 * y0.val, _⟩) (st ⟨0 + 1 * y0.val, _⟩) ⟨0 + 1 * y1.val, _⟩ = A.x (sq y0) (st y0) y1
  congr 1 <;> apply Fin.ext
  · show (0 + 1 * y0.val) % 128 = y0.val % 128; omega
  · show (0 + 1 * y0.val) / 128 = y0.val / 128; omega
  · show 0 + 1 * y1.val = y1.val; omega

theorem rms_apply (a : Fin 512) (k : Fin 1024) : k0_pay11 (X A) (k0_pay8 x1) (k0_pay9 (X A)) k0_pay10 (ix2 a k) = Cert.Ffn.rms (A.x (sq a) (st a)) A.pre k := by
  pointwise [k0_pay11, k0_pay8, k0_pay9, k0_pay10]
  unfold Cert.Ffn.rms
  simp only [H.x1]
  rfl

theorem q_eq : k0_pay12 (X A) (k0_pay8 x1) (k0_pay9 (X A)) k0_pay10 (View.ld x2 (Rect.unit ![0, 0] ![1024, 256] inb_S1024x4608_S1024x256_0_0)) = Q A := by
  funext y; idx_vars y
  pointwise [k0_pay12]
  simp only [rms_apply H]
  show _ = qa A (sq y0) (st y0) y1
  unfold qa z
  refine congrArg (fun u => u * _) (Finset.sum_congr rfl fun k _ => ?_)
  exact congrArg _ (H.lo _ _ (by dsimp only; omega))

theorem k_eq : k0_pay13 (X A) (k0_pay8 x1) (k0_pay9 (X A)) k0_pay10 (View.ld x2 (Rect.unit ![0, 256] ![1024, 256] inb_S1024x4608_S1024x256_0_256)) = K A := by
  funext y; idx_vars y
  pointwise [k0_pay13]
  simp only [rms_apply H]
  show _ = ka A (sq y0) (st y0) y1
  unfold ka z
  refine Finset.sum_congr rfl fun k _ => ?_
  exact congrArg _ (H.lo _ _ (by dsimp only; omega))

theorem v_eq : k0_pay14 (X A) (k0_pay8 x1) (k0_pay9 (X A)) k0_pay10 (View.ld x2 (Rect.unit ![0, 512] ![1024, 512] inb_S1024x4608_S1024x512_0_512)) = W A := by
  funext y; idx_vars y
  pointwise [k0_pay14]
  simp only [rms_apply H]
  show _ = va A (sq y0) (st y0) y1
  unfold va z
  refine Finset.sum_congr rfl fun k _ => ?_
  exact congrArg _ (H.lo _ _ (by dsimp only; omega))

theorem qb_eq : k0_pay52 (k0_pay11 (X A) (k0_pay8 x1) (k0_pay9 (X A)) k0_pay10) (View.ld x2 (Rect.unit ![0, 1536] ![1024, 512] inb_S1024x4608_S1024x512_0_1536))
    = fun i => qb A (sq (i 0)) (st (i 0)) (i 1) * (((1 / 8) * (Real.log 2)⁻¹ : ℝ) : EReal) := by
  funext y; idx_vars y
  pointwise [k0_pay52]
  simp only [rms_apply H]
  show _ = qb A (sq y0) (st y0) y1 * _
  unfold qb z
  refine congrArg₂ (fun u v => u * v) (Finset.sum_congr rfl fun k _ => ?_) ?_
  · refine congrArg _ ((H.hi _ _ (by dsimp only; omega) (by dsimp only; omega)).trans ?_)
    congr 1; apply Fin.ext; dsimp only; omega
  · exact IdealRules.named_const.ideal_named_scalar _ _ _ _ rfl

theorem kb_eq : k0_pay53 (k0_pay11 (X A) (k0_pay8 x1) (k0_pay9 (X A)) k0_pay10) (View.ld x2 (Rect.unit ![0, 2048] ![1024, 128] inb_S1024x4608_S1024x128_0_2048))
    = fun i => z A (sq (i 0)) (st (i 0)) ⟨2064 + (i 1).val, by have : (i 1).val < 128 := (i 1).isLt; omega⟩ := by
  funext y; idx_vars y
  pointwise [k0_pay53]
  simp only [rms_apply H]
  show _ = z A (sq y0) (st y0) _
  unfold z
  refine Finset.sum_congr rfl fun k _ => ?_
  refine congrArg _ ((H.hi _ _ (by dsimp only; omega) (by dsimp only; omega)).trans ?_)
  congr 1; apply Fin.ext; dsimp only; show _ = 2064 + y1.val; omega

theorem vb_eq : k0_pay54 (k0_pay11 (X A) (k0_pay8 x1) (k0_pay9 (X A)) k0_pay10) (View.ld x2 (Rect.unit ![0, 2176] ![1024, 128] inb_S1024x4608_S1024x128_0_2176))
    = fun i => z A (sq (i 0)) (st (i 0)) ⟨2192 + (i 1).val, by have : (i 1).val < 128 := (i 1).isLt; omega⟩ := by
  funext y; idx_vars y
  pointwise [k0_pay54]
  simp only [rms_apply H]
  show _ = z A (sq y0) (st y0) _
  unfold z
  refine Finset.sum_congr rfl fun k _ => ?_
  refine congrArg _ ((H.hi _ _ (by dsimp only; omega) (by dsimp only; omega)).trans ?_)
  congr 1; apply Fin.ext; dsimp only; show _ = 2192 + y1.val; omega

theorem y_eq : k0_pay15 (X A) (k0_pay8 x1) (k0_pay9 (X A)) k0_pay10 (View.ld x2 (Rect.unit ![0, 4352] ![1024, 128] inb_S1024x4608_S1024x128_0_4352)) x3 x4 = Y A := by
  funext y; idx_vars y
  pointwise [k0_pay15]
  simp only [rms_apply H]
  show _ = 0 - gate A (sq y0) (st y0) y1
  unfold gate
  refine congrArg (fun u => (0 : EReal) - u) (congrArg₂ (fun u v => u + v) ?_ (H.bg _))
  rw [sum_low _ (fun r hr => by rw [H.pad _ _ hr, mul_zero])]
  refine Finset.sum_congr rfl fun r _ => ?_
  refine congrArg₂ (fun u v => u * v) ?_ (H.up _ _ r.isLt)
  unfold z
  refine Finset.sum_congr rfl fun k _ => ?_
  refine congrArg _ ((H.gt _ _ (by dsimp only; omega) (by dsimp only; omega)).trans ?_)
  congr 1; apply Fin.ext; dsimp only; omega

theorem y16_eq : k0_pay16 (X A) (k0_pay8 x1) (k0_pay9 (X A)) k0_pay10 (View.ld x2 (Rect.unit ![0, 4352] ![1024, 128] inb_S1024x4608_S1024x128_0_4352)) x3 x4
    = fun i => max (Y A i) 0 := by
  funext y; idx_vars y
  pointwise [k0_pay16]
  rw [y_eq H]

theorem y17_eq : k0_pay17 (X A) (k0_pay8 x1) (k0_pay9 (X A)) k0_pay10 (View.ld x2 (Rect.unit ![0, 4352] ![1024, 128] inb_S1024x4608_S1024x128_0_4352)) x3 x4
    = Y A := by
  funext y; idx_vars y
  pointwise [k0_pay17]
  rw [y_eq H]

omit H in
theorem y18_eq : k0_pay18 (X A) (k0_pay8 x1) (k0_pay9 (X A)) k0_pay10 (View.ld x2 (Rect.unit ![0, 4352] ![1024, 128] inb_S1024x4608_S1024x128_0_4352)) x3 x4
    = fun _ => 0#1 := by
  funext y; idx_vars y
  pointwise [k0_pay18]
  rw [decide_eq_false (fun h => h rfl)]
  rfl

omit H in
theorem la_eq (o : Ideal .f32) (a : Fin 512) (j : Fin 256) :
    k0_pay19 (Y A) o (fun i => max (Y A i) 0) (Y A) (fun _ => 0#1) (ix2 a j) = la A (sq a) (st a) j := by
  pointwise [k0_pay19]
  show _ = la A (sq a) (st a) j
  unfold la softplus
  rw [lit_16, lit_sixteenth]
  rw [Ideal.div_coe (by norm_num : (16 : ℝ) ≠ 0)]
  refine congrArg (fun u => u * _) ?_
  show 0 - (max (0 - gate A (sq a) (st a) j) 0 + Ideal.log1p (Ideal.exp (0 - max (0 - gate A (sq a) (st a) j) (-(0 - gate A (sq a) (st a) j))))) = _
  simp only [zero_sub]

omit H in
theorem c0_eq (o : Ideal .f32) : k0_pay20 (Y A) o (fun i => max (Y A i) 0) (Y A) (fun _ => 0#1) = Cm A 0 := by
  funext y; idx_vars y
  pointwise [k0_pay20]
  rw [la_eq]
  show la A (sq _) (st _) y1 = la A y0 0 y1
  congr 1 <;> apply Fin.ext
  · show y0.val % 128 = y0.val; omega
  · show y0.val / 128 = 0; omega

omit H in
theorem c1_eq (o : Ideal .f32) : k0_pay21 (Y A) o (fun i => max (Y A i) 0) (Y A) (fun _ => 0#1) = Cm A 1 := by
  funext y; idx_vars y
  pointwise [k0_pay21]
  rw [la_eq, c0_eq]
  show la A y0 0 y1 + la A (sq _) (st _) y1 = la A y0 0 y1 + la A y0 1 y1
  congr 2 <;> apply Fin.ext
  · show (128 + y0.val) % 128 = y0.val; omega
  · show (128 + y0.val) / 128 = 1; omega

omit H in
theorem c2_eq (o : Ideal .f32) : k0_pay22 (Y A) o (fun i => max (Y A i) 0) (Y A) (fun _ => 0#1) = Cm A 2 := by
  funext y; idx_vars y
  pointwise [k0_pay22]
  rw [la_eq, c1_eq]
  show la A y0 0 y1 + la A y0 1 y1 + la A (sq _) (st _) y1 = la A y0 0 y1 + la A y0 1 y1 + la A y0 2 y1
  congr 2 <;> apply Fin.ext
  · show (256 + y0.val) % 128 = y0.val; omega
  · show (256 + y0.val) / 128 = 2; omega

omit H in
theorem c3_eq (o : Ideal .f32) : k0_pay23 (Y A) o (fun i => max (Y A i) 0) (Y A) (fun _ => 0#1) = Cm A 3 := by
  funext y; idx_vars y
  pointwise [k0_pay23]
  rw [la_eq, c2_eq]
  show la A y0 0 y1 + la A y0 1 y1 + la A y0 2 y1 + la A (sq _) (st _) y1 = la A y0 0 y1 + la A y0 1 y1 + la A y0 2 y1 + la A y0 3 y1
  congr 2 <;> apply Fin.ext
  · show (384 + y0.val) % 128 = y0.val; omega
  · show (384 + y0.val) / 128 = 3; omega

end Cert.Kernel3Ideal.Smp
-- ==== Proof.SmpPre.lean ====
module

public import proofs.«01_k».proof.Proof.SmpRows

@[expose] public section

set_option maxRecDepth 16384

noncomputable section

/-! The steps' products inside the recurrence: a product of a query and a key is summed over a head's lanes by a product
    with a matrix of zeros and ones. -/

namespace Cert.Kernel3Ideal.Smp

open Cert.Kernel3Ideal Cert.Kernel3Ideal.Gen Idealize.ShloMosaic Idealize.ShloMosaic.TcCoe Idealize.SL.Sem Cert.Smp

abbrev E : FVec Ideal S256x512 .bf16 := k0_pay50 (iota Kind.tc S256x512 32 [0] iota_S256x512_d0_w32)
  (iota Kind.tc S256x512 32 [1] iota_S256x512_d1_w32) (64#32) k0_pay47 k0_pay48 k0_pay49

theorem head_row : ∀ r : Fin 256, (Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 r.val) 64#32) 0#32))
          (IntOp.subi (IntOp.divsi ArithUnit.vector (BitVec.ofNat 32 r.val) 64#32) 1#32)
          (IntOp.divsi ArithUnit.vector (BitVec.ofNat 32 r.val) 64#32)) = BitVec.ofNat 32 (r.val / 64) := by decide +kernel

theorem head_col : ∀ c : Fin 512, (Scalar.select
          (IntOp.andi
            (IntOp.cmpi CmpIPredicate.ne
              (IntOp.subi (BitVec.setWidth 32 (IntOp.cmpi CmpIPredicate.sgt (BitVec.ofNat 32 c.val) 0#32))
                (BitVec.setWidth 32 (IntOp.cmpi CmpIPredicate.slt (BitVec.ofNat 32 c.val) 0#32)))
              (Scalar.subi (Scalar.extui (Scalar.cmpi CmpIPredicate.sgt 128#32 0#32))
                (Scalar.extui (Scalar.cmpi CmpIPredicate.slt 128#32 0#32))))
            (IntOp.cmpi CmpIPredicate.ne (IntOp.remsi ArithUnit.vector (BitVec.ofNat 32 c.val) 128#32) 0#32))
          (IntOp.subi (IntOp.divsi ArithUnit.vector (BitVec.ofNat 32 c.val) 128#32) 1#32)
          (IntOp.divsi ArithUnit.vector (BitVec.ofNat 32 c.val) 128#32)) = BitVec.ofNat 32 (c.val / 128) := by decide +kernel

theorem cmp_head : ∀ a b : Fin 4, IntOp.cmpi CmpIPredicate.eq (BitVec.ofNat 32 a.val) (BitVec.ofNat 32 b.val) = if a.val = b.val then 1#1 else 0#1 := by
  decide

theorem E_apply (r : Fin 256) (c : Fin 512) : E (ix2 r c) = if r.val / 64 = c.val / 128 then 1 else 0 := by
  unfold E
  pointwise [k0_pay50, k0_pay47, k0_pay48, k0_pay49]
  have h := cmp_head ⟨r.val / 64, by omega⟩ ⟨c.val / 128, by omega⟩
  rw [head_row, head_col]
  refine (congrArg (fun u => Scalar.select u (1 : EReal) 0) h).trans ?_
  dsimp only
  split <;> rfl

/-- A sum over the lanes of one head. -/
theorem sum_lanes (f : Fin 256 → EReal) (h : ℕ) (hh : h < 4) :
    ∑ x : Fin 256, (if x.val / 64 = h then f x else 0) = ∑ d : Fin 64, f (lane ⟨h, hh⟩ d) := by
  rw [← Finset.sum_filter]
  refine Finset.sum_nbij' (fun x => ⟨x.val % 64, by omega⟩) (fun d => lane ⟨h, hh⟩ d) ?_ ?_ ?_ ?_ ?_
  · intro x _; exact Finset.mem_univ _
  · intro d _
    rw [Finset.mem_filter]
    exact ⟨Finset.mem_univ _, by show (h * 64 + d.val) / 64 = h; omega⟩
  · intro x hx
    rw [Finset.mem_filter] at hx
    apply Fin.ext
    show h * 64 + x.val % 64 = x.val
    omega
  · intro d _
    apply Fin.ext
    show (h * 64 + d.val) % 64 = d.val
    omega
  · intro x hx
    rw [Finset.mem_filter] at hx
    refine congrArg f (Fin.ext ?_)
    show x.val = h * 64 + x.val % 64
    omega

variable (A : Cert.Smp.Args)

/-- A step's query times an earlier step's key, decayed, lane by lane. -/
def P (t j : Fin 4) : FVec Ideal S128x256 .bf16 := fun i =>
  qa A (i 0) t (i 1) * ka A (i 0) j (i 1) * Ideal.exp (cum A (i 0) t (i 1) - cum A (i 0) j (i 1))

variable {A}

theorem Q_row (t : Fin 4) (b : Fin 128) (j : Fin 256) (a : Fin 512) (h : a.val = 128 * t.val + b.val) : Q A (ix2 a j) = qa A b t j := by
  show qa A (sq a) (st a) j = _
  congr 1 <;> apply Fin.ext
  · show a.val % 128 = _; omega
  · show a.val / 128 = _; omega

theorem K_row (t : Fin 4) (b : Fin 128) (j : Fin 256) (a : Fin 512) (h : a.val = 128 * t.val + b.val) : K A (ix2 a j) = ka A b t j := by
  show ka A (sq a) (st a) j = _
  congr 1 <;> apply Fin.ext
  · show a.val % 128 = _; omega
  · show a.val / 128 = _; omega

theorem W_row (t : Fin 4) (b : Fin 128) (j : Fin 512) (a : Fin 512) (h : a.val = 128 * t.val + b.val) : W A (ix2 a j) = va A b t j := by
  show va A (sq a) (st a) j = _
  congr 1 <;> apply Fin.ext
  · show a.val % 128 = _; omega
  · show a.val / 128 = _; omega

theorem p00 : k0_pay35 (Q A) (K A) (Cm A 0) = P A 0 0 := by
  funext y; idx_vars y
  pointwise [k0_pay35]
  rw [Q_row 0 y0 y1 _ (by show y0.val = 128 * 0 + y0.val; omega), K_row 0 y0 y1 _ (by show y0.val = 128 * 0 + y0.val; omega)]
  rfl

theorem p10 : k0_pay36 (Q A) (K A) (Cm A 0) (Cm A 1) = P A 1 0 := by
  funext y; idx_vars y
  pointwise [k0_pay36]
  rw [Q_row 1 y0 y1 _ rfl, K_row 0 y0 y1 _ (by show y0.val = 128 * 0 + y0.val; omega)]
  rfl

theorem p11 : k0_pay37 (Q A) (K A) (Cm A 1) = P A 1 1 := by
  funext y; idx_vars y
  pointwise [k0_pay37]
  rw [Q_row 1 y0 y1 _ rfl, K_row 1 y0 y1 _ rfl]
  rfl

theorem p20 : k0_pay38 (Q A) (K A) (Cm A 0) (Cm A 2) = P A 2 0 := by
  funext y; idx_vars y
  pointwise [k0_pay38]
  rw [Q_row 2 y0 y1 _ rfl, K_row 0 y0 y1 _ (by show y0.val = 128 * 0 + y0.val; omega)]
  rfl

theorem p21 : k0_pay41 (k0_pay39 (Q A) (K A)) (k0_pay40 (Cm A 1) (Cm A 2)) = P A 2 1 := by
  funext y; idx_vars y
  pointwise [k0_pay41, k0_pay39, k0_pay40]
  rw [Q_row 2 y0 y1 _ rfl, K_row 1 y0 y1 _ rfl]
  rfl

theorem p22 : k0_pay42 (Q A) (K A) (Cm A 2) = P A 2 2 := by
  funext y; idx_vars y
  pointwise [k0_pay42]
  rw [Q_row 2 y0 y1 _ rfl, K_row 2 y0 y1 _ rfl]
  rfl

theorem p30 : k0_pay43 (Q A) (K A) (Cm A 0) (Cm A 3) = P A 3 0 := by
  funext y; idx_vars y
  pointwise [k0_pay43]
  rw [Q_row 3 y0 y1 _ rfl, K_row 0 y0 y1 _ (by show y0.val = 128 * 0 + y0.val; omega)]
  rfl

theorem p31 : k0_pay44 (Q A) (K A) (Cm A 1) (Cm A 3) = P A 3 1 := by
  funext y; idx_vars y
  pointwise [k0_pay44]
  rw [Q_row 3 y0 y1 _ rfl, K_row 1 y0 y1 _ rfl]
  rfl

theorem p32 : k0_pay45 (Q A) (K A) (Cm A 2) (Cm A 3) = P A 3 2 := by
  funext y; idx_vars y
  pointwise [k0_pay45]
  rw [Q_row 3 y0 y1 _ rfl, K_row 2 y0 y1 _ rfl]
  rfl

theorem p33 : k0_pay46 (Q A) (K A) (Cm A 3) = P A 3 3 := by
  funext y; idx_vars y
  pointwise [k0_pay46]
  rw [Q_row 3 y0 y1 _ rfl, K_row 3 y0 y1 _ rfl]
  rfl

theorem P_row (t j : Fin 4) (b a : Fin 128) (x : Fin 256) (h : a.val = b.val) :
    P A t j (ix2 a x) = qa A b t x * ka A b j x * Ideal.exp (cum A b t x - cum A b j x) := by
  obtain rfl := Fin.ext h
  rfl

theorem att_apply (t j : Fin 4) (b : Fin 128) (c : Fin 512) (v : Fin 1280) (hv : v.val = 128 * (t.val * (t.val + 1) / 2 + j.val) + b.val) (hjt : j ≤ t) :
    k0_pay55 (P A 0 0) (P A 1 0) (P A 1 1) (P A 2 0) (P A 2 1) (P A 2 2) (P A 3 0) (P A 3 1) (P A 3 2) (P A 3 3) E (ix2 v c) =
      att A b ⟨c.val / 128, by omega⟩ t j := by
  unfold k0_pay55
  pointwise
  simp only [E_apply]
  unfold att
  rw [← sum_lanes (fun x => qa A b t x * ka A b j x * Ideal.exp (if j ≤ t then cum A b t x - cum A b j x else ⊥)) (c.val / 128) (by omega)]
  refine Finset.sum_congr rfl fun x _ => ?_
  have hb := b.isLt
  rw [mul_ite, mul_one, mul_zero, if_pos hjt]
  refine if_congr Iff.rfl ?_ rfl
  fin_cases t <;> fin_cases j <;> first | exact absurd hjt (by decide) | skip
  all_goals
    dsimp only [] at hv
    simp only [Nat.reduceMul, Nat.reduceAdd, Nat.reduceDiv] at hv
  all_goals (repeat rw [dif_neg (by omega)])
  all_goals (try rw [dif_pos (by omega)])
  all_goals exact P_row _ _ b _ x (by dsimp only; omega)

/-- No step attends to a later one. -/
theorem att_later (b : Fin 128) (h : Fin 4) (t j : Fin 4) (hj : ¬ j ≤ t) : att A b h t j = 0 := by
  unfold att
  refine Finset.sum_eq_zero fun d _ => ?_
  rw [if_neg hj]
  show _ * Ideal.exp ⊥ = 0
  rw [show Ideal.exp ⊥ = 0 from rfl, mul_zero]

/-- What step `t` attends to among the new steps. -/
def inner (A : Cert.Smp.Args) (b : Fin 128) (t : Fin 4) (c : Fin 512) : EReal := ∑ j, att A b ⟨c.val / 128, by omega⟩ t j * va A b j c

theorem inner0 (b : Fin 128) (c : Fin 512) : k0_pay58 (W A) (P A 0 0) (P A 1 0) (P A 1 1) (P A 2 0) (P A 2 1) (P A 2 2) (P A 3 0) (P A 3 1) (P A 3 2) (P A 3 3) E (ix2 b c) = inner A b 0 c := by
  pointwise [k0_pay58]
  rw [att_apply 0 0 b c _ (by show b.val = 0 + b.val; omega) (by decide), W_row 0 b c _ (by show b.val = 128 * 0 + b.val; omega)]
  unfold inner
  rw [Fin.sum_univ_four, att_later b _ 0 1 (by decide), att_later b _ 0 2 (by decide), att_later b _ 0 3 (by decide)]
  simp only [zero_mul, add_zero]

theorem inner1 (b : Fin 128) (c : Fin 512) : k0_pay1 (W A) (k0_pay55 (P A 0 0) (P A 1 0) (P A 1 1) (P A 2 0) (P A 2 1) (P A 2 2) (P A 3 0) (P A 3 1) (P A 3 2) (P A 3 3) E) (ix2 b c) = inner A b 1 c := by
  pointwise [k0_pay1]
  rw [att_apply 1 0 b c _ rfl (by decide), W_row 0 b c _ (by show b.val = 128 * 0 + b.val; omega)]
  rw [att_apply 1 1 b c _ rfl (by decide), W_row 1 b c _ rfl]
  unfold inner
  rw [Fin.sum_univ_four, att_later b _ 1 2 (by decide), att_later b _ 1 3 (by decide)]
  simp only [zero_mul, add_zero]

theorem inner2 (b : Fin 128) (c : Fin 512) : k0_pay2 (W A) (k0_pay55 (P A 0 0) (P A 1 0) (P A 1 1) (P A 2 0) (P A 2 1) (P A 2 2) (P A 3 0) (P A 3 1) (P A 3 2) (P A 3 3) E) (ix2 b c) = inner A b 2 c := by
  pointwise [k0_pay2]
  rw [att_apply 2 0 b c _ rfl (by decide), W_row 0 b c _ (by show b.val = 128 * 0 + b.val; omega)]
  rw [att_apply 2 1 b c _ rfl (by decide), W_row 1 b c _ rfl]
  rw [att_apply 2 2 b c _ rfl (by decide), W_row 2 b c _ rfl]
  unfold inner
  rw [Fin.sum_univ_four, att_later b _ 2 3 (by decide)]
  simp only [zero_mul, add_zero]

theorem inner3 (b : Fin 128) (c : Fin 512) : k0_pay3 (W A) (k0_pay55 (P A 0 0) (P A 1 0) (P A 1 1) (P A 2 0) (P A 2 1) (P A 2 2) (P A 3 0) (P A 3 1) (P A 3 2) (P A 3 3) E) (ix2 b c) = inner A b 3 c := by
  pointwise [k0_pay3]
  rw [att_apply 3 0 b c _ rfl (by decide), W_row 0 b c _ (by show b.val = 128 * 0 + b.val; omega)]
  rw [att_apply 3 1 b c _ rfl (by decide), W_row 1 b c _ rfl]
  rw [att_apply 3 2 b c _ rfl (by decide), W_row 2 b c _ rfl]
  rw [att_apply 3 3 b c _ rfl (by decide), W_row 3 b c _ rfl]
  unfold inner
  rw [Fin.sum_univ_four]

end Cert.Kernel3Ideal.Smp
-- ==== Proof.SmpPreOut.lean ====
module

public import proofs.«01_k».proof.Proof.Gen.Kernel3Ideal.Frame
public import proofs.«01_k».proof.Proof.SmpPre

@[expose] public section

set_option maxRecDepth 16384

noncomputable section

/-! What the first of the mixer's two kernels leaves in its outputs. -/

namespace Cert.Kernel3Ideal.Smp

open Cert.Kernel3Ideal Cert.Kernel3Ideal.Gen Idealize.ShloMosaic Idealize.ShloMosaic.TcCoe Idealize.SL.Sem Cert.Smp

variable {V : (c : Dev nD) → (r : Ref sig .tc) → Buf (Elt Ideal) ((c.tc : Thread nD τ).loc r)} {c : Dev nD} {t : Fin cfg0.N} {A : Cert.Smp.Args}
  (H : Holds A (iblk0 V c 0 t) (iblk0 V c 1 t) (iblk0 V c 2 t) (iblk0 V c 3 t) (iblk0 V c 4 t))
include H

theorem out_qe : (outsAt0 V c t).1 = fun i => qa A (sq (i 0)) (st (i 0)) (i 1) * Ideal.exp (cum A (sq (i 0)) (st (i 0)) (i 1)) := by
  unfold outsAt0
  frame_out
  simp only [read_unread_whole, scr_eq H, q_eq H, y_eq H, y16_eq H, y17_eq H, y18_eq, c3_eq]
  refine rows4 (n := 256) (fun b t j => qa A b t j * Ideal.exp (cum A b t j)) _ _ _ _ _ _ _ _ ?_ ?_ ?_ ?_
  · intro y; idx_vars y
    pointwise [k0_pay25]
    rw [c0_eq, Q_row 0 y0 y1 _ (by show y0.val = 128 * 0 + y0.val; omega)]
    rfl
  · intro y; idx_vars y
    pointwise [k0_pay27]
    rw [c1_eq, Q_row 1 y0 y1 _ rfl]
    rfl
  · intro y; idx_vars y
    pointwise [k0_pay31, k0_pay30, k0_pay29]
    rw [c2_eq, Q_row 2 y0 y1 _ rfl]
    rfl
  · intro y; idx_vars y
    pointwise [k0_pay33]
    rw [Q_row 3 y0 y1 _ rfl]
    rfl

theorem out_kl : (outsAt0 V c t).2.1 = fun i => ka A (sq (i 0)) (st (i 0)) (i 1) * Ideal.exp (cum A (sq (i 0)) 3 (i 1) - cum A (sq (i 0)) (st (i 0)) (i 1)) := by
  unfold outsAt0
  frame_out
  simp only [read_unread_whole, scr_eq H, k_eq H, y_eq H, y16_eq H, y17_eq H, y18_eq, c3_eq, c2_eq]
  refine rows4 (n := 256) (fun b t j => ka A b t j * Ideal.exp (cum A b 3 j - cum A b t j)) _ _ _ _ _ _ _ _ ?_ ?_ ?_ ?_
  · intro y; idx_vars y
    pointwise [k0_pay26]
    rw [c0_eq, c3_eq, K_row 0 y0 y1 _ (by show y0.val = 128 * 0 + y0.val; omega)]
    rfl
  · intro y; idx_vars y
    pointwise [k0_pay28]
    rw [c1_eq, c3_eq, K_row 1 y0 y1 _ rfl]
    rfl
  · intro y; idx_vars y
    pointwise [k0_pay32]
    rw [K_row 2 y0 y1 _ rfl]
    rfl
  · intro y; idx_vars y
    pointwise [k0_pay34]
    rw [K_row 3 y0 y1 _ rfl]
    rfl

theorem out_e3 : (outsAt0 V c t).2.2.1 = fun i => Ideal.exp (cum A (i 0) 3 (i 1)) := by
  unfold outsAt0
  frame_out
  simp only [read_unread_whole, scr_eq H, y_eq H, y16_eq H, y17_eq H, y18_eq]
  funext y; idx_vars y
  pointwise [k0_pay24]
  rw [c3_eq]
  rfl

theorem out_oin : (outsAt0 V c t).2.2.2.1 = fun i => inner A (sq (i 0)) (st (i 0)) (i 1) := by
  unfold outsAt0
  frame_out
  simp only [read_unread_whole, scr_eq H, q_eq H, k_eq H, v_eq H, y_eq H, y16_eq H, y17_eq H, y18_eq, c0_eq, c1_eq, c2_eq, c3_eq,
    p00, p10, p11, p20, p21, p22, p30, p31, p32, p33]
  refine rows4 (n := 512) (inner A) _ _ _ _ _ _ _ _ ?_ ?_ ?_ ?_
  · intro y; idx_vars y; exact inner0 y0 y1
  · intro y; idx_vars y; exact inner1 y0 y1
  · intro y; idx_vars y; exact inner2 y0 y1
  · intro y; idx_vars y; exact inner3 y0 y1

theorem out_va : (outsAt0 V c t).2.2.2.2.1 = W A := by
  unfold outsAt0
  frame_out
  simp only [read_unread_whole, scr_eq H, v_eq H]

theorem out_qb : (outsAt0 V c t).2.2.2.2.2.2.1 = fun i => qb A (sq (i 0)) (st (i 0)) (i 1) * (((1 / 8) * (Real.log 2)⁻¹ : ℝ) : EReal) := by
  unfold outsAt0
  frame_out
  simp only [read_unread_whole, scr_eq H, qb_eq H]

theorem out_kb : (outsAt0 V c t).2.2.2.2.2.2.2.1 = fun i => z A (sq (i 0)) (st (i 0)) ⟨2064 + (i 1).val, by have : (i 1).val < 128 := (i 1).isLt; omega⟩ := by
  unfold outsAt0
  frame_out
  simp only [read_unread_whole, scr_eq H, kb_eq H]

theorem out_vb : (outsAt0 V c t).2.2.2.2.2.2.2.2.1 = fun i => z A (sq (i 0)) (st (i 0)) ⟨2192 + (i 1).val, by have : (i 1).val < 128 := (i 1).isLt; omega⟩ := by
  unfold outsAt0
  frame_out
  simp only [read_unread_whole, scr_eq H, vb_eq H]

end Cert.Kernel3Ideal.Smp
-- ==== Proof.SmpHost.lean ====
module

public import proofs.«01_k».proof.Proof.SmpPreOut
public import Idealize.ShloMosaic.Lib.Routing.OpsOne
public import Idealize.ShloMosaic.Lib.StableHlo.RunRead

@[expose] public section

set_option maxRecDepth 16384

noncomputable section

/-! What the host prepares for the first of the mixer's two kernels. -/

namespace Cert.Kernel3Ideal.Smp

open Cert.Kernel3Ideal Cert.Kernel3Ideal.Gen Idealize.ShloMosaic Idealize.ShloMosaic.TcCoe Idealize.SL.Sem Cert.Smp
open Idealize.ShloMosaic.Pipeline (Dat)
open Idealize.ShloMosaic.Routing

variable (m : (ℓ : Loc nD τ sig) → Buf (Elt Ideal) ℓ) (ρ : Dev nD → PrngReg)

/-- The arguments of the call. -/
def args (c : Dev nD) : Cert.Smp.Args :=
  Cert.Smp.Args.of (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

theorem V_pre (c : Dev nD) (k : Fin 1024) : (V1 m ρ c main_v15 : S1x1024.Idx → Elt Ideal .f32) (ix2 0 k) = (args m c).pre k := by
  unfold V1 W1
  entry_read
  pointwise
  rfl

theorem V_bg (c : Dev nD) (k : Fin 256) : (V1 m ρ c main_v13 : S1x256.Idx → Elt Ideal .f32) (ix2 0 k) = (args m c).bg k := by
  unfold V1 W1
  entry_read
  pointwise
  rfl

theorem V_v1 (c : Dev nD) (k : Fin 1024) (j : Fin 1024) :
    (StableHlo.upto hostOps0 (W0 m ρ c) 6 main_v1 : S1024x1024.Idx → Elt Ideal .f32) (ix2 k j) = (args m c).w k ⟨j.val, by omega⟩ := by
  show StableHlo.after (hostOps0.take 6) (W0 m ρ c) main_v1 (ix2 k j) = _
  simp only [List.take]
  entry_read
  pointwise
  rfl

theorem V_v2 (c : Dev nD) (k : Fin 1024) (j : Fin 3328) :
    (StableHlo.upto hostOps0 (W0 m ρ c) 6 main_v2 : S1024x3328.Idx → Elt Ideal .f32) (ix2 k j) = (args m c).w k ⟨1040 + j.val, by omega⟩ := by
  show StableHlo.after (hostOps0.take 6) (W0 m ρ c) main_v2 (ix2 k j) = _
  simp only [List.take]
  entry_read
  pointwise
  rfl

theorem V_v3 (c : Dev nD) (k : Fin 1024) (j : Fin 16) :
    (StableHlo.upto hostOps0 (W0 m ρ c) 6 main_v3 : S1024x16.Idx → Elt Ideal .f32) (ix2 k j) = (args m c).w k ⟨1024 + j.val, by omega⟩ := by
  show StableHlo.after (hostOps0.take 6) (W0 m ρ c) main_v3 (ix2 k j) = _
  simp only [List.take]
  entry_read
  pointwise
  rfl

theorem V_v4 (c : Dev nD) (k : Fin 1024) (j : Fin 240) :
    (StableHlo.upto hostOps0 (W0 m ρ c) 6 main_v4 : S1024x240.Idx → Elt Ideal .f32) (ix2 k j) = (0 : EReal) := by
  show StableHlo.after (hostOps0.take 6) (W0 m ρ c) main_v4 (ix2 k j) = _
  simp only [List.take]
  entry_read
  pointwise

theorem cat_apply (x1 : FVec Ideal S1024x1024 .f32) (x2 : FVec Ideal S1024x3328 .f32) (x3 : FVec Ideal S1024x16 .f32)
    (x4 : FVec Ideal S1024x240 .f32) (k : Fin 1024) (j : Fin 4608) :
    truncf .bf16 (concatenate S1024x4608 1 [⟨S1024x1024, x1⟩, ⟨S1024x3328, x2⟩, ⟨S1024x16, x3⟩, ⟨S1024x240, x4⟩]
      concatenates_S1024x1024_S1024x3328_S1024x16_S1024x240_S1024x4608_d1) bitsLt_bf16_f32 (ix2 k j)
    = if h : j.val < 1024 then x1 (ix2 k ⟨j.val, h⟩) else if h' : j.val - 1024 < 3328 then x2 (ix2 k ⟨j.val - 1024, h'⟩)
      else if h'' : j.val - 1024 - 3328 < 16 then x3 (ix2 k ⟨j.val - 1024 - 3328, h''⟩)
      else x4 (ix2 k ⟨j.val - 1024 - 3328 - 16, by omega⟩) := by
  pointwise

theorem V_cat (c : Dev nD) : (V1 m ρ c main_v6 : S1024x4608.Idx → Elt Ideal .bf16)
    = truncf (F := Ideal) (φ := .f32) .bf16 (concatenate S1024x4608 1 [⟨S1024x1024, (StableHlo.upto hostOps0 (W0 m ρ c) 6 main_v1 : S1024x1024.Idx → Elt Ideal .f32)⟩,
      ⟨S1024x3328, (StableHlo.upto hostOps0 (W0 m ρ c) 6 main_v2 : S1024x3328.Idx → Elt Ideal .f32)⟩,
      ⟨S1024x16, (StableHlo.upto hostOps0 (W0 m ρ c) 6 main_v3 : S1024x16.Idx → Elt Ideal .f32)⟩,
      ⟨S1024x240, (StableHlo.upto hostOps0 (W0 m ρ c) 6 main_v4 : S1024x240.Idx → Elt Ideal .f32)⟩]
      concatenates_S1024x1024_S1024x3328_S1024x16_S1024x240_S1024x4608_d1) bitsLt_bf16_f32 := by
  refine (StableHlo.after_last_write (ops := hostOps0) (i := 7) [main_cst_0, main_v7, main_v8, main_c, main_v9, main_v10, main_v11, main_v12, main_v13,
    main_v14, main_v15] rfl rfl (by decide) (W0 m ρ c)).trans ?_
  refine (StableHlo.unary_result ..).trans ?_
  refine congrArg (fun x : FVec Ideal S1024x4608 .f32 => truncf .bf16 x bitsLt_bf16_f32) ?_
  refine (StableHlo.upto_last_write (ops := hostOps0) (n := 7) (i := 6) [] rfl rfl (by decide) (W0 m ρ c)).trans ?_
  exact StableHlo.nary_result ..

theorem V_w (c : Dev nD) (k : Fin 1024) (j : Fin 4608) :
    (V1 m ρ c main_v6 : S1024x4608.Idx → Elt Ideal .bf16) (ix2 k j) = if h : j.val < 1024 then (args m c).w k ⟨j.val, by omega⟩ else
      if h : j.val < 4352 then (args m c).w k ⟨j.val + 16, by omega⟩ else if h : j.val < 4368 then (args m c).w k ⟨j.val - 3328, by omega⟩ else 0 := by
  refine (congrFun (V_cat m ρ c) (ix2 k j)).trans ((cat_apply _ _ _ _ k j).trans ?_)
  by_cases h : j.val < 1024
  · rw [dif_pos h, dif_pos h]; exact V_v1 m ρ c k ⟨j.val, h⟩
  by_cases h' : j.val < 4352
  · rw [dif_neg h, dif_neg h, dif_pos (by omega), dif_pos h']
    exact (V_v2 m ρ c k ⟨j.val - 1024, by omega⟩).trans (congrArg ((args m c).w k) (Fin.ext (by show 1040 + (j.val - 1024) = j.val + 16; omega)))
  by_cases h'' : j.val < 4368
  · rw [dif_neg h, dif_neg h, dif_neg (by omega), dif_neg h', dif_pos (by omega), dif_pos h'']
    exact (V_v3 m ρ c k ⟨j.val - 1024 - 3328, by omega⟩).trans (congrArg ((args m c).w k) (Fin.ext (by show 1024 + (j.val - 1024 - 3328) = j.val - 3328; omega)))
  · rw [dif_neg h, dif_neg h, dif_neg (by omega), dif_neg h', dif_neg (by omega), dif_neg h'']
    exact V_v4 m ρ c k _

theorem lands (idx : IVec S1 32) (hi : (idx (ix1 0)).toInt = 0) (r' : Fin 16) (j' : Fin 256) (r : Fin 128) (j : Fin 256) :
    scatter_S128x256_S1_S16x256_01_n_0_0.resultIdx? (ix2 r' j') idx = some (ix2 r j) ↔ r'.val = r.val ∧ j'.val = j.val := by
  have hm : (0 : Fin 2) ∈ scatter_S128x256_S1_S16x256_01_n_0_0.scatterDimsToOperandDims := List.mem_singleton.2 rfl
  have w0 : scatter_S128x256_S1_S16x256_01_n_0_0.window (ix2 r' j') 0 = r'.val := rfl
  have w1 : scatter_S128x256_S1_S16x256_01_n_0_0.window (ix2 r' j') 1 = j'.val := rfl
  have s1 : scatter_S128x256_S1_S16x256_01_n_0_0.start (ix2 r' j') idx 1 = 0 := rfl
  have s0 : scatter_S128x256_S1_S16x256_01_n_0_0.start (ix2 r' j') idx 0 = 0 := by
    unfold ScatterDims.start
    rw [dif_pos hm, ← hi]
    congr 2
    funext b
    match b with
    | ⟨0, _⟩ => exact Subsingleton.elim (α := Fin 1) _ _
  refine (resultIdx?_ix2 (R := 128) (C := 256) scatter_S128x256_S1_S16x256_01_n_0_0 (ix2 r' j') idx r j).trans ?_
  rw [s0, w0, s1, w1]
  omega

theorem V_up (c : Dev nD) (r : Fin 128) (j : Fin 256) :
    (V1 m ρ c main_v11 : S128x256.Idx → Elt Ideal .bf16) (ix2 r j) = if h : r.val < 16 then (args m c).up ⟨r.val, h⟩ j else (0 : EReal) := by
  unfold V1 W1
  entry_read
  pointwise
  have L := lands (broadcastInDim S1 ![] bcast_S_S1 (constantI S_ 32 0#32)) rfl
  split
  · next h =>
    refine Routing.scatter_set_hit _ _ _ _ _ _ (fun k hk => ?_) (ix2 (⟨r.val, h⟩ : Fin 16) j) ((L _ _ _ _).2 ⟨rfl, rfl⟩)
    idx_vars k
    obtain ⟨e0, e1⟩ := (L _ _ _ _).1 hk
    obtain rfl : k0 = ⟨r.val, h⟩ := Fin.ext e0
    obtain rfl : k1 = j := Fin.ext e1
    rfl
  · next h =>
    refine (Routing.scatter_set_miss _ _ _ _ _ (fun k hk => ?_)).trans ?_
    · idx_vars k
      have e0 := ((L _ _ _ _).1 hk).1
      have := k0.isLt
      omega
    · pointwise

theorem off0_0 : ∀ (t : Fin cfg0.N) (a : Fin 3), win0_0.index t a = (![0, 0, 0] : Fin 3 → ℕ) a :=
  (by decide +kernel : ∀ (t : Fin grid0.N) (a : Fin 3), _)
theorem off0_1 : ∀ (t : Fin cfg0.N) (a : Fin 2), win0_1.index t a = (![0, 0] : Fin 2 → ℕ) a :=
  (by decide +kernel : ∀ (t : Fin grid0.N) (a : Fin 2), _)
theorem off0_2 : ∀ (t : Fin cfg0.N) (a : Fin 2), win0_2.index t a = (![0, 0] : Fin 2 → ℕ) a :=
  (by decide +kernel : ∀ (t : Fin grid0.N) (a : Fin 2), _)
theorem off0_3 : ∀ (t : Fin cfg0.N) (a : Fin 2), win0_3.index t a = (![0, 0] : Fin 2 → ℕ) a :=
  (by decide +kernel : ∀ (t : Fin grid0.N) (a : Fin 2), _)
theorem off0_4 : ∀ (t : Fin cfg0.N) (a : Fin 2), win0_4.index t a = (![0, 0] : Fin 2 → ℕ) a :=
  (by decide +kernel : ∀ (t : Fin grid0.N) (a : Fin 2), _)

theorem blk0_0 (c : Dev nD) (t : Fin cfg0.N) (a : Fin 128) (b : Fin 4) (k : Fin 1024) :
    (iblk0 (V1 m ρ) c 0 t : S128x4x1024.Idx → Elt Ideal .f32) (ix3 a b k) = (V1 m ρ c main_arg0 : S128x4x1024.Idx → Elt Ideal .f32) (ix3 a b k) := by
  show (V1 m ρ c main_arg0 : S128x4x1024.Idx → Elt Ideal .f32) ((win0_0.rect t).emb (ix3 a b k)) = _
  congr 1
  funext x; apply Fin.ext
  rw [Pipeline.Window.rect_emb_val_off, off0_0]
  fin_cases x
  · exact Nat.zero_add _
  · exact Nat.zero_add _
  · exact Nat.zero_add _

theorem blk0_1 (c : Dev nD) (t : Fin cfg0.N) (a : Fin 1) (b : Fin 1024) :
    (iblk0 (V1 m ρ) c 1 t : S1x1024.Idx → Elt Ideal .f32) (ix2 a b) = (V1 m ρ c main_v15 : S1x1024.Idx → Elt Ideal .f32) (ix2 a b) := by
  show (V1 m ρ c main_v15 : S1x1024.Idx → Elt Ideal .f32) ((win0_1.rect t).emb (ix2 a b)) = _
  congr 1
  funext x; apply Fin.ext
  rw [Pipeline.Window.rect_emb_val_off, off0_1]
  fin_cases x
  · exact Nat.zero_add _
  · exact Nat.zero_add _

theorem blk0_2 (c : Dev nD) (t : Fin cfg0.N) (a : Fin 1024) (b : Fin 4608) :
    (iblk0 (V1 m ρ) c 2 t : S1024x4608.Idx → Elt Ideal .bf16) (ix2 a b) = (V1 m ρ c main_v6 : S1024x4608.Idx → Elt Ideal .bf16) (ix2 a b) := by
  show (V1 m ρ c main_v6 : S1024x4608.Idx → Elt Ideal .bf16) ((win0_2.rect t).emb (ix2 a b)) = _
  congr 1
  funext x; apply Fin.ext
  rw [Pipeline.Window.rect_emb_val_off, off0_2]
  fin_cases x
  · exact Nat.zero_add _
  · exact Nat.zero_add _

theorem blk0_3 (c : Dev nD) (t : Fin cfg0.N) (a : Fin 128) (b : Fin 256) :
    (iblk0 (V1 m ρ) c 3 t : S128x256.Idx → Elt Ideal .bf16) (ix2 a b) = (V1 m ρ c main_v11 : S128x256.Idx → Elt Ideal .bf16) (ix2 a b) := by
  show (V1 m ρ c main_v11 : S128x256.Idx → Elt Ideal .bf16) ((win0_3.rect t).emb (ix2 a b)) = _
  congr 1
  funext x; apply Fin.ext
  rw [Pipeline.Window.rect_emb_val_off, off0_3]
  fin_cases x
  · exact Nat.zero_add _
  · exact Nat.zero_add _

theorem blk0_4 (c : Dev nD) (t : Fin cfg0.N) (a : Fin 1) (b : Fin 256) :
    (iblk0 (V1 m ρ) c 4 t : S1x256.Idx → Elt Ideal .f32) (ix2 a b) = (V1 m ρ c main_v13 : S1x256.Idx → Elt Ideal .f32) (ix2 a b) := by
  show (V1 m ρ c main_v13 : S1x256.Idx → Elt Ideal .f32) ((win0_4.rect t).emb (ix2 a b)) = _
  congr 1
  funext x; apply Fin.ext
  rw [Pipeline.Window.rect_emb_val_off, off0_4]
  fin_cases x
  · exact Nat.zero_add _
  · exact Nat.zero_add _

theorem V_x (c : Dev nD) (a : Fin 128) (b : Fin 4) (k : Fin 1024) :
    (V1 m ρ c main_arg0 : S128x4x1024.Idx → Elt Ideal .f32) (ix3 a b k) = (args m c).x a b k := by
  unfold V1 W1
  entry_read
  rfl

/-- What the first kernel reads. -/
theorem holds (c : Dev nD) (t : Fin cfg0.N) :
    Holds (args m c) (iblk0 (V1 m ρ) c 0 t) (iblk0 (V1 m ρ) c 1 t) (iblk0 (V1 m ρ) c 2 t) (iblk0 (V1 m ρ) c 3 t) (iblk0 (V1 m ρ) c 4 t) where
  x0 := fun b u k => (blk0_0 m ρ c t b u k).trans (V_x m ρ c b u k)
  x1 := fun k => (blk0_1 m ρ c t 0 k).trans (V_pre m ρ c k)
  lo := fun k j h => (blk0_2 m ρ c t k j).trans ((V_w m ρ c k j).trans (dif_pos h))
  hi := fun k j h h' => (blk0_2 m ρ c t k j).trans ((V_w m ρ c k j).trans ((dif_neg (by omega)).trans (dif_pos h')))
  gt := fun k j h h' => (blk0_2 m ρ c t k j).trans ((V_w m ρ c k j).trans ((dif_neg (by omega)).trans ((dif_neg (by omega)).trans (dif_pos h'))))
  up := fun r j h => (blk0_3 m ρ c t r j).trans ((V_up m ρ c r j).trans (dif_pos h))
  pad := fun r j h => (blk0_3 m ρ c t r j).trans ((V_up m ρ c r j).trans (dif_neg (by omega)))
  bg := fun j => (blk0_4 m ρ c t 0 j).trans (V_bg m ρ c j)

end Cert.Kernel3Ideal.Smp

end
-- ==== Proof.SmpMid.lean ====
module

public import proofs.«01_k».proof.Proof.SmpHost

@[expose] public section

set_option maxRecDepth 16384

noncomputable section

/-! What the first of the mixer's two kernels leaves in its output arrays. -/

namespace Cert.Kernel3Ideal.Smp

open Cert.Kernel3Ideal Cert.Kernel3Ideal.Gen Idealize.ShloMosaic Idealize.ShloMosaic.TcCoe Idealize.SL.Sem Cert.Smp
open Idealize.ShloMosaic.Pipeline (Dat)

variable (m : (ℓ : Loc nD τ sig) → Buf (Elt Ideal) ℓ) (ρ : Dev nD → PrngReg)

theorem off0_5 : ∀ (t : Fin cfg0.N) (a : Fin 2), win0_5.index t a = (![0, 0] : Fin 2 → ℕ) a :=
  (by decide +kernel : ∀ (t : Fin grid0.N) (a : Fin 2), _)

/-- The array of `qe`. -/
def qeM (c : Dev nD) : FVec Ideal S512x256 .f32 := fun i => qa (args m c) (sq (i 0)) (st (i 0)) (i 1) * Ideal.exp (cum (args m c) (sq (i 0)) (st (i 0)) (i 1))

theorem mid_qe (c : Dev nD) : (W2 m ρ c main_v16_0 : S512x256.Idx → Elt Ideal .f32) = qeM m c := by
  refine (W2_arr m ρ c 5).trans ?_
  refine (dat0 (V1 m ρ) c).arrAt_eq_of_covers 5 _ (by decide +kernel) fun t _ y => ?_
  blk_simp
  rw [after0_5, out_qe (holds m ρ c t)]
  have e : (win0_5.rect t).emb y = y := by
    funext x; apply Fin.ext
    rw [Pipeline.Window.rect_emb_val_off, off0_5]
    fin_cases x
    · exact Nat.zero_add _
    · exact Nat.zero_add _
  exact (congrArg (qeM m c) e).symm

theorem off0_6 : ∀ (t : Fin cfg0.N) (a : Fin 2), win0_6.index t a = (![0, 0] : Fin 2 → ℕ) a :=
  (by decide +kernel : ∀ (t : Fin grid0.N) (a : Fin 2), _)

/-- The array of `kl`. -/
def klM (c : Dev nD) : FVec Ideal S512x256 .f32 := fun i => ka (args m c) (sq (i 0)) (st (i 0)) (i 1) * Ideal.exp (cum (args m c) (sq (i 0)) 3 (i 1) - cum (args m c) (sq (i 0)) (st (i 0)) (i 1))

theorem mid_kl (c : Dev nD) : (W2 m ρ c main_v16_1 : S512x256.Idx → Elt Ideal .f32) = klM m c := by
  refine (W2_arr m ρ c 6).trans ?_
  refine (dat0 (V1 m ρ) c).arrAt_eq_of_covers 6 _ (by decide +kernel) fun t _ y => ?_
  blk_simp
  rw [after0_6, out_kl (holds m ρ c t)]
  have e : (win0_6.rect t).emb y = y := by
    funext x; apply Fin.ext
    rw [Pipeline.Window.rect_emb_val_off, off0_6]
    fin_cases x
    · exact Nat.zero_add _
    · exact Nat.zero_add _
  exact (congrArg (klM m c) e).symm

theorem off0_7 : ∀ (t : Fin cfg0.N) (a : Fin 2), win0_7.index t a = (![0, 0] : Fin 2 → ℕ) a :=
  (by decide +kernel : ∀ (t : Fin grid0.N) (a : Fin 2), _)

/-- The array of `e3`. -/
def e3M (c : Dev nD) : FVec Ideal S128x256 .f32 := fun i => Ideal.exp (cum (args m c) (i 0) 3 (i 1))

theorem mid_e3 (c : Dev nD) : (W2 m ρ c main_v16_2 : S128x256.Idx → Elt Ideal .f32) = e3M m c := by
  refine (W2_arr m ρ c 7).trans ?_
  refine (dat0 (V1 m ρ) c).arrAt_eq_of_covers 7 _ (by decide +kernel) fun t _ y => ?_
  blk_simp
  rw [after0_7, out_e3 (holds m ρ c t)]
  have e : (win0_7.rect t).emb y = y := by
    funext x; apply Fin.ext
    rw [Pipeline.Window.rect_emb_val_off, off0_7]
    fin_cases x
    · exact Nat.zero_add _
    · exact Nat.zero_add _
  exact (congrArg (e3M m c) e).symm

theorem off0_8 : ∀ (t : Fin cfg0.N) (a : Fin 2), win0_8.index t a = (![0, 0] : Fin 2 → ℕ) a :=
  (by decide +kernel : ∀ (t : Fin grid0.N) (a : Fin 2), _)

/-- The array of `oin`. -/
def oinM (c : Dev nD) : FVec Ideal S512x512 .f32 := fun i => inner (args m c) (sq (i 0)) (st (i 0)) (i 1)

theorem mid_oin (c : Dev nD) : (W2 m ρ c main_v16_3 : S512x512.Idx → Elt Ideal .f32) = oinM m c := by
  refine (W2_arr m ρ c 8).trans ?_
  refine (dat0 (V1 m ρ) c).arrAt_eq_of_covers 8 _ (by decide +kernel) fun t _ y => ?_
  blk_simp
  rw [after0_8, out_oin (holds m ρ c t)]
  have e : (win0_8.rect t).emb y = y := by
    funext x; apply Fin.ext
    rw [Pipeline.Window.rect_emb_val_off, off0_8]
    fin_cases x
    · exact Nat.zero_add _
    · exact Nat.zero_add _
  exact (congrArg (oinM m c) e).symm

theorem off0_9 : ∀ (t : Fin cfg0.N) (a : Fin 2), win0_9.index t a = (![0, 0] : Fin 2 → ℕ) a :=
  (by decide +kernel : ∀ (t : Fin grid0.N) (a : Fin 2), _)

/-- The array of `va`. -/
def vaM (c : Dev nD) : FVec Ideal S512x512 .f32 := W (args m c)

theorem mid_va (c : Dev nD) : (W2 m ρ c main_v16_4 : S512x512.Idx → Elt Ideal .f32) = vaM m c := by
  refine (W2_arr m ρ c 9).trans ?_
  refine (dat0 (V1 m ρ) c).arrAt_eq_of_covers 9 _ (by decide +kernel) fun t _ y => ?_
  blk_simp
  rw [after0_9, out_va (holds m ρ c t)]
  have e : (win0_9.rect t).emb y = y := by
    funext x; apply Fin.ext
    rw [Pipeline.Window.rect_emb_val_off, off0_9]
    fin_cases x
    · exact Nat.zero_add _
    · exact Nat.zero_add _
  exact (congrArg (vaM m c) e).symm

theorem off0_11 : ∀ (t : Fin cfg0.N) (a : Fin 2), win0_11.index t a = (![0, 0] : Fin 2 → ℕ) a :=
  (by decide +kernel : ∀ (t : Fin grid0.N) (a : Fin 2), _)

/-- The array of `qb`. -/
def qbM (c : Dev nD) : FVec Ideal S512x512 .f32 := fun i => qb (args m c) (sq (i 0)) (st (i 0)) (i 1) * (((1 / 8) * (Real.log 2)⁻¹ : ℝ) : EReal)

theorem mid_qb (c : Dev nD) : (W2 m ρ c main_v16_6 : S512x512.Idx → Elt Ideal .f32) = qbM m c := by
  refine (W2_arr m ρ c 11).trans ?_
  refine (dat0 (V1 m ρ) c).arrAt_eq_of_covers 11 _ (by decide +kernel) fun t _ y => ?_
  blk_simp
  rw [after0_11, out_qb (holds m ρ c t)]
  have e : (win0_11.rect t).emb y = y := by
    funext x; apply Fin.ext
    rw [Pipeline.Window.rect_emb_val_off, off0_11]
    fin_cases x
    · exact Nat.zero_add _
    · exact Nat.zero_add _
  exact (congrArg (qbM m c) e).symm

theorem off0_12 : ∀ (t : Fin cfg0.N) (a : Fin 2), win0_12.index t a = (![0, 0] : Fin 2 → ℕ) a :=
  (by decide +kernel : ∀ (t : Fin grid0.N) (a : Fin 2), _)

/-- The array of `kb`. -/
def kbM (c : Dev nD) : FVec Ideal S512x128 .f32 := fun i => z (args m c) (sq (i 0)) (st (i 0)) ⟨2064 + (i 1).val, by have : (i 1).val < 128 := (i 1).isLt; omega⟩

theorem mid_kb (c : Dev nD) : (W2 m ρ c main_v16_7 : S512x128.Idx → Elt Ideal .f32) = kbM m c := by
  refine (W2_arr m ρ c 12).trans ?_
  refine (dat0 (V1 m ρ) c).arrAt_eq_of_covers 12 _ (by decide +kernel) fun t _ y => ?_
  blk_simp
  rw [after0_12, out_kb (holds m ρ c t)]
  have e : (win0_12.rect t).emb y = y := by
    funext x; apply Fin.ext
    rw [Pipeline.Window.rect_emb_val_off, off0_12]
    fin_cases x
    · exact Nat.zero_add _
    · exact Nat.zero_add _
  exact (congrArg (kbM m c) e).symm

theorem off0_13 : ∀ (t : Fin cfg0.N) (a : Fin 2), win0_13.index t a = (![0, 0] : Fin 2 → ℕ) a :=
  (by decide +kernel : ∀ (t : Fin grid0.N) (a : Fin 2), _)

/-- The array of `vb`. -/
def vbM (c : Dev nD) : FVec Ideal S512x128 .f32 := fun i => z (args m c) (sq (i 0)) (st (i 0)) ⟨2192 + (i 1).val, by have : (i 1).val < 128 := (i 1).isLt; omega⟩

theorem mid_vb (c : Dev nD) : (W2 m ρ c main_v16_8 : S512x128.Idx → Elt Ideal .f32) = vbM m c := by
  refine (W2_arr m ρ c 13).trans ?_
  refine (dat0 (V1 m ρ) c).arrAt_eq_of_covers 13 _ (by decide +kernel) fun t _ y => ?_
  blk_simp
  rw [after0_13, out_vb (holds m ρ c t)]
  have e : (win0_13.rect t).emb y = y := by
    funext x; apply Fin.ext
    rw [Pipeline.Window.rect_emb_val_off, off0_13]
    fin_cases x
    · exact Nat.zero_add _
    · exact Nat.zero_add _
  exact (congrArg (vbM m c) e).symm

end Cert.Kernel3Ideal.Smp

end
-- ==== Proof.SmpHostB.lean ====
module

public import proofs.«01_k».proof.Proof.SmpMid

@[expose] public section

set_option maxRecDepth 16384

noncomputable section

/-! What the host prepares for the second of the mixer's two kernels. -/

namespace Cert.Kernel3Ideal.Smp

open Cert.Kernel3Ideal Cert.Kernel3Ideal.Gen Idealize.ShloMosaic Idealize.ShloMosaic.TcCoe Idealize.SL.Sem Cert.Smp
open Idealize.ShloMosaic.Pipeline (Dat)

variable (m : (ℓ : Loc nD τ sig) → Buf (Elt Ideal) ℓ) (ρ : Dev nD → PrngReg)

theorem row_of {α : Type} (f : Fin 128 → Fin 4 → α) (t : Fin 4) (b : Fin 128) (a : Fin 512) (h : a.val = t.val * 128 + b.val) : f (sq a) (st a) = f b t := by
  have h1 : sq a = b := Fin.ext (by show a.val % 128 = b.val; omega)
  have h2 : st a = t := Fin.ext (by show a.val / 128 = t.val; omega)
  rw [h1, h2]

theorem V3_qe (c : Dev nD) (t : Fin 4) (b : Fin 128) (j : Fin 256) :
    (V3 m ρ c main_v26 : S4x128x256.Idx → Elt Ideal .f32) (ix3 t b j) = qa (args m c) b t j * Ideal.exp (cum (args m c) b t j) := by
  unfold V3 W3
  entry_read
  pointwise
  refine (congrFun (mid_qe m ρ c) _).trans ?_
  exact row_of (fun b t => qa (args m c) b t j * Ideal.exp (cum (args m c) b t j)) t b _ rfl

theorem V3_kl (c : Dev nD) (t : Fin 4) (b : Fin 128) (j : Fin 256) :
    (V3 m ρ c main_v27 : S4x128x256.Idx → Elt Ideal .f32) (ix3 t b j) = ka (args m c) b t j * Ideal.exp (cum (args m c) b 3 j - cum (args m c) b t j) := by
  unfold V3 W3
  entry_read
  pointwise
  refine (congrFun (mid_kl m ρ c) _).trans ?_
  exact row_of (fun b t => ka (args m c) b t j * Ideal.exp (cum (args m c) b 3 j - cum (args m c) b t j)) t b _ rfl

theorem V3_oin (c : Dev nD) (t : Fin 4) (b : Fin 128) (j : Fin 512) :
    (V3 m ρ c main_v28 : S4x128x512.Idx → Elt Ideal .f32) (ix3 t b j) = inner (args m c) b t j := by
  unfold V3 W3
  entry_read
  pointwise
  refine (congrFun (mid_oin m ρ c) _).trans ?_
  exact row_of (fun b t => inner (args m c) b t j) t b _ rfl

theorem V3_va (c : Dev nD) (t : Fin 4) (b : Fin 128) (j : Fin 512) :
    (V3 m ρ c main_v29 : S4x128x512.Idx → Elt Ideal .f32) (ix3 t b j) = Cert.Smp.va (args m c) b t j := by
  unfold V3 W3
  entry_read
  pointwise
  refine (congrFun (mid_va m ρ c) _).trans ?_
  exact row_of (fun b t => Cert.Smp.va (args m c) b t j) t b _ rfl

theorem V3_qb (c : Dev nD) (t : Fin 4) (b : Fin 128) (j : Fin 512) :
    (V3 m ρ c main_v30 : S4x128x512.Idx → Elt Ideal .f32) (ix3 t b j) = Cert.Smp.qb (args m c) b t j * (((1 / 8) * (Real.log 2)⁻¹ : ℝ) : EReal) := by
  unfold V3 W3
  entry_read
  pointwise
  refine (congrFun (mid_qb m ρ c) _).trans ?_
  exact row_of (fun b t => Cert.Smp.qb (args m c) b t j * (((1 / 8) * (Real.log 2)⁻¹ : ℝ) : EReal)) t b _ rfl

theorem V3_kb (c : Dev nD) (t : Fin 4) (b : Fin 128) (j : Fin 128) :
    (V3 m ρ c main_v31 : S4x128x128.Idx → Elt Ideal .f32) (ix3 t b j) = z (args m c) b t ⟨2064 + j.val, by omega⟩ := by
  unfold V3 W3
  entry_read
  pointwise
  refine (congrFun (mid_kb m ρ c) _).trans ?_
  exact row_of (fun b t => z (args m c) b t ⟨2064 + j.val, by omega⟩) t b _ rfl

theorem V3_vb (c : Dev nD) (t : Fin 4) (b : Fin 128) (j : Fin 128) :
    (V3 m ρ c main_v32 : S4x128x128.Idx → Elt Ideal .f32) (ix3 t b j) = z (args m c) b t ⟨2192 + j.val, by omega⟩ := by
  unfold V3 W3
  entry_read
  pointwise
  refine (congrFun (mid_vb m ρ c) _).trans ?_
  exact row_of (fun b t => z (args m c) b t ⟨2192 + j.val, by omega⟩) t b _ rfl

theorem V3_sink (c : Dev nD) (h : Fin 8) : (V3 m ρ c main_v23 : S8.Idx → Elt Ideal .f32) (ix1 h) = (args m c).sink h := by
  unfold V3 W3
  entry_read
  pointwise
  exact congrFun (W2_args m ρ c main_arg8 (by decide)) _

theorem V3_e3 (c : Dev nD) (b : Fin 128) (j : Fin 256) :
    (V3 m ρ c main_v16_2 : S128x256.Idx → Elt Ideal .f32) (ix2 b j) = Ideal.exp (cum (args m c) b 3 j) := by
  unfold V3 W3
  entry_read
  exact congrFun (mid_e3 m ρ c) _

theorem V3_s0 (c : Dev nD) (b : Fin 128) (r : Fin 256) (v : Fin 128) :
    (V3 m ρ c main_v25 : S128x256x128.Idx → Elt Ideal .f32) (ix3 b r v) = (args m c).S b ⟨r.val / 64, by omega⟩ ⟨r.val % 64, by omega⟩ v := by
  unfold V3 W3
  entry_read
  pointwise
  exact congrFun (W2_args m ρ c main_arg1 (by decide)) _

theorem V3_kt (c : Dev nD) (b r s : Fin 128) :
    (V3 m ρ c main_v19 : S128x128x128.Idx → Elt Ideal .f32) (ix3 b r s) = (args m c).ck b s ⟨r.val / 64, by omega⟩ ⟨r.val % 64, by omega⟩ := by
  unfold V3 W3
  entry_read
  pointwise
  exact congrFun (W2_args m ρ c main_arg2 (by decide)) _

theorem V3_vt (c : Dev nD) (b r s : Fin 128) :
    (V3 m ρ c main_v22 : S128x128x128.Idx → Elt Ideal .f32) (ix3 b r s) = (args m c).cv b s ⟨r.val / 64, by omega⟩ ⟨r.val % 64, by omega⟩ := by
  unfold V3 W3
  entry_read
  pointwise
  exact congrFun (W2_args m ρ c main_arg3 (by decide)) _

end Cert.Kernel3Ideal.Smp

end
-- ==== Proof.SmpSeq.lean ====
module

public import proofs.«01_k».proof.Proof.SmpPre

@[expose] public section

set_option maxRecDepth 16384

noncomputable section

/-! One sequence of the mixer's second kernel: the recurrence and the two caches. -/

namespace Cert.Kernel3Ideal.Smp

open Cert.Kernel3Ideal Cert.Kernel3Ideal.Gen Idealize.ShloMosaic Idealize.ShloMosaic.TcCoe Idealize.SL.Sem Cert.Smp

/-- What the second kernel's blocks hold: sixteen sequences, the `i`-th of them `B i`. -/
structure Rows (A : Cert.Smp.Args) (B : Fin 16 → Fin 128) (x0 : Vec Ideal S8 .f32) (x1 x2 : Vec Ideal S4x16x256 .f32) (x3 : Vec Ideal S16x256 .f32)
    (x4 x5 x6 : Vec Ideal S4x16x512 .f32) (x7 x8 : Vec Ideal S4x16x128 .f32) (x9 : Vec Ideal S16x256x128 .f32) (x10 x11 : Vec Ideal S16x128x128 .f32) : Prop where
  sink : ∀ h : Fin 8, x0 (ix1 h) = A.sink h
  qe : ∀ (t : Fin 4) (i : Fin 16) (j : Fin 256), x1 (ix3 t i j) = qa A (B i) t j * Ideal.exp (cum A (B i) t j)
  kl : ∀ (t : Fin 4) (i : Fin 16) (j : Fin 256), x2 (ix3 t i j) = ka A (B i) t j * Ideal.exp (cum A (B i) 3 j - cum A (B i) t j)
  e3 : ∀ (i : Fin 16) (j : Fin 256), x3 (ix2 i j) = Ideal.exp (cum A (B i) 3 j)
  oin : ∀ (t : Fin 4) (i : Fin 16) (j : Fin 512), x4 (ix3 t i j) = inner A (B i) t j
  va : ∀ (t : Fin 4) (i : Fin 16) (j : Fin 512), x5 (ix3 t i j) = Cert.Smp.va A (B i) t j
  qb : ∀ (t : Fin 4) (i : Fin 16) (j : Fin 512), x6 (ix3 t i j) = Cert.Smp.qb A (B i) t j * (((1 / 8) * (Real.log 2)⁻¹ : ℝ) : EReal)
  kb : ∀ (t : Fin 4) (i : Fin 16) (j : Fin 128), x7 (ix3 t i j) = z A (B i) t ⟨2064 + j.val, by omega⟩
  vb : ∀ (t : Fin 4) (i : Fin 16) (j : Fin 128), x8 (ix3 t i j) = z A (B i) t ⟨2192 + j.val, by omega⟩
  s0 : ∀ (i : Fin 16) (r : Fin 256) (v : Fin 128), x9 (ix3 i r v) = A.S (B i) ⟨r.val / 64, by omega⟩ ⟨r.val % 64, by omega⟩ v
  kt : ∀ (i : Fin 16) (r s : Fin 128), x10 (ix3 i r s) = A.ck (B i) s ⟨r.val / 64, by omega⟩ ⟨r.val % 64, by omega⟩
  vt : ∀ (i : Fin 16) (r s : Fin 128), x11 (ix3 i r s) = A.cv (B i) s ⟨r.val / 64, by omega⟩ ⟨r.val % 64, by omega⟩

theorem ld_mid {n : ℕ} (x : Vec Ideal ⟨3, ![4, 16, n]⟩ .f32) (i : Fin 16) (m o : ℕ) (inb) (t : Fin 4) (u : Fin 1) (j : Fin m) (h : o + j.val < n) :
    View.ld x (Rect.unit (s := ⟨3, ![4, 16, n]⟩) ![0, i.val, o] ![4, 1, m] inb) (ix3 t u j) = x (ix3 t i ⟨o + j.val, h⟩) := by
  show x _ = x _
  congr 1
  funext a
  apply Fin.ext
  fin_cases a
  · show 0 + 1 * t.val = t.val; omega
  · show i.val + 1 * u.val = i.val; omega
  · show o + 1 * j.val = o + j.val; omega

theorem ld_mid0 {n : ℕ} (x : Vec Ideal ⟨3, ![4, 16, n]⟩ .f32) (i : Fin 16) (inb) (t : Fin 4) (u : Fin 1) (j : Fin n) :
    View.ld x (Rect.unit (s := ⟨3, ![4, 16, n]⟩) ![0, i.val, 0] ![4, 1, n] inb) (ix3 t u j) = x (ix3 t i j) := by
  rw [ld_mid x i n 0 inb t u j (by omega)]
  congr 2
  exact Fin.ext (Nat.zero_add _)

theorem ld_seq {n k : ℕ} (x : Vec Ideal ⟨3, ![16, n, k]⟩ .f32) (i : Fin 16) (inb) (u : Fin 1) (r : Fin n) (j : Fin k) :
    View.ld x (Rect.unit (s := ⟨3, ![16, n, k]⟩) ![i.val, 0, 0] ![1, n, k] inb) (ix3 u r j) = x (ix3 i r j) := by
  show x _ = x _
  congr 1
  funext a
  apply Fin.ext
  fin_cases a
  · show i.val + 1 * u.val = i.val; omega
  · show 0 + 1 * r.val = r.val; omega
  · show 0 + 1 * j.val = j.val; omega

theorem ld_row {k : ℕ} (x : Vec Ideal ⟨2, ![16, k]⟩ .f32) (i : Fin 16) (inb) (u : Fin 1) (j : Fin k) :
    View.ld x (Rect.unit (s := ⟨2, ![16, k]⟩) ![i.val, 0] ![1, k] inb) (ix2 u j) = x (ix2 i j) := by
  show x _ = x _
  congr 1
  funext a
  apply Fin.ext
  fin_cases a
  · show i.val + 1 * u.val = i.val; omega
  · show 0 + 1 * j.val = j.val; omega

/-- The mask of a step's own lanes. -/
abbrev own : IVec S16x256 1 := k1_pay7 k1_pay3 k1_pay4 k1_pay5 k1_pay6

theorem own_row : ∀ a : Fin 16, (Scalar.select
        (IntOp.andi
          (IntOp.cmpi CmpIPredicate.ne
            (IntOp.subi (BitVec.setWidth 32 (IntOp.cmpi CmpIPredicate.sgt (BitVec.ofNat 32 a.val) 0#32))
              (BitVec.setWidth 32 (IntOp.cmpi CmpIPredicate.slt (BitVec.ofNat 32 a.val) 0#32)))
            (Scalar.subi (Scalar.extui (Scalar.cmpi CmpIPredicate.sgt 4#32 0#32))
              (Scalar.extui (Scalar.cmpi CmpIPredicate.slt 4#32 0#32))))
          (IntOp.cmpi CmpIPredicate.ne (IntOp.remsi ArithUnit.vector (BitVec.ofNat 32 a.val) 4#32) 0#32))
        (IntOp.subi (IntOp.divsi ArithUnit.vector (BitVec.ofNat 32 a.val) 4#32) 1#32)
        (IntOp.divsi ArithUnit.vector (BitVec.ofNat 32 a.val) 4#32)) = BitVec.ofNat 32 (a.val / 4) := by decide +kernel

theorem own_apply (a : Fin 16) (k : Fin 256) : own (ix2 a k) = if a.val / 4 = k.val / 64 then 1#1 else 0#1 := by
  unfold own
  pointwise [k1_pay7, k1_pay3, k1_pay4, k1_pay5, k1_pay6]
  rw [own_row, head_row]
  exact cmp_head ⟨a.val / 4, by omega⟩ ⟨k.val / 64, by omega⟩

theorem own_select (a : Fin 16) (k : Fin 256) (x y : EReal) : Scalar.select (own (ix2 a k)) x y = if a.val / 4 = k.val / 64 then x else y := by
  rw [own_apply]
  split <;> rfl

theorem exp_nonneg (y : EReal) : 0 ≤ Ideal.exp y := by
  induction y with
  | bot => exact le_refl _
  | top => exact le_top
  | coe r => exact EReal.coe_nonneg.mpr (Real.exp_pos r).le

theorem softplus_ne_bot (y : EReal) : softplus y ≠ ⊥ := by
  unfold softplus
  have h1 : max y 0 ≠ ⊥ := fun h => by
    have : (0 : EReal) ≤ max y 0 := le_max_right _ _
    rw [h] at this
    exact absurd this (by simp)
  have h2 : Ideal.log1p (Ideal.exp (-(max y (-y)))) ≠ ⊥ := by
    have h := exp_nonneg (-(max y (-y)))
    generalize Ideal.exp (-(max y (-y))) = e at h
    unfold Ideal.log1p
    induction e with
    | bot => exact absurd h (by simp)
    | top => show Ideal.log (1 + ⊤) ≠ ⊥; rw [show (1 : EReal) + ⊤ = ⊤ from rfl]; exact top_ne_bot
    | coe r =>
      have hr : 0 ≤ r := EReal.coe_nonneg.mp h
      show Ideal.log ((1 + r : ℝ) : EReal) ≠ ⊥
      show (if 1 + r ≤ 0 then (⊥ : EReal) else _) ≠ ⊥
      rw [if_neg (by linarith)]
      exact EReal.coe_ne_bot _
  exact fun h => (EReal.add_eq_bot_iff.mp h).elim h1 h2

theorem la_ne_top (A : Cert.Smp.Args) (b : Fin 128) (t : Fin 4) (j : Fin 256) : la A b t j ≠ ⊤ := by
  unfold la
  have h := softplus_ne_bot (-(gate A b t j))
  generalize softplus (-(gate A b t j)) = s at h
  rw [lit_16, Ideal.div_coe (by norm_num)]
  induction s with
  | bot => exact absurd rfl h
  | top => rw [EReal.neg_top, EReal.bot_mul_coe_of_pos (by norm_num)]; exact bot_ne_top
  | coe r => exact EReal.coe_ne_top (-r * (1 / 16))

theorem cum_ne_top (A : Cert.Smp.Args) (b : Fin 128) (t : Fin 4) (j : Fin 256) : cum A b t j ≠ ⊤ := by
  have h := fun t => la_ne_top A b t j
  unfold cum
  fin_cases t
  · exact h 0
  · exact EReal.add_ne_top (h 0) (h 1)
  · exact EReal.add_ne_top (EReal.add_ne_top (h 0) (h 1)) (h 2)
  · exact EReal.add_ne_top (EReal.add_ne_top (EReal.add_ne_top (h 0) (h 1)) (h 2)) (h 3)

/-- A decay is finite, so that what its rounding would leave is nought. -/
theorem exp_cum_sub (A : Cert.Smp.Args) (b : Fin 128) (t : Fin 4) (j : Fin 256) :
    Ideal.exp (cum A b t j) - Ideal.exp (cum A b t j) = 0 := by
  have h := cum_ne_top A b t j
  generalize cum A b t j = y at h
  induction y with
  | bot => show (0 : EReal) - 0 = 0; simp
  | top => exact absurd rfl h
  | coe r => exact EReal.sub_self (EReal.coe_ne_top _) (EReal.coe_ne_bot _)

/-- The rows of one head. -/
theorem sum_rows (f : Fin 4 → EReal) (h : Fin 4) :
    ∑ x : Fin 32, (if x.val < 16 ∧ x.val / 4 = h.val then f ⟨x.val % 4, by omega⟩ else 0) = ∑ t, f t := by
  rw [← Finset.sum_filter]
  refine Finset.sum_nbij' (fun x => ⟨x.val % 4, by omega⟩) (fun t => ⟨h.val * 4 + t.val, by omega⟩) ?_ ?_ ?_ ?_ ?_
  · intro x _; exact Finset.mem_univ _
  · intro t _
    simp only [Finset.mem_filter, Finset.mem_univ, true_and]
    omega
  · intro x hx
    simp only [Finset.mem_filter, Finset.mem_univ, true_and] at hx
    apply Fin.ext
    show h.val * 4 + x.val % 4 = x.val
    omega
  · intro t _
    apply Fin.ext
    show (h.val * 4 + t.val) % 4 = t.val
    omega
  · intro x _; rfl

set_option maxHeartbeats 1000000 in
theorem state_apply (s0 : Vec Ideal S1x256x128 .f32) (q : Vec Ideal S4x1x256 .f32) (e : Vec Ideal S1x256 .f32) (o : Vec Ideal S4x1x512 .f32)
    (u : Fin 1) (r : Fin 256) (v : Fin 128) (he : e (ix2 0 r) - e (ix2 0 r) = 0) :
    k1_pay410 k1_pay8 k1_pay9 k1_pay10 (k1_pay402 s0) (k1_pay409 own q e) o (ix3 u r v)
      = e (ix2 0 r) * s0 (ix3 0 r v) + ∑ t, q (ix3 t 0 r) * o (ix3 t 0 ⟨r.val / 64 * 128 + v.val, by omega⟩) := by
  pointwise [k1_pay410, k1_pay409, k1_pay402, k1_pay8, k1_pay9, k1_pay10]
  simp only [own_select]
  refine congrArg₂ (· + ·) (congrArg (· * s0 (ix3 0 r v)) ?_) ?_
  · rw [Finset.sum_eq_single (16 : Fin 32)]
    · simp
    · intro x _ hx
      by_cases h : x.val < 16
      · rw [dif_pos h, dif_pos h, mul_zero]
      · have hv : x.val ≠ 16 := fun h' => hx (Fin.ext h')
        rw [dif_neg h, dif_neg h, dif_neg (by omega)]
        by_cases h2 : x.val - 16 - 1 < 1
        · rw [dif_pos h2, show (⟨x.val - 16 - 1, h2⟩ : Fin 1) = 0 from Subsingleton.elim _ _, he, zero_mul]
        · rw [dif_neg h2]
          by_cases h3 : x.val - 16 - 1 - 1 < 1
          · rw [dif_pos h3, show (⟨x.val - 16 - 1 - 1, h3⟩ : Fin 1) = 0 from Subsingleton.elim _ _, he]
            simp
          · rw [dif_neg h3, zero_mul]
    · intro h; exact absurd (Finset.mem_univ _) h
  · rw [← sum_rows (fun t => q (ix3 t 0 r) * o (ix3 t 0 ⟨r.val / 64 * 128 + v.val, by omega⟩)) ⟨r.val / 64, by omega⟩]
    refine Finset.sum_congr rfl fun x _ => ?_
    by_cases h : x.val < 16
    · rw [dif_pos h, dif_pos h]
      by_cases hh : x.val / 4 = r.val / 64
      · refine (congrArg (· * _) (if_pos hh)).trans (Eq.trans ?_ (if_pos (⟨h, hh⟩ : x.val < 16 ∧ x.val / 4 = r.val / 64)).symm)
        have hm : ∀ (a a' : Fin 4) (c c' : Fin 512), a.val = a'.val → c.val = c'.val →
            q (ix3 a 0 r) * o (ix3 a 0 c) = q (ix3 a' 0 r) * o (ix3 a' 0 c') := by
          intro a a' c c' h1 h2
          rw [Fin.ext h1, Fin.ext h2]
        by_cases c1 : x.val < 4
        · rw [dif_pos c1, dif_pos c1]
          exact hm _ _ _ _ (show x.val = x.val % 4 by omega) (show v.val = r.val / 64 * 128 + v.val by omega)
        rw [dif_neg c1, dif_neg c1]
        by_cases c2 : x.val - 4 < 4
        · rw [dif_pos c2, dif_pos c2]
          exact hm _ _ _ _ (show x.val - 4 = x.val % 4 by omega) (show 128 + v.val = r.val / 64 * 128 + v.val by omega)
        rw [dif_neg c2, dif_neg c2]
        by_cases c3 : x.val - 4 - 4 < 4
        · rw [dif_pos c3, dif_pos c3]
          exact hm _ _ _ _ (show x.val - 4 - 4 = x.val % 4 by omega) (show 256 + v.val = r.val / 64 * 128 + v.val by omega)
        rw [dif_neg c3, dif_neg c3]
        exact hm _ _ _ _ (show x.val - 4 - 4 - 4 = x.val % 4 by omega) (show 384 + v.val = r.val / 64 * 128 + v.val by omega)
      · refine (congrArg (· * _) (if_neg hh)).trans (Eq.trans (zero_mul _) (if_neg (fun h' : x.val < 16 ∧ x.val / 4 = r.val / 64 => hh h'.2)).symm)
    · refine Eq.trans ?_ (if_neg (fun h' : x.val < 16 ∧ x.val / 4 = r.val / 64 => h h'.1)).symm
      rw [dif_neg h, dif_neg h, mul_zero]

variable {A : Cert.Smp.Args} {B : Fin 16 → Fin 128} {x0 : Vec Ideal S8 .f32} {x1 x2 : Vec Ideal S4x16x256 .f32} {x3 : Vec Ideal S16x256 .f32}
    {x4 x5 x6 : Vec Ideal S4x16x512 .f32} {x7 x8 : Vec Ideal S4x16x128 .f32} {x9 : Vec Ideal S16x256x128 .f32} {x10 x11 : Vec Ideal S16x128x128 .f32}

theorem seq_state (H : Rows A B x0 x1 x2 x3 x4 x5 x6 x7 x8 x9 x10 x11) (i : Fin 16) (i9) (i2) (i3) (i5) (u : Fin 1) (r : Fin 256) (v : Fin 128) :
    k1_pay410 k1_pay8 k1_pay9 k1_pay10 (k1_pay402 (View.ld x9 (Rect.unit (s := S16x256x128) ![i.val, 0, 0] ![1, 256, 128] i9)))
      (k1_pay409 own (View.ld x2 (Rect.unit (s := S4x16x256) ![0, i.val, 0] ![4, 1, 256] i2)) (View.ld x3 (Rect.unit (s := S16x256) ![i.val, 0] ![1, 256] i3)))
      (View.ld x5 (Rect.unit (s := S4x16x512) ![0, i.val, 0] ![4, 1, 512] i5)) (ix3 u r v) = snew A (B i) r v := by
  refine (state_apply (View.ld x9 (Rect.unit (s := S16x256x128) ![i.val, 0, 0] ![1, 256, 128] i9)) (View.ld x2 (Rect.unit (s := S4x16x256) ![0, i.val, 0] ![4, 1, 256] i2))
    (View.ld x3 (Rect.unit (s := S16x256) ![i.val, 0] ![1, 256] i3)) (View.ld x5 (Rect.unit (s := S4x16x512) ![0, i.val, 0] ![4, 1, 512] i5)) u r v ?_).trans ?_
  · rw [ld_row, H.e3]
    exact exp_cum_sub _ _ _ _
  unfold snew
  rw [ld_row, H.e3, ld_seq, H.s0]
  congr 1
  refine Finset.sum_congr rfl fun t _ => ?_
  rw [ld_mid0 x2, ld_mid0 x5, H.kl, H.va]

theorem inter_eq (H : Rows A B x0 x1 x2 x3 x4 x5 x6 x7 x8 x9 x10 x11) (i : Fin 16) (hd : Fin 4) (t : Fin 4) (v : Fin 128) (a : Fin 16) (ha : a.val = hd.val * 4 + t.val)
    (w : Fin 512) (hw : w.val = hd.val * 128 + v.val) :
    (∑ x, Scalar.select (own (ix2 a x)) (x1 (ix3 t i x) * x9 (ix3 i x v)) 0) + x4 (ix3 t i w) = oa A t (B i) w := by
  have hs : (∑ x, Scalar.select (own (ix2 a x)) (x1 (ix3 t i x) * x9 (ix3 i x v)) 0) = ∑ d, x1 (ix3 t i (lane hd d)) * x9 (ix3 i (lane hd d) v) := by
    rw [← sum_lanes (fun x => x1 (ix3 t i x) * x9 (ix3 i x v)) hd.val hd.isLt]
    refine Finset.sum_congr rfl fun x _ => ?_
    rw [own_select, show a.val / 4 = hd.val by omega]
    by_cases h : hd.val = x.val / 64
    · rw [if_pos h, if_pos h.symm]
    · rw [if_neg h, if_neg (fun h' => h h'.symm)]
  have e1 : (⟨w.val / 128, by omega⟩ : Fin 4) = hd := Fin.ext (by show w.val / 128 = hd.val; omega)
  have e2 : (⟨w.val % 128, by omega⟩ : Fin 128) = v := Fin.ext (by show w.val % 128 = v.val; omega)
  rw [hs, H.oin]
  unfold oa
  rw [e1, e2]
  unfold inner
  rw [e1]
  refine congrArg (· + _) (Finset.sum_congr rfl fun d _ => ?_)
  have e4 : (⟨(lane hd d).val / 64, by dsimp only [lane]; omega⟩ : Fin 4) = hd := Fin.ext (by dsimp only [lane]; omega)
  have e5 : (⟨(lane hd d).val % 64, by dsimp only [lane]; omega⟩ : Fin 64) = d := Fin.ext (by dsimp only [lane]; omega)
  rw [H.qe, H.s0, e4, e5]

theorem seq_oa0 (H : Rows A B x0 x1 x2 x3 x4 x5 x6 x7 x8 x9 x10 x11) (i : Fin 16) (i9) (i1) (i4) (t : Fin 4) (u : Fin 1) (v : Fin 128) :
    k1_pay404 own (View.ld x9 (Rect.unit (s := S16x256x128) ![i.val, 0, 0] ![1, 256, 128] i9)) (View.ld x1 (Rect.unit (s := S4x16x256) ![0, i.val, 0] ![4, 1, 256] i1))
      (View.ld x4 (Rect.unit (s := S4x16x512) ![0, i.val, 0] ![4, 1, 128] i4)) (ix3 t u v) = oa A t (B i) ⟨v.val, by omega⟩ := by
  pointwise [k1_pay404, k1_pay403, k1_pay402]
  exact inter_eq H i 0 t v _ (by show t.val = 0 * 4 + t.val; omega) _ (by show v.val = 0 * 128 + v.val; omega)

theorem seq_oa1 (H : Rows A B x0 x1 x2 x3 x4 x5 x6 x7 x8 x9 x10 x11) (i : Fin 16) (i9) (i1) (i4) (t : Fin 4) (u : Fin 1) (v : Fin 128) :
    k1_pay406 (k1_pay405 own (View.ld x9 (Rect.unit (s := S16x256x128) ![i.val, 0, 0] ![1, 256, 128] i9)) (View.ld x1 (Rect.unit (s := S4x16x256) ![0, i.val, 0] ![4, 1, 256] i1))
      (View.ld x4 (Rect.unit (s := S4x16x512) ![0, i.val, 128] ![4, 1, 128] i4))) (ix3 t u v) = oa A t (B i) ⟨128 + v.val, by omega⟩ := by
  pointwise [k1_pay406, k1_pay405, k1_pay403, k1_pay402]
  exact inter_eq H i 1 t v ⟨4 + t.val, by omega⟩ (by show 4 + t.val = 1 * 4 + t.val; omega) ⟨128 + v.val, by omega⟩ (by show 128 + v.val = 1 * 128 + v.val; omega)

theorem seq_oa2 (H : Rows A B x0 x1 x2 x3 x4 x5 x6 x7 x8 x9 x10 x11) (i : Fin 16) (i9) (i1) (i4) (t : Fin 4) (u : Fin 1) (v : Fin 128) :
    k1_pay407 (k1_pay403 own (View.ld x9 (Rect.unit (s := S16x256x128) ![i.val, 0, 0] ![1, 256, 128] i9)) (View.ld x1 (Rect.unit (s := S4x16x256) ![0, i.val, 0] ![4, 1, 256] i1)))
      (View.ld x4 (Rect.unit (s := S4x16x512) ![0, i.val, 256] ![4, 1, 128] i4)) (ix3 t u v) = oa A t (B i) ⟨256 + v.val, by omega⟩ := by
  pointwise [k1_pay407, k1_pay403, k1_pay402]
  refine Eq.trans (congrArg (· + _) (Finset.sum_congr rfl fun x _ => congrArg (fun q => Scalar.select (own (ix2 (⟨8 + t.val, by omega⟩ : Fin 16) x)) (q * x9 (ix3 i x v)) 0) ?_)) (inter_eq H i 2 t v ⟨8 + t.val, by omega⟩ (by show 8 + t.val = 2 * 4 + t.val; omega) ⟨256 + v.val, by omega⟩ (by show 256 + v.val = 2 * 128 + v.val; omega))
  rw [dif_neg (show ¬ 8 + t.val < 4 by omega), dif_neg (show ¬ 8 + t.val - 4 < 4 by omega), dif_pos (show 8 + t.val - 4 - 4 < 4 by omega)]
  exact congrArg (fun a => x1 (ix3 a i x)) (Fin.ext (show 8 + t.val - 4 - 4 = t.val by omega))

theorem seq_oa3 (H : Rows A B x0 x1 x2 x3 x4 x5 x6 x7 x8 x9 x10 x11) (i : Fin 16) (i9) (i1) (i4) (t : Fin 4) (u : Fin 1) (v : Fin 128) :
    k1_pay408 (k1_pay403 own (View.ld x9 (Rect.unit (s := S16x256x128) ![i.val, 0, 0] ![1, 256, 128] i9)) (View.ld x1 (Rect.unit (s := S4x16x256) ![0, i.val, 0] ![4, 1, 256] i1)))
      (View.ld x4 (Rect.unit (s := S4x16x512) ![0, i.val, 384] ![4, 1, 128] i4)) (ix3 t u v) = oa A t (B i) ⟨384 + v.val, by omega⟩ := by
  pointwise [k1_pay408, k1_pay403, k1_pay402]
  refine Eq.trans (congrArg (· + _) (Finset.sum_congr rfl fun x _ => congrArg (fun q => Scalar.select (own (ix2 (⟨12 + t.val, by omega⟩ : Fin 16) x)) (q * x9 (ix3 i x v)) 0) ?_)) (inter_eq H i 3 t v ⟨12 + t.val, by omega⟩ (by show 12 + t.val = 3 * 4 + t.val; omega) ⟨384 + v.val, by omega⟩ (by show 384 + v.val = 3 * 128 + v.val; omega))
  rw [dif_neg (show ¬ 12 + t.val < 4 by omega), dif_neg (show ¬ 12 + t.val - 4 < 4 by omega), dif_neg (show ¬ 12 + t.val - 4 - 4 < 4 by omega)]
  exact congrArg (fun a => x1 (ix3 a i x)) (Fin.ext (show 12 + t.val - 4 - 4 - 4 = t.val by omega))

theorem kt_apply (k : Vec Ideal S1x128x128 .f32) (q : Vec Ideal S4x1x128 .f32) (u : Fin 1) (r s : Fin 128) :
    k1_pay22 k1_pay15 k q (ix3 u r s) = if h : s.val < 124 then k (ix3 0 r ⟨4 + s.val, by omega⟩) else q (ix3 ⟨s.val - 124, by omega⟩ 0 r) := by
  pointwise [k1_pay22, k1_pay15, k1_pay18, k1_pay20]
  split
  · rfl
  · exact dif_pos (by omega)

theorem seq_kt (H : Rows A B x0 x1 x2 x3 x4 x5 x6 x7 x8 x9 x10 x11) (i : Fin 16) (i10) (i7) (u : Fin 1) (r s : Fin 128) :
    k1_pay22 k1_pay15 (View.ld x10 (Rect.unit (s := S16x128x128) ![i.val, 0, 0] ![1, 128, 128] i10))
      (View.ld x7 (Rect.unit (s := S4x16x128) ![0, i.val, 0] ![4, 1, 128] i7)) (ix3 u r s)
      = kall A (B i) ⟨4 + s.val, by omega⟩ ⟨r.val / 64, by omega⟩ ⟨r.val % 64, by omega⟩ := by
  rw [kt_apply]
  unfold kall
  by_cases h : s.val < 124
  · rw [dif_pos h, dif_pos (show 4 + s.val < 128 by omega), ld_seq, H.kt]
  · rw [dif_neg h, dif_neg (show ¬ 4 + s.val < 128 by omega), ld_mid0 x7, H.kb]
    have e1 : (⟨s.val - 124, by omega⟩ : Fin 4) = ⟨4 + s.val - 128, by omega⟩ := Fin.ext (by show s.val - 124 = 4 + s.val - 128; omega)
    have e2 : (⟨2064 + r.val, by omega⟩ : Fin 4368) = ⟨2064 + (r.val / 64 * 64 + r.val % 64), by omega⟩ :=
      Fin.ext (by show 2064 + r.val = 2064 + (r.val / 64 * 64 + r.val % 64); omega)
    rw [e1, e2]

theorem vt_apply (k : Vec Ideal S1x128x128 .f32) (q : Vec Ideal S4x1x128 .f32) (u : Fin 1) (r s : Fin 128) :
    k1_pay23 k1_pay15 k q (ix3 u r s) = if h : s.val < 124 then k (ix3 0 r ⟨4 + s.val, by omega⟩) else q (ix3 ⟨s.val - 124, by omega⟩ 0 r) := by
  pointwise [k1_pay23, k1_pay15, k1_pay19, k1_pay21]
  split
  · rfl
  · exact dif_pos (by omega)

theorem seq_vt (H : Rows A B x0 x1 x2 x3 x4 x5 x6 x7 x8 x9 x10 x11) (i : Fin 16) (i10) (i7) (u : Fin 1) (r s : Fin 128) :
    k1_pay23 k1_pay15 (View.ld x11 (Rect.unit (s := S16x128x128) ![i.val, 0, 0] ![1, 128, 128] i10))
      (View.ld x8 (Rect.unit (s := S4x16x128) ![0, i.val, 0] ![4, 1, 128] i7)) (ix3 u r s)
      = vall A (B i) ⟨4 + s.val, by omega⟩ ⟨r.val / 64, by omega⟩ ⟨r.val % 64, by omega⟩ := by
  rw [vt_apply]
  unfold vall
  by_cases h : s.val < 124
  · rw [dif_pos h, dif_pos (show 4 + s.val < 128 by omega), ld_seq, H.vt]
  · rw [dif_neg h, dif_neg (show ¬ 4 + s.val < 128 by omega), ld_mid0 x8, H.vb]
    have e1 : (⟨s.val - 124, by omega⟩ : Fin 4) = ⟨4 + s.val - 128, by omega⟩ := Fin.ext (by show s.val - 124 = 4 + s.val - 128; omega)
    have e2 : (⟨2192 + r.val, by omega⟩ : Fin 4368) = ⟨2192 + (r.val / 64 * 64 + r.val % 64), by omega⟩ :=
      Fin.ext (by show 2192 + r.val = 2192 + (r.val / 64 * 64 + r.val % 64); omega)
    rw [e1, e2]

end Cert.Kernel3Ideal.Smp
-- ==== Proof.SmpOut.lean ====
module

public import proofs.«01_k».proof.Proof.SmpSeq
public import proofs.«01_k».proof.Proof.SmpPreOut

@[expose] public section

set_option maxRecDepth 16384

noncomputable section

/-! What one grid point of the second kernel leaves: the state, the moved caches and the recurrence's outputs of its sixteen
    sequences, one store at a time. -/

namespace Cert.Kernel3Ideal.Smp

open Cert.Kernel3Ideal Cert.Kernel3Ideal.Gen Idealize.ShloMosaic Idealize.ShloMosaic.TcCoe Idealize.SL.Sem Cert.Smp

/-- The state of one block of sequences, -/
def sB (A : Cert.Smp.Args) (B : Fin 16 → Fin 128) : Vec Ideal S16x256x128 .f32 := fun y =>
  snew A (B ⟨(y 0).val, (y 0).isLt⟩) ⟨(y 1).val, (y 1).isLt⟩ ⟨(y 2).val, (y 2).isLt⟩

/-- their moved keys -/
def ktB (A : Cert.Smp.Args) (B : Fin 16 → Fin 128) : Vec Ideal S16x128x128 .f32 := fun y =>
  kall A (B ⟨(y 0).val, (y 0).isLt⟩) ⟨4 + (y 2).val, by have : (y 2).val < 128 := (y 2).isLt; omega⟩
    ⟨(y 1).val / 64, by have : (y 1).val < 128 := (y 1).isLt; omega⟩ ⟨(y 1).val % 64, by omega⟩

/-- and values, -/
def vtB (A : Cert.Smp.Args) (B : Fin 16 → Fin 128) : Vec Ideal S16x128x128 .f32 := fun y =>
  vall A (B ⟨(y 0).val, (y 0).isLt⟩) ⟨4 + (y 2).val, by have : (y 2).val < 128 := (y 2).isLt; omega⟩
    ⟨(y 1).val / 64, by have : (y 1).val < 128 := (y 1).isLt; omega⟩ ⟨(y 1).val % 64, by omega⟩

/-- and the recurrence's outputs. -/
def oaB (A : Cert.Smp.Args) (B : Fin 16 → Fin 128) : Vec Ideal S4x16x512 .f32 := fun y =>
  oa A ⟨(y 0).val, (y 0).isLt⟩ (B ⟨(y 1).val, (y 1).isLt⟩) ⟨(y 2).val, (y 2).isLt⟩

variable {A : Cert.Smp.Args} {B : Fin 16 → Fin 128} {x0 : Vec Ideal S8 .f32} {x1 x2 : Vec Ideal S4x16x256 .f32} {x3 : Vec Ideal S16x256 .f32}
    {x4 x5 x6 : Vec Ideal S4x16x512 .f32} {x7 x8 : Vec Ideal S4x16x128 .f32} {x9 : Vec Ideal S16x256x128 .f32} {x10 x11 : Vec Ideal S16x128x128 .f32}

theorem kt_piece (H : Rows A B x0 x1 x2 x3 x4 x5 x6 x7 x8 x9 x10 x11) (i : Fin 16) (i10) (i7) (j : S1x128x128.Idx) (y : S16x128x128.Idx)
    (h0 : (y 0).val = i.val + (j 0).val) (l0 : (j 0).val < 1) (h1 : (y 1).val = (j 1).val) (h2 : (y 2).val = (j 2).val) :
    k1_pay22 k1_pay15 (View.ld x10 (Rect.unit (s := S16x128x128) ![i.val, 0, 0] ![1, 128, 128] i10)) (View.ld x7 (Rect.unit (s := S4x16x128) ![0, i.val, 0] ![4, 1, 128] i7)) j
      = ktB A B y := by
  idx_vars j
  idx_vars y
  obtain rfl : y0 = i := Fin.ext (by have a : y0.val = i.val + j0.val := h0; have b : j0.val < 1 := l0; omega)
  obtain rfl : y1 = j1 := Fin.ext h1
  obtain rfl : y2 = j2 := Fin.ext h2
  exact seq_kt H y0 _ _ _ _ _

theorem vt_piece (H : Rows A B x0 x1 x2 x3 x4 x5 x6 x7 x8 x9 x10 x11) (i : Fin 16) (i11) (i8) (j : S1x128x128.Idx) (y : S16x128x128.Idx)
    (h0 : (y 0).val = i.val + (j 0).val) (l0 : (j 0).val < 1) (h1 : (y 1).val = (j 1).val) (h2 : (y 2).val = (j 2).val) :
    k1_pay23 k1_pay15 (View.ld x11 (Rect.unit (s := S16x128x128) ![i.val, 0, 0] ![1, 128, 128] i11)) (View.ld x8 (Rect.unit (s := S4x16x128) ![0, i.val, 0] ![4, 1, 128] i8)) j
      = vtB A B y := by
  idx_vars j
  idx_vars y
  obtain rfl : y0 = i := Fin.ext (by have a : y0.val = i.val + j0.val := h0; have b : j0.val < 1 := l0; omega)
  obtain rfl : y1 = j1 := Fin.ext h1
  obtain rfl : y2 = j2 := Fin.ext h2
  exact seq_vt H y0 _ _ _ _ _

theorem s_piece (H : Rows A B x0 x1 x2 x3 x4 x5 x6 x7 x8 x9 x10 x11) (i : Fin 16) (i9) (i2) (i3) (i5) (j : S1x256x128.Idx) (y : S16x256x128.Idx)
    (h0 : (y 0).val = i.val + (j 0).val) (l0 : (j 0).val < 1) (h1 : (y 1).val = (j 1).val) (h2 : (y 2).val = (j 2).val) :
    k1_pay410 k1_pay8 k1_pay9 k1_pay10 (k1_pay402 (View.ld x9 (Rect.unit (s := S16x256x128) ![i.val, 0, 0] ![1, 256, 128] i9)))
      (k1_pay409 own (View.ld x2 (Rect.unit (s := S4x16x256) ![0, i.val, 0] ![4, 1, 256] i2)) (View.ld x3 (Rect.unit (s := S16x256) ![i.val, 0] ![1, 256] i3)))
      (View.ld x5 (Rect.unit (s := S4x16x512) ![0, i.val, 0] ![4, 1, 512] i5)) j
      = sB A B y := by
  idx_vars j
  idx_vars y
  obtain rfl : y0 = i := Fin.ext (by have a : y0.val = i.val + j0.val := h0; have b : j0.val < 1 := l0; omega)
  obtain rfl : y1 = j1 := Fin.ext h1
  obtain rfl : y2 = j2 := Fin.ext h2
  exact seq_state H y0 _ _ _ _ _ _ _

theorem oa_piece0 (H : Rows A B x0 x1 x2 x3 x4 x5 x6 x7 x8 x9 x10 x11) (i : Fin 16) (i9) (i1) (i4) (j : S4x1x128.Idx) (y : S4x16x512.Idx)
    (h0 : (y 0).val = (j 0).val) (h1 : (y 1).val = i.val + (j 1).val) (l1 : (j 1).val < 1) (h2 : (y 2).val = (j 2).val) :
    k1_pay404 own (View.ld x9 (Rect.unit (s := S16x256x128) ![i.val, 0, 0] ![1, 256, 128] i9)) (View.ld x1 (Rect.unit (s := S4x16x256) ![0, i.val, 0] ![4, 1, 256] i1))
      (View.ld x4 (Rect.unit (s := S4x16x512) ![0, i.val, 0] ![4, 1, 128] i4)) j
      = oaB A B y := by
  idx_vars j
  idx_vars y
  obtain rfl : y1 = i := Fin.ext (by have a : y1.val = i.val + j1.val := h1; have b : j1.val < 1 := l1; omega)
  obtain rfl : y0 = j0 := Fin.ext h0
  have l2 : j2.val < 128 := j2.isLt
  have hy : y2 = ⟨j2.val, by omega⟩ := Fin.ext h2
  exact (seq_oa0 H y1 _ _ _ _ _ _).trans (congrArg (oa A y0 (B y1)) hy.symm)

theorem oa_piece1 (H : Rows A B x0 x1 x2 x3 x4 x5 x6 x7 x8 x9 x10 x11) (i : Fin 16) (i9) (i1) (i4) (j : S4x1x128.Idx) (y : S4x16x512.Idx)
    (h0 : (y 0).val = (j 0).val) (h1 : (y 1).val = i.val + (j 1).val) (l1 : (j 1).val < 1) (h2 : (y 2).val = 128 + (j 2).val) :
    k1_pay406 (k1_pay405 own (View.ld x9 (Rect.unit (s := S16x256x128) ![i.val, 0, 0] ![1, 256, 128] i9)) (View.ld x1 (Rect.unit (s := S4x16x256) ![0, i.val, 0] ![4, 1, 256] i1))
      (View.ld x4 (Rect.unit (s := S4x16x512) ![0, i.val, 128] ![4, 1, 128] i4))) j
      = oaB A B y := by
  idx_vars j
  idx_vars y
  obtain rfl : y1 = i := Fin.ext (by have a : y1.val = i.val + j1.val := h1; have b : j1.val < 1 := l1; omega)
  obtain rfl : y0 = j0 := Fin.ext h0
  have l2 : j2.val < 128 := j2.isLt
  have hy : y2 = ⟨128 + j2.val, by omega⟩ := Fin.ext h2
  exact (seq_oa1 H y1 _ _ _ _ _ _).trans (congrArg (oa A y0 (B y1)) hy.symm)

theorem oa_piece2 (H : Rows A B x0 x1 x2 x3 x4 x5 x6 x7 x8 x9 x10 x11) (i : Fin 16) (i9) (i1) (i4) (j : S4x1x128.Idx) (y : S4x16x512.Idx)
    (h0 : (y 0).val = (j 0).val) (h1 : (y 1).val = i.val + (j 1).val) (l1 : (j 1).val < 1) (h2 : (y 2).val = 256 + (j 2).val) :
    k1_pay407 (k1_pay403 own (View.ld x9 (Rect.unit (s := S16x256x128) ![i.val, 0, 0] ![1, 256, 128] i9)) (View.ld x1 (Rect.unit (s := S4x16x256) ![0, i.val, 0] ![4, 1, 256] i1)))
      (View.ld x4 (Rect.unit (s := S4x16x512) ![0, i.val, 256] ![4, 1, 128] i4)) j
      = oaB A B y := by
  idx_vars j
  idx_vars y
  obtain rfl : y1 = i := Fin.ext (by have a : y1.val = i.val + j1.val := h1; have b : j1.val < 1 := l1; omega)
  obtain rfl : y0 = j0 := Fin.ext h0
  have l2 : j2.val < 128 := j2.isLt
  have hy : y2 = ⟨256 + j2.val, by omega⟩ := Fin.ext h2
  exact (seq_oa2 H y1 _ _ _ _ _ _).trans (congrArg (oa A y0 (B y1)) hy.symm)

theorem oa_piece3 (H : Rows A B x0 x1 x2 x3 x4 x5 x6 x7 x8 x9 x10 x11) (i : Fin 16) (i9) (i1) (i4) (j : S4x1x128.Idx) (y : S4x16x512.Idx)
    (h0 : (y 0).val = (j 0).val) (h1 : (y 1).val = i.val + (j 1).val) (l1 : (j 1).val < 1) (h2 : (y 2).val = 384 + (j 2).val) :
    k1_pay408 (k1_pay403 own (View.ld x9 (Rect.unit (s := S16x256x128) ![i.val, 0, 0] ![1, 256, 128] i9)) (View.ld x1 (Rect.unit (s := S4x16x256) ![0, i.val, 0] ![4, 1, 256] i1)))
      (View.ld x4 (Rect.unit (s := S4x16x512) ![0, i.val, 384] ![4, 1, 128] i4)) j
      = oaB A B y := by
  idx_vars j
  idx_vars y
  obtain rfl : y1 = i := Fin.ext (by have a : y1.val = i.val + j1.val := h1; have b : j1.val < 1 := l1; omega)
  obtain rfl : y0 = j0 := Fin.ext h0
  have l2 : j2.val < 128 := j2.isLt
  have hy : y2 = ⟨384 + j2.val, by omega⟩ := Fin.ext h2
  exact (seq_oa3 H y1 _ _ _ _ _ _).trans (congrArg (oa A y0 (B y1)) hy.symm)

variable {V : (c : Dev nD) → (r : Ref sig .tc) → Buf (Elt Ideal) ((c.tc : Thread nD τ).loc r)} {c : Dev nD} {t : Fin cfg1.N}

set_option maxHeartbeats 4000000 in
theorem out_kt (H : Rows A B (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)) (y : S16x128x128.Idx) :
    (outsAt1 V c t).2.2.2.1 y = ktB A B y := by
  unfold outsAt1
  frame_out
  revert H
  generalize iblk1 V c 0 t = x0, iblk1 V c 1 t = x1, iblk1 V c 2 t = x2, iblk1 V c 3 t = x3, iblk1 V c 4 t = x4, iblk1 V c 5 t = x5, iblk1 V c 6 t = x6, iblk1 V c 7 t = x7, iblk1 V c 8 t = x8, iblk1 V c 9 t = x9, iblk1 V c 10 t = x10, iblk1 V c 11 t = x11
  intro H
  have e10 := (hs1_10 t).read_unread x10
  have e7 := (hs1_7 t).read_unread x7
  try rw [e10]
  try rw [e7]
  canon_tiles x h
  · exact kt_piece H 15 _ _ x y h0 x0_lt h1 h2
  · exact kt_piece H 14 _ _ x y h0 x0_lt h1 h2
  · exact kt_piece H 13 _ _ x y h0 x0_lt h1 h2
  · exact kt_piece H 12 _ _ x y h0 x0_lt h1 h2
  · exact kt_piece H 11 _ _ x y h0 x0_lt h1 h2
  · exact kt_piece H 10 _ _ x y h0 x0_lt h1 h2
  · exact kt_piece H 9 _ _ x y h0 x0_lt h1 h2
  · exact kt_piece H 8 _ _ x y h0 x0_lt h1 h2
  · exact kt_piece H 7 _ _ x y h0 x0_lt h1 h2
  · exact kt_piece H 6 _ _ x y h0 x0_lt h1 h2
  · exact kt_piece H 5 _ _ x y h0 x0_lt h1 h2
  · exact kt_piece H 4 _ _ x y h0 x0_lt h1 h2
  · exact kt_piece H 3 _ _ x y h0 x0_lt h1 h2
  · exact kt_piece H 2 _ _ x y h0 x0_lt h1 h2
  · exact kt_piece H 1 _ _ x y h0 x0_lt h1 h2
  · exact kt_piece H 0 _ _ x y (h0.trans (Nat.zero_add _).symm) x0_lt h1 h2

set_option maxHeartbeats 4000000 in
theorem out_vt (H : Rows A B (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)) (y : S16x128x128.Idx) :
    (outsAt1 V c t).2.2.2.2 y = vtB A B y := by
  unfold outsAt1
  frame_out
  revert H
  generalize iblk1 V c 0 t = x0, iblk1 V c 1 t = x1, iblk1 V c 2 t = x2, iblk1 V c 3 t = x3, iblk1 V c 4 t = x4, iblk1 V c 5 t = x5, iblk1 V c 6 t = x6, iblk1 V c 7 t = x7, iblk1 V c 8 t = x8, iblk1 V c 9 t = x9, iblk1 V c 10 t = x10, iblk1 V c 11 t = x11
  intro H
  have e11 := (hs1_11 t).read_unread x11
  have e8 := (hs1_8 t).read_unread x8
  try rw [e11]
  try rw [e8]
  canon_tiles x h
  · exact vt_piece H 15 _ _ x y h0 x0_lt h1 h2
  · exact vt_piece H 14 _ _ x y h0 x0_lt h1 h2
  · exact vt_piece H 13 _ _ x y h0 x0_lt h1 h2
  · exact vt_piece H 12 _ _ x y h0 x0_lt h1 h2
  · exact vt_piece H 11 _ _ x y h0 x0_lt h1 h2
  · exact vt_piece H 10 _ _ x y h0 x0_lt h1 h2
  · exact vt_piece H 9 _ _ x y h0 x0_lt h1 h2
  · exact vt_piece H 8 _ _ x y h0 x0_lt h1 h2
  · exact vt_piece H 7 _ _ x y h0 x0_lt h1 h2
  · exact vt_piece H 6 _ _ x y h0 x0_lt h1 h2
  · exact vt_piece H 5 _ _ x y h0 x0_lt h1 h2
  · exact vt_piece H 4 _ _ x y h0 x0_lt h1 h2
  · exact vt_piece H 3 _ _ x y h0 x0_lt h1 h2
  · exact vt_piece H 2 _ _ x y h0 x0_lt h1 h2
  · exact vt_piece H 1 _ _ x y h0 x0_lt h1 h2
  · exact vt_piece H 0 _ _ x y (h0.trans (Nat.zero_add _).symm) x0_lt h1 h2

set_option maxHeartbeats 4000000 in
theorem out_s (H : Rows A B (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)) (y : S16x256x128.Idx) :
    (outsAt1 V c t).2.2.1 y = sB A B y := by
  unfold outsAt1
  frame_out
  revert H
  generalize iblk1 V c 0 t = x0, iblk1 V c 1 t = x1, iblk1 V c 2 t = x2, iblk1 V c 3 t = x3, iblk1 V c 4 t = x4, iblk1 V c 5 t = x5, iblk1 V c 6 t = x6, iblk1 V c 7 t = x7, iblk1 V c 8 t = x8, iblk1 V c 9 t = x9, iblk1 V c 10 t = x10, iblk1 V c 11 t = x11
  intro H
  have e9 := (hs1_9 t).read_unread x9
  have e2 := (hs1_2 t).read_unread x2
  have e3 := (hs1_3 t).read_unread x3
  have e5 := (hs1_5 t).read_unread x5
  try rw [e9]
  try rw [e2]
  try rw [e3]
  try rw [e5]
  canon_tiles x h
  · exact s_piece H 15 _ _ _ _ x y h0 x0_lt h1 h2
  · exact s_piece H 14 _ _ _ _ x y h0 x0_lt h1 h2
  · exact s_piece H 13 _ _ _ _ x y h0 x0_lt h1 h2
  · exact s_piece H 12 _ _ _ _ x y h0 x0_lt h1 h2
  · exact s_piece H 11 _ _ _ _ x y h0 x0_lt h1 h2
  · exact s_piece H 10 _ _ _ _ x y h0 x0_lt h1 h2
  · exact s_piece H 9 _ _ _ _ x y h0 x0_lt h1 h2
  · exact s_piece H 8 _ _ _ _ x y h0 x0_lt h1 h2
  · exact s_piece H 7 _ _ _ _ x y h0 x0_lt h1 h2
  · exact s_piece H 6 _ _ _ _ x y h0 x0_lt h1 h2
  · exact s_piece H 5 _ _ _ _ x y h0 x0_lt h1 h2
  · exact s_piece H 4 _ _ _ _ x y h0 x0_lt h1 h2
  · exact s_piece H 3 _ _ _ _ x y h0 x0_lt h1 h2
  · exact s_piece H 2 _ _ _ _ x y h0 x0_lt h1 h2
  · exact s_piece H 1 _ _ _ _ x y h0 x0_lt h1 h2
  · exact s_piece H 0 _ _ _ _ x y (h0.trans (Nat.zero_add _).symm) x0_lt h1 h2

set_option maxHeartbeats 4000000 in
theorem out_oa (H : Rows A B (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)) (y : S4x16x512.Idx) :
    (outsAt1 V c t).1 y = oaB A B y := by
  unfold outsAt1
  frame_out
  revert H
  generalize iblk1 V c 0 t = x0, iblk1 V c 1 t = x1, iblk1 V c 2 t = x2, iblk1 V c 3 t = x3, iblk1 V c 4 t = x4, iblk1 V c 5 t = x5, iblk1 V c 6 t = x6, iblk1 V c 7 t = x7, iblk1 V c 8 t = x8, iblk1 V c 9 t = x9, iblk1 V c 10 t = x10, iblk1 V c 11 t = x11
  intro H
  have e9 := (hs1_9 t).read_unread x9
  have e1 := (hs1_1 t).read_unread x1
  have e4 := (hs1_4 t).read_unread x4
  try rw [e9]
  try rw [e1]
  try rw [e4]
  canon_tiles x h
  · exact oa_piece3 H 15 _ _ _ x y h0 h1 x1_lt h2
  · exact oa_piece2 H 15 _ _ _ x y h0 h1 x1_lt h2
  · exact oa_piece1 H 15 _ _ _ x y h0 h1 x1_lt h2
  · exact oa_piece0 H 15 _ _ _ x y h0 h1 x1_lt h2
  · exact oa_piece3 H 14 _ _ _ x y h0 h1 x1_lt h2
  · exact oa_piece2 H 14 _ _ _ x y h0 h1 x1_lt h2
  · exact oa_piece1 H 14 _ _ _ x y h0 h1 x1_lt h2
  · exact oa_piece0 H 14 _ _ _ x y h0 h1 x1_lt h2
  · exact oa_piece3 H 13 _ _ _ x y h0 h1 x1_lt h2
  · exact oa_piece2 H 13 _ _ _ x y h0 h1 x1_lt h2
  · exact oa_piece1 H 13 _ _ _ x y h0 h1 x1_lt h2
  · exact oa_piece0 H 13 _ _ _ x y h0 h1 x1_lt h2
  · exact oa_piece3 H 12 _ _ _ x y h0 h1 x1_lt h2
  · exact oa_piece2 H 12 _ _ _ x y h0 h1 x1_lt h2
  · exact oa_piece1 H 12 _ _ _ x y h0 h1 x1_lt h2
  · exact oa_piece0 H 12 _ _ _ x y h0 h1 x1_lt h2
  · exact oa_piece3 H 11 _ _ _ x y h0 h1 x1_lt h2
  · exact oa_piece2 H 11 _ _ _ x y h0 h1 x1_lt h2
  · exact oa_piece1 H 11 _ _ _ x y h0 h1 x1_lt h2
  · exact oa_piece0 H 11 _ _ _ x y h0 h1 x1_lt h2
  · exact oa_piece3 H 10 _ _ _ x y h0 h1 x1_lt h2
  · exact oa_piece2 H 10 _ _ _ x y h0 h1 x1_lt h2
  · exact oa_piece1 H 10 _ _ _ x y h0 h1 x1_lt h2
  · exact oa_piece0 H 10 _ _ _ x y h0 h1 x1_lt h2
  · exact oa_piece3 H 9 _ _ _ x y h0 h1 x1_lt h2
  · exact oa_piece2 H 9 _ _ _ x y h0 h1 x1_lt h2
  · exact oa_piece1 H 9 _ _ _ x y h0 h1 x1_lt h2
  · exact oa_piece0 H 9 _ _ _ x y h0 h1 x1_lt h2
  · exact oa_piece3 H 8 _ _ _ x y h0 h1 x1_lt h2
  · exact oa_piece2 H 8 _ _ _ x y h0 h1 x1_lt h2
  · exact oa_piece1 H 8 _ _ _ x y h0 h1 x1_lt h2
  · exact oa_piece0 H 8 _ _ _ x y h0 h1 x1_lt h2
  · exact oa_piece3 H 7 _ _ _ x y h0 h1 x1_lt h2
  · exact oa_piece2 H 7 _ _ _ x y h0 h1 x1_lt h2
  · exact oa_piece1 H 7 _ _ _ x y h0 h1 x1_lt h2
  · exact oa_piece0 H 7 _ _ _ x y h0 h1 x1_lt h2
  · exact oa_piece3 H 6 _ _ _ x y h0 h1 x1_lt h2
  · exact oa_piece2 H 6 _ _ _ x y h0 h1 x1_lt h2
  · exact oa_piece1 H 6 _ _ _ x y h0 h1 x1_lt h2
  · exact oa_piece0 H 6 _ _ _ x y h0 h1 x1_lt h2
  · exact oa_piece3 H 5 _ _ _ x y h0 h1 x1_lt h2
  · exact oa_piece2 H 5 _ _ _ x y h0 h1 x1_lt h2
  · exact oa_piece1 H 5 _ _ _ x y h0 h1 x1_lt h2
  · exact oa_piece0 H 5 _ _ _ x y h0 h1 x1_lt h2
  · exact oa_piece3 H 4 _ _ _ x y h0 h1 x1_lt h2
  · exact oa_piece2 H 4 _ _ _ x y h0 h1 x1_lt h2
  · exact oa_piece1 H 4 _ _ _ x y h0 h1 x1_lt h2
  · exact oa_piece0 H 4 _ _ _ x y h0 h1 x1_lt h2
  · exact oa_piece3 H 3 _ _ _ x y h0 h1 x1_lt h2
  · exact oa_piece2 H 3 _ _ _ x y h0 h1 x1_lt h2
  · exact oa_piece1 H 3 _ _ _ x y h0 h1 x1_lt h2
  · exact oa_piece0 H 3 _ _ _ x y h0 h1 x1_lt h2
  · exact oa_piece3 H 2 _ _ _ x y h0 h1 x1_lt h2
  · exact oa_piece2 H 2 _ _ _ x y h0 h1 x1_lt h2
  · exact oa_piece1 H 2 _ _ _ x y h0 h1 x1_lt h2
  · exact oa_piece0 H 2 _ _ _ x y h0 h1 x1_lt h2
  · exact oa_piece3 H 1 _ _ _ x y h0 h1 x1_lt h2
  · exact oa_piece2 H 1 _ _ _ x y h0 h1 x1_lt h2
  · exact oa_piece1 H 1 _ _ _ x y h0 h1 x1_lt h2
  · exact oa_piece0 H 1 _ _ _ x y h0 h1 x1_lt h2
  · exact oa_piece3 H 0 _ _ _ x y h0 (h1.trans (Nat.zero_add _).symm) x1_lt h2
  · exact oa_piece2 H 0 _ _ _ x y h0 (h1.trans (Nat.zero_add _).symm) x1_lt h2
  · exact oa_piece1 H 0 _ _ _ x y h0 (h1.trans (Nat.zero_add _).symm) x1_lt h2
  · exact oa_piece0 H 0 _ _ _ x y h0 (h1.trans (Nat.zero_add _).symm) x1_lt h2

end Cert.Kernel3Ideal.Smp

end
-- ==== Proof.SmpSoft.lean ====
module

public import proofs.«01_k».proof.Proof.SmpConsts
public import proofs.«01_k».proof.Proof.SmpSpec

@[expose] public section

noncomputable section

/-! The softmax with a sink, taken with powers of two on scores scaled by the reciprocal of the logarithm of two, is the one
    taken with exponentials: of finite sinks and of scores below infinity. -/

namespace Cert.Smp

open Idealize.ShloMosaic

theorem l2e_pos : (0 : ℝ) < (Real.log 2)⁻¹ := inv_pos.mpr (Real.log_pos (by norm_num))

theorem coe_mul_add (c : ℝ) (hc : 0 < c) (x y : EReal) : (c : EReal) * (x + y) = c * x + c * y :=
  EReal.left_distrib_of_nonneg_of_ne_top (EReal.coe_nonneg.mpr hc.le) (EReal.coe_ne_top c) x y

theorem coe_mul_sum {ι : Type} (c : ℝ) (hc : 0 < c) (s : Finset ι) (f : ι → EReal) : (c : EReal) * ∑ i ∈ s, f i = ∑ i ∈ s, c * f i := by
  classical
  induction s using Finset.induction_on with
  | empty => simp
  | insert a s ha ih => rw [Finset.sum_insert ha, Finset.sum_insert ha, coe_mul_add c hc, ih]

theorem coe_mul_sub (c : ℝ) (hc : 0 < c) (x y : EReal) : (c : EReal) * (x - y) = c * x - c * y := by
  rw [sub_eq_add_neg, sub_eq_add_neg, coe_mul_add c hc, mul_neg]

theorem coe_mul_le (c : ℝ) (hc : 0 < c) {x y : EReal} (h : x ≤ y) : (c : EReal) * x ≤ c * y :=
  mul_le_mul_of_nonneg_left h (EReal.coe_nonneg.mpr hc.le)

theorem exp2_scale (y : EReal) : Ideal.exp2 (((Real.log 2)⁻¹ : ℝ) * y) = Ideal.exp y := by
  induction y with
  | bot => rw [EReal.coe_mul_bot_of_pos l2e_pos]; rfl
  | top => rw [EReal.coe_mul_top_of_pos l2e_pos]; rfl
  | coe r =>
    rw [← EReal.coe_mul]
    show ((Real.rpow 2 _ : ℝ) : EReal) = (Real.exp r : ℝ)
    congr 1
    rw [Real.rpow_eq_pow, Real.rpow_def_of_pos (by norm_num), ← mul_assoc, mul_inv_cancel₀ (Real.log_pos (by norm_num)).ne', one_mul]

theorem exp_nonneg' (y : EReal) : 0 ≤ Ideal.exp y := by
  induction y with
  | bot => exact le_refl _
  | top => exact le_top
  | coe r => exact EReal.coe_nonneg.mpr (Real.exp_pos r).le

section
variable (S : Fin 256 → EReal) (K sink : EReal) (sc : Fin 132 → EReal)
  (hS : ∀ c : Fin 256, S c = if h : c.val < 132 then (((Real.log 2)⁻¹ : ℝ) : EReal) * sc ⟨c.val, h⟩ else ⊥)
  (hK : K = (((Real.log 2)⁻¹ : ℝ) : EReal) * sink) (h0 : sink ≠ ⊥) (h1 : sink ≠ ⊤) (hsc : ∀ s, sc s ≠ ⊤)

include hS hK in
theorem soft_top : max (Finset.univ.sup S) K = (((Real.log 2)⁻¹ : ℝ) : EReal) * max (Finset.univ.sup sc) sink := by
  have hs : ∀ s : Fin 132, (((Real.log 2)⁻¹ : ℝ) : EReal) * sc s ≤ Finset.univ.sup S := fun s => by
    have h := hS ⟨s.val, by omega⟩
    rw [dif_pos s.isLt] at h
    rw [← h]
    exact Finset.le_sup (f := S) (Finset.mem_univ _)
  refine le_antisymm (max_le (Finset.sup_le fun c _ => ?_) ?_) ?_
  · rw [hS c]
    split
    · exact coe_mul_le _ l2e_pos (le_trans (Finset.le_sup (f := sc) (Finset.mem_univ _)) (le_max_left _ _))
    · exact bot_le
  · rw [hK]
    exact coe_mul_le _ l2e_pos (le_max_right _ _)
  · rcases le_total (Finset.univ.sup sc) sink with h | h
    · rw [max_eq_right h, ← hK]
      exact le_max_right _ _
    · rw [max_eq_left h]
      obtain ⟨s, -, e⟩ := Finset.exists_mem_eq_sup Finset.univ Finset.univ_nonempty sc
      rw [e]
      exact le_trans (hs s) (le_max_left _ _)

theorem sum_real (f : Fin 132 → EReal) : (∑ c : Fin 256, if h : c.val < 132 then f ⟨c.val, h⟩ else 0) = ∑ s, f s := by
  refine (Fin.sum_univ_add (a := 132) (b := 124) (fun c : Fin (132 + 124) => if h : c.val < 132 then f ⟨c.val, h⟩ else 0)).trans ?_
  refine (congrArg₂ (· + ·) (Finset.sum_congr rfl fun s _ => dif_pos s.isLt) (Finset.sum_eq_zero fun i _ => dif_neg (by simp))).trans ?_
  exact add_zero _

include hS hK in
theorem soft_exp (c : Fin 256) : Ideal.exp2 (S c - max (Finset.univ.sup S) K)
    = if h : c.val < 132 then Ideal.exp (sc ⟨c.val, h⟩ - max (Finset.univ.sup sc) sink) else 0 := by
  rw [soft_top S K sink sc hS hK, hS c]
  split
  · rw [← coe_mul_sub _ l2e_pos, exp2_scale]
  · rw [sub_eq_add_neg, EReal.bot_add]; rfl

include hS hK in
theorem soft_sum : (∑ c, Ideal.exp2 (S c - max (Finset.univ.sup S) K)) + Ideal.exp2 (K - max (Finset.univ.sup S) K)
    = (∑ s, Ideal.exp (sc s - max (Finset.univ.sup sc) sink)) + Ideal.exp (sink - max (Finset.univ.sup sc) sink) := by
  rw [Finset.sum_congr rfl fun c _ => soft_exp S K sink sc hS hK c, sum_real (fun s => Ideal.exp (sc s - max (Finset.univ.sup sc) sink))]
  rw [soft_top S K sink sc hS hK, hK, ← coe_mul_sub _ l2e_pos, exp2_scale]

include h0 h1 hsc in
theorem soft_pos : (∑ s, Ideal.exp (sc s - max (Finset.univ.sup sc) sink)) + Ideal.exp (sink - max (Finset.univ.sup sc) sink) ≠ 0 := by
  have ht : max (Finset.univ.sup sc) sink ≠ ⊤ := by
    rcases le_total (Finset.univ.sup sc) sink with h | h
    · rw [max_eq_right h]; exact h1
    · rw [max_eq_left h]
      obtain ⟨s, -, e⟩ := Finset.exists_mem_eq_sup Finset.univ Finset.univ_nonempty sc
      rw [e]; exact hsc s
  have hb : max (Finset.univ.sup sc) sink ≠ ⊥ := fun h => h0 (le_bot_iff.mp (h ▸ le_max_right _ _))
  generalize max (Finset.univ.sup sc) sink = T at ht hb
  have hp : 0 < Ideal.exp (sink - T) := by
    lift T to ℝ using ⟨ht, hb⟩
    lift sink to ℝ using ⟨h1, h0⟩
    rw [← EReal.coe_sub]
    exact EReal.coe_pos.mpr (Real.exp_pos _)
  exact (lt_of_lt_of_le hp (le_add_of_nonneg_left (Finset.sum_nonneg fun s _ => exp_nonneg' _))).ne'

include hS hK h0 h1 hsc in
/-- A key's weight. -/
theorem soft (c : Fin 256) : Ideal.exp2 (S c - max (Finset.univ.sup S) K)
      * Ideal.div 1 ((∑ x, Ideal.exp2 (S x - max (Finset.univ.sup S) K)) + Ideal.exp2 (K - max (Finset.univ.sup S) K))
    = if h : c.val < 132 then Ideal.div (Ideal.exp (sc ⟨c.val, h⟩ - max (Finset.univ.sup sc) sink))
        ((∑ s, Ideal.exp (sc s - max (Finset.univ.sup sc) sink)) + Ideal.exp (sink - max (Finset.univ.sup sc) sink)) else 0 := by
  rw [soft_sum S K sink sc hS hK, soft_exp S K sink sc hS hK]
  have h := soft_pos sink sc h0 h1 hsc
  generalize (∑ s, Ideal.exp (sc s - max (Finset.univ.sup sc) sink)) + Ideal.exp (sink - max (Finset.univ.sup sc) sink) = D at h
  unfold Ideal.div
  rw [if_neg h]
  split
  · rw [one_mul]
  · rw [zero_mul]
end

/-- The weight of a key among scores in powers of two, against one further score. -/
def pr (S : Fin 256 → EReal) (K : EReal) (c : Fin 256) : EReal :=
  Ideal.exp2 (S c - max (Finset.univ.sup S) K)
    * Ideal.div 1 ((∑ x, Ideal.exp2 (S x - max (Finset.univ.sup S) K)) + Ideal.exp2 (K - max (Finset.univ.sup S) K))

/-- The scores are below infinity and the sinks finite. -/
structure Fine (A : Args) : Prop where
  sink0 : ∀ h, A.sink h ≠ ⊥
  sink1 : ∀ h, A.sink h ≠ ⊤
  score : ∀ b h t s, score A b h t s ≠ ⊤

theorem Fine.pr {A : Args} (H : Fine A) (b : Fin 128) (h : Fin 8) (t : Fin 4) (S : Fin 256 → EReal) (K : EReal)
    (hS : ∀ c : Fin 256, S c = if p : c.val < 132 then (((Real.log 2)⁻¹ : ℝ) : EReal) * Cert.Smp.score A b h t ⟨c.val, p⟩ else ⊥)
    (hK : K = (((Real.log 2)⁻¹ : ℝ) : EReal) * A.sink h) (V : Fin 256 → EReal) (d : Fin 64)
    (hV : ∀ (c : Fin 256) (p : c.val < 132), V c = vall A b ⟨c.val, p⟩ ⟨h.val / 4, by omega⟩ d) :
    ∑ c, V c * Cert.Smp.pr S K c = obAt A t b h d := by
  unfold obAt
  rw [← sum_real]
  refine Finset.sum_congr rfl fun c _ => ?_
  refine (congrArg (V c * ·) (soft S K (A.sink h) (Cert.Smp.score A b h t) hS hK (H.sink0 h) (H.sink1 h) (H.score b h t) c)).trans ?_
  by_cases p : c.val < 132
  · rw [dif_pos p, dif_pos p, hV c p]
    rfl
  · rw [dif_neg p, dif_neg p, mul_zero]

/-- A finite extended real. -/
def Real' (x : EReal) : Prop := ∃ r : ℝ, x = r

theorem Real'.mul {x y : EReal} : Real' x → Real' y → Real' (x * y) := fun ⟨a, ha⟩ ⟨b, hb⟩ => ⟨a * b, by rw [ha, hb, EReal.coe_mul]⟩
theorem Real'.add {x y : EReal} : Real' x → Real' y → Real' (x + y) := fun ⟨a, ha⟩ ⟨b, hb⟩ => ⟨a + b, by rw [ha, hb, EReal.coe_add]⟩
theorem Real'.sum {ι : Type} (s : Finset ι) {f : ι → EReal} (h : ∀ i, Real' (f i)) : Real' (∑ i ∈ s, f i) := by
  classical
  induction s using Finset.induction_on with
  | empty => exact ⟨0, by simp⟩
  | insert a s ha ih => rw [Finset.sum_insert ha]; exact (h a).add ih
theorem Real'.ne_top {x : EReal} : Real' x → x ≠ ⊤ := fun ⟨a, ha⟩ => ha ▸ EReal.coe_ne_top a
theorem Real'.ne_bot {x : EReal} : Real' x → x ≠ ⊥ := fun ⟨a, ha⟩ => ha ▸ EReal.coe_ne_bot a

end Cert.Smp

end
-- ==== Proof.SmpAttn.lean ====
module

public import proofs.«01_k».proof.Proof.SmpSeq
public import proofs.«01_k».proof.Proof.SmpSoft

@[expose] public section

set_option maxRecDepth 16384

noncomputable section

/-! One sequence of the mixer's second kernel: the attention. A pass over eight rows is four steps of two heads. -/

namespace Cert.Kernel3Ideal.Smp

open Cert.Kernel3Ideal Cert.Kernel3Ideal.Gen Idealize.ShloMosaic Idealize.ShloMosaic.TcCoe Idealize.SL.Sem Cert.Smp

theorem first4 : ∀ (a : Fin 8) (u : Fin 1), k1_pay14 (ix2 a u) = if a.val < 4 then 1#1 else 0#1 := by decide +kernel
theorem inside : ∀ (a : Fin 8) (c : Fin 256), k1_pay13 (ix2 a c) = if a.val % 4 < c.val ∧ c.val ≤ a.val % 4 + 128 then 1#1 else 0#1 := by decide +kernel
theorem far_int : ∀ (a : Fin 8) (c : Fin 256), (k1_pay11 (ix2 a c)).toInt = (a.val % 4 + 128 : ℤ) - c.val := by decide +kernel
theorem far (a : Fin 8) (c : Fin 256) (t : Fin 4) (h : a.val % 4 = t.val) :
    k1_pay12 (F := Ideal) (ix2 a c) = (((t.val + 128 : ℝ) - c.val : ℝ) : EReal) := by
  show ((((k1_pay11 (ix2 a c)).toInt : ℤ) : ℝ) : EReal) = _
  rw [far_int, ← h]
  push_cast
  rfl

theorem pass0 (d : FVec Ideal S8x256 .f32) (m : IVec S8x256 1) (s : IVec S8x1 1) (M : FVec Ideal S8x256 .f32) (V : FVec Ideal S128x256 .bf16)
    (q : FVec Ideal S8x1 .f32) (x y : EReal) (l : Fin 128) (a : Fin 8) :
    k1_pay565 (F := Ideal) d m s M V q x y (ix2 l a) = ∑ c, V (ix2 l c) * pr (fun c => Scalar.select (m (ix2 a c)) (M (ix2 a c) - q (ix2 a 0) * d (ix2 a c)) ⊥)
      (k1_pay571 (F := Ideal) s x y (ix2 a 0)) c := by
  pointwise [k1_pay565, k1_pay571]
  rw [lit_bot]
  rfl

theorem pass2 (V : FVec Ideal S128x256 .bf16) (k : FVec Ideal S8x1 .f32) (M : FVec Ideal S8x256 .f32) (l : Fin 128) (a : Fin 8) :
    k1_pay573 V k M (ix2 l a) = ∑ c, V (ix2 l c) * pr (fun c => M (ix2 a c)) (k (ix2 a 0)) c := by
  pointwise [k1_pay573]
  rw [lit_bot]
  rfl

theorem pass1a (V : FVec Ideal S128x256 .bf16) (o : FVec Ideal S128x8 .f32) (k : FVec Ideal S8x1 .f32) (M : FVec Ideal S8x256 .f32)
    (t : Fin 4) (u : Fin 1) (l : Fin 128) :
    k1_pay569 V o k M (ix3 t u l) = o (ix2 l ⟨t.val, by omega⟩)
      + ∑ c, V (ix2 l c) * pr (fun c => M (ix2 ⟨t.val, by omega⟩ c)) (k (ix2 ⟨t.val, by omega⟩ 0)) c := by
  pointwise [k1_pay569, k1_pay568]
  rw [lit_bot]
  rfl

theorem pass1b (V : FVec Ideal S128x256 .bf16) (o : FVec Ideal S128x8 .f32) (k : FVec Ideal S8x1 .f32) (M : FVec Ideal S8x256 .f32)
    (t : Fin 4) (u : Fin 1) (l : Fin 128) :
    k1_pay570 V o k M (ix3 t u l) = o (ix2 l ⟨4 + t.val, by omega⟩)
      + ∑ c, V (ix2 l c) * pr (fun c => M (ix2 ⟨4 + t.val, by omega⟩ c)) (k (ix2 ⟨4 + t.val, by omega⟩ 0)) c := by
  pointwise [k1_pay570, k1_pay568]
  rw [lit_bot]
  rfl

theorem weight3 (d : FVec Ideal S8x256 .f32) (m : IVec S8x256 1) (s : IVec S8x1 1) (M : FVec Ideal S8x256 .f32) (x y : EReal) (a : Fin 8) (c : Fin 256) :
    k1_pay577 (F := Ideal) d m s M x y (ix2 a c) * k1_pay578 (F := Ideal) d m s M x y (ix2 a c)
      = pr (fun c => k1_pay575 d m s M (ix2 a c)) (k1_pay571 (F := Ideal) s x y (ix2 a 0)) c := by
  pointwise [k1_pay577, k1_pay578, k1_pay576, k1_pay574, k1_pay571]
  rw [lit_bot]
  rfl

theorem pass3a (V : FVec Ideal S128x256 .bf16) (o : FVec Ideal S128x8 .f32) (P Q : FVec Ideal S8x256 .f32) (t : Fin 4) (u : Fin 1) (l : Fin 128) :
    k1_pay580 V o P Q (ix3 t u l) = o (ix2 l ⟨t.val, by omega⟩) + ∑ c, V (ix2 l c) * (P (ix2 ⟨t.val, by omega⟩ c) * Q (ix2 ⟨t.val, by omega⟩ c)) := by
  pointwise [k1_pay580, k1_pay579]

theorem pass3b (V : FVec Ideal S128x256 .bf16) (o : FVec Ideal S128x8 .f32) (P Q : FVec Ideal S8x256 .f32) (t : Fin 4) (u : Fin 1) (l : Fin 128) :
    k1_pay581 V o P Q (ix3 t u l) = o (ix2 l ⟨4 + t.val, by omega⟩) + ∑ c, V (ix2 l c) * (P (ix2 ⟨4 + t.val, by omega⟩ c) * Q (ix2 ⟨4 + t.val, by omega⟩ c)) := by
  pointwise [k1_pay581, k1_pay579]

theorem vals33 (V : FVec Ideal S128x256 .bf16) (l : Fin 128) (c : Fin 256) :
    k1_pay33 k1_pay17 V (ix2 l c) = if l.val < 64 then V (ix2 ⟨l.val % 64, by omega⟩ c) else 0 := by
  pointwise [k1_pay33, k1_pay17, k1_pay32]
  split
  · exact congrArg (fun r => V (ix2 r c)) (Fin.ext (by show l.val = l.val % 64; omega))
  · rfl

theorem vals34 (V : FVec Ideal S128x256 .bf16) (l : Fin 128) (c : Fin 256) :
    k1_pay34 k1_pay17 V (ix2 l c) = if l.val < 64 then 0 else V (ix2 ⟨l.val % 64, by omega⟩ c) := by
  pointwise [k1_pay34, k1_pay17, k1_pay32]
  split
  · rfl
  · exact congrArg (fun r => V (ix2 r c)) (Fin.ext (by show l.val - 64 = l.val % 64; omega))

theorem vals40 (V : FVec Ideal S128x256 .bf16) (l : Fin 128) (c : Fin 256) :
    k1_pay40 k1_pay17 V (ix2 l c) = if l.val < 64 then V (ix2 ⟨64 + l.val % 64, by omega⟩ c) else 0 := by
  pointwise [k1_pay40, k1_pay17, k1_pay39]
  split
  · exact congrArg (fun r => V (ix2 r c)) (Fin.ext (by show 64 + l.val = 64 + l.val % 64; omega))
  · rfl

theorem vals41 (V : FVec Ideal S128x256 .bf16) (l : Fin 128) (c : Fin 256) :
    k1_pay41 k1_pay17 V (ix2 l c) = if l.val < 64 then 0 else V (ix2 ⟨64 + l.val % 64, by omega⟩ c) := by
  pointwise [k1_pay41, k1_pay17, k1_pay39]
  split
  · rfl
  · exact congrArg (fun r => V (ix2 r c)) (Fin.ext (by show 64 + (l.val - 64) = 64 + l.val % 64; omega))

theorem keys_apply (k : Vec Ideal S1x128x128 .f32) (q : Vec Ideal S4x1x128 .f32) (l : Fin 128) (c : Fin 256) :
    k1_pay24 k1_pay15 k1_pay16 k q (ix2 l c) = if h : c.val < 128 then k (ix3 0 l ⟨c.val, h⟩) else
      if _ : c.val - 128 < 8 then if h'' : c.val - 128 < 4 then q (ix3 ⟨c.val - 128, h''⟩ 0 l) else 0 else 0 := by
  pointwise [k1_pay24, k1_pay15, k1_pay16, k1_pay18, k1_pay20]

theorem vals_apply (k : Vec Ideal S1x128x128 .f32) (q : Vec Ideal S4x1x128 .f32) (l : Fin 128) (c : Fin 256) :
    k1_pay25 k1_pay15 k1_pay16 k q (ix2 l c) = if h : c.val < 128 then k (ix3 0 l ⟨c.val, h⟩) else
      if _ : c.val - 128 < 8 then if h'' : c.val - 128 < 4 then q (ix3 ⟨c.val - 128, h''⟩ 0 l) else 0 else 0 := by
  pointwise [k1_pay25, k1_pay15, k1_pay16, k1_pay19, k1_pay21]

theorem split_row (z : Vec Ideal S4x1x512 .f32) (a : Fin 8) (o x : ℕ) (ho : o + 128 + x < 512) (t : Fin 4) (ht : a.val % 4 = t.val) (j : Fin 512)
    (hj : j.val = o + a.val / 4 * 128 + x) :
    (if h : a.val < 4 then z (ix3 ⟨a.val, h⟩ 0 ⟨o + x, by omega⟩) else z (ix3 ⟨a.val - 4, by omega⟩ 0 ⟨o + 128 + x, ho⟩)) = z (ix3 t 0 j) := by
  split
  · next h =>
    rw [show (⟨a.val, h⟩ : Fin 4) = t from Fin.ext (by show a.val = t.val; omega), show (⟨o + x, by omega⟩ : Fin 512) = j from Fin.ext (by show o + x = j.val; omega)]
  · next h =>
    rw [show (⟨a.val - 4, by omega⟩ : Fin 4) = t from Fin.ext (by show a.val - 4 = t.val; omega),
      show (⟨o + 128 + x, ho⟩ : Fin 512) = j from Fin.ext (by show o + 128 + x = j.val; omega)]

/-- What the attention reads of one sequence. -/
structure SeqIn (A : Args) (b : Fin 128) (kt vt : Vec Ideal S1x128x128 .f32) (kb vb : Vec Ideal S4x1x128 .f32) (z : Vec Ideal S4x1x512 .f32) : Prop where
  K : ∀ (l : Fin 128) (c : Fin 256) (p : c.val < 132), k1_pay24 k1_pay15 k1_pay16 kt kb (ix2 l c) = kall A b ⟨c.val, p⟩ ⟨l.val / 64, by omega⟩ ⟨l.val % 64, by omega⟩
  V : ∀ (l : Fin 128) (c : Fin 256) (p : c.val < 132), k1_pay25 k1_pay15 k1_pay16 vt vb (ix2 l c) = vall A b ⟨c.val, p⟩ ⟨l.val / 64, by omega⟩ ⟨l.val % 64, by omega⟩
  q : ∀ (t : Fin 4) (u : Fin 1) (j : Fin 512), z (ix3 t u j) = qb A b t j * (((1 / 8) * (Real.log 2)⁻¹ : ℝ) : EReal)

variable {A : Args} {b : Fin 128} {kt vt : Vec Ideal S1x128x128 .f32} {kb vb : Vec Ideal S4x1x128 .f32} {z : Vec Ideal S4x1x512 .f32}

/-- The products of the scaled queries of head `h` with the keys, in the order the kernel takes them. -/
def dotK (A : Args) (b : Fin 128) (h : Fin 8) (t : Fin 4) (s : Fin 132) : EReal :=
  ∑ x : Fin 64, (qb A b t ⟨h.val * 64 + x.val, by omega⟩ * (((1 / 8) * (Real.log 2)⁻¹ : ℝ) : EReal)) * kall A b s ⟨h.val / 4, by omega⟩ x

theorem SeqIn.D30 (H : SeqIn A b kt vt kb vb z) (a : Fin 8) (c : Fin 256) (p : c.val < 132) (t : Fin 4) (ht : a.val % 4 = t.val) (h : Fin 8)
    (hh : h.val = 0 + a.val / 4 * 2) : k1_pay30 k1_pay15 k1_pay16 k1_pay17 kt kb z (ix2 a c) = dotK A b h t ⟨c.val, p⟩ := by
  pointwise [k1_pay30, k1_pay28, k1_pay27, k1_pay26, k1_pay17]
  simp only [mul_zero, Finset.sum_const_zero, add_zero]
  refine Finset.sum_congr rfl fun x _ => congrArg₂ (· * ·) ?_ ?_
  · rw [← H.q t 0]
    have e := split_row z a 0 (0 + x.val) (by omega) t ht ⟨h.val * 64 + x.val, by omega⟩ (by show h.val * 64 + x.val = _; omega)
    simpa using e
  · refine (H.K _ c p).trans ?_
    congr 1 <;> apply Fin.ext
    · show x.val / 64 = h.val / 4; omega
    · show x.val % 64 = x.val; omega

theorem SeqIn.D31 (H : SeqIn A b kt vt kb vb z) (a : Fin 8) (c : Fin 256) (p : c.val < 132) (t : Fin 4) (ht : a.val % 4 = t.val) (h : Fin 8)
    (hh : h.val = 1 + a.val / 4 * 2) : k1_pay31 (k1_pay27 z) (k1_pay29 k1_pay15 k1_pay16 k1_pay17 kt kb) (ix2 a c) = dotK A b h t ⟨c.val, p⟩ := by
  pointwise [k1_pay31, k1_pay29, k1_pay28, k1_pay27, k1_pay26, k1_pay17]
  simp only [mul_zero, Finset.sum_const_zero, zero_add]
  refine Finset.sum_congr rfl fun x _ => congrArg₂ (· * ·) ?_ ?_
  · rw [← H.q t 0]
    have e := split_row z a 0 (64 + x.val) (by omega) t ht ⟨h.val * 64 + x.val, by omega⟩ (by show h.val * 64 + x.val = _; omega)
    simpa using e
  · refine (H.K _ c p).trans ?_
    congr 1 <;> apply Fin.ext
    · show x.val / 64 = h.val / 4; omega
    · show x.val % 64 = x.val; omega

theorem SeqIn.D37 (H : SeqIn A b kt vt kb vb z) (a : Fin 8) (c : Fin 256) (p : c.val < 132) (t : Fin 4) (ht : a.val % 4 = t.val) (h : Fin 8)
    (hh : h.val = 4 + a.val / 4 * 2) : k1_pay37 k1_pay17 (k1_pay24 k1_pay15 k1_pay16 kt kb) (k1_pay26 z) (ix2 a c) = dotK A b h t ⟨c.val, p⟩ := by
  pointwise [k1_pay37, k1_pay36, k1_pay35, k1_pay26, k1_pay17]
  simp only [mul_zero, Finset.sum_const_zero, add_zero]
  refine Finset.sum_congr rfl fun x _ => congrArg₂ (· * ·) ?_ ?_
  · rw [← H.q t 0]
    have e := split_row z a 256 (0 + x.val) (by omega) t ht ⟨h.val * 64 + x.val, by omega⟩ (by show h.val * 64 + x.val = _; omega)
    simpa using e
  · refine (H.K _ c p).trans ?_
    congr 1 <;> apply Fin.ext
    · show (64 + x.val) / 64 = h.val / 4; omega
    · show (64 + x.val) % 64 = x.val; omega

theorem SeqIn.D38 (H : SeqIn A b kt vt kb vb z) (a : Fin 8) (c : Fin 256) (p : c.val < 132) (t : Fin 4) (ht : a.val % 4 = t.val) (h : Fin 8)
    (hh : h.val = 5 + a.val / 4 * 2) : k1_pay38 k1_pay17 (k1_pay24 k1_pay15 k1_pay16 kt kb) (k1_pay26 z) (ix2 a c) = dotK A b h t ⟨c.val, p⟩ := by
  pointwise [k1_pay38, k1_pay36, k1_pay35, k1_pay26, k1_pay17]
  simp only [mul_zero, Finset.sum_const_zero, zero_add]
  refine Finset.sum_congr rfl fun x _ => congrArg₂ (· * ·) ?_ ?_
  · rw [← H.q t 0]
    have e := split_row z a 256 (64 + x.val) (by omega) t ht ⟨h.val * 64 + x.val, by omega⟩ (by show h.val * 64 + x.val = _; omega)
    simpa using e
  · refine (H.K _ c p).trans ?_
    congr 1 <;> apply Fin.ext
    · show (64 + x.val) / 64 = h.val / 4; omega
    · show (64 + x.val) % 64 = x.val; omega

theorem dotK_eq (b : Fin 128) (h : Fin 8) (t : Fin 4) (s : Fin 132) : dotK A b h t s = (((Real.log 2)⁻¹ : ℝ) : EReal)
    * ((∑ d, kall A b s ⟨h.val / 4, by omega⟩ d * qb A b t ⟨h.val * 64 + d.val, by omega⟩) * Ideal.ofBits .f32 0x3E000000#32) := by
  unfold dotK
  rw [lit_eighth, mul_comm _ (((1 / 8 : ℝ)) : EReal), ← mul_assoc, ← EReal.coe_mul, coe_mul_sum _ (mul_pos l2e_pos (by norm_num))]
  refine Finset.sum_congr rfl fun x _ => ?_
  rw [mul_comm (1 / 8 : ℝ), mul_comm (qb A b t _), mul_assoc, mul_comm (qb A b t _)]

theorem row_eq (a : Fin 8) (c : Fin 256) (t : Fin 4) (ht : a.val % 4 = t.val) (h : Fin 8) (D m : EReal)
    (hD : ∀ p : c.val < 132, D = dotK A b h t ⟨c.val, p⟩) (hm : m = (((1 / 2 : ℝ) ^ (h.val + 1) * (Real.log 2)⁻¹ : ℝ) : EReal)) :
    Scalar.select (k1_pay13 (ix2 a c)) (D - m * k1_pay12 (F := Ideal) (ix2 a c)) (⊥ : EReal)
      = if p : c.val < 132 then (((Real.log 2)⁻¹ : ℝ) : EReal) * score A b h t ⟨c.val, p⟩ else ⊥ := by
  rw [inside, far a c t ht, ht]
  by_cases w : t.val < c.val ∧ c.val ≤ t.val + 128
  · have p : c.val < 132 := by omega
    rw [if_pos w, dif_pos p, hD p, dotK_eq, hm]
    unfold score
    refine Eq.trans ?_ (congrArg _ (if_pos w).symm)
    rw [coe_mul_add _ l2e_pos]
    refine (sub_eq_add_neg _ _).trans (congrArg _ ?_)
    unfold Cert.Smp.slope
    rw [← EReal.coe_neg, ← EReal.coe_mul, ← EReal.coe_mul, ← EReal.coe_mul, ← EReal.coe_neg]
    congr 1
    ring
  · rw [if_neg w]
    split
    · next p =>
      unfold score
      refine Eq.trans ?_ (congrArg _ (if_neg w).symm)
      rw [EReal.coe_mul_bot_of_pos l2e_pos]
      rfl
    · rfl

theorem n1 : (Named.named κ "log2e_1" 0x3FB8AA3B#32 : Idealize.ShloMosaic.Ideal .f32) = ((1 * (Real.log 2)⁻¹ : ℝ) : EReal) :=
  IdealRules.named_const.ideal_named_scalar _ _ _ _ rfl
theorem n2 : (Named.named κ "log2e_2" 0x3F38AA3B#32 : Idealize.ShloMosaic.Ideal .f32) = (((1 / 2) * (Real.log 2)⁻¹ : ℝ) : EReal) :=
  IdealRules.named_const.ideal_named_scalar _ _ _ _ rfl
theorem n4 : (Named.named κ "log2e_4" 0x3EB8AA3B#32 : Idealize.ShloMosaic.Ideal .f32) = (((1 / 4) * (Real.log 2)⁻¹ : ℝ) : EReal) :=
  IdealRules.named_const.ideal_named_scalar _ _ _ _ rfl
theorem n8 : (Named.named κ "log2e_8" 0x3E38AA3B#32 : Idealize.ShloMosaic.Ideal .f32) = (((1 / 8) * (Real.log 2)⁻¹ : ℝ) : EReal) :=
  IdealRules.named_const.ideal_named_scalar _ _ _ _ rfl
theorem n16 : (Named.named κ "log2e_16" 0x3DB8AA3B#32 : Idealize.ShloMosaic.Ideal .f32) = (((1 / 16) * (Real.log 2)⁻¹ : ℝ) : EReal) :=
  IdealRules.named_const.ideal_named_scalar _ _ _ _ rfl
theorem n32 : (Named.named κ "log2e_32" 0x3D38AA3B#32 : Idealize.ShloMosaic.Ideal .f32) = (((1 / 32) * (Real.log 2)⁻¹ : ℝ) : EReal) :=
  IdealRules.named_const.ideal_named_scalar _ _ _ _ rfl
theorem n64 : (Named.named κ "log2e_64" 0x3CB8AA3B#32 : Idealize.ShloMosaic.Ideal .f32) = (((1 / 64) * (Real.log 2)⁻¹ : ℝ) : EReal) :=
  IdealRules.named_const.ideal_named_scalar _ _ _ _ rfl
theorem n128 : (Named.named κ "log2e_128" 0x3C38AA3B#32 : Idealize.ShloMosaic.Ideal .f32) = (((1 / 128) * (Real.log 2)⁻¹ : ℝ) : EReal) :=
  IdealRules.named_const.ideal_named_scalar _ _ _ _ rfl
theorem n256 : (Named.named κ "log2e_256" 0x3BB8AA3B#32 : Idealize.ShloMosaic.Ideal .f32) = (((1 / 256) * (Real.log 2)⁻¹ : ℝ) : EReal) :=
  IdealRules.named_const.ideal_named_scalar _ _ _ _ rfl

theorem sink_eq (x y : EReal) (a : Fin 8) (u : Fin 1) (h : Fin 8) (hx : a.val < 4 → x = A.sink h) (hy : ¬ a.val < 4 → y = A.sink h) :
    k1_pay571 (F := Idealize.ShloMosaic.Ideal) k1_pay14 x y (ix2 a u) = (((Real.log 2)⁻¹ : ℝ) : EReal) * A.sink h := by
  pointwise [k1_pay571]
  rw [first4, n1, one_mul]
  by_cases ha : a.val < 4
  · rw [if_pos ha, hx ha]; exact mul_comm _ _
  · rw [if_neg ha, hy ha]; exact mul_comm _ _

theorem steep (a : Fin 8) (h : Fin 8) (o : ℕ) (x y : EReal) (hh : h.val = o + a.val / 4 * 2)
    (hx : x = (((1 / 2 : ℝ) ^ (o + 1) * (Real.log 2)⁻¹ : ℝ) : EReal)) (hy : y = (((1 / 2 : ℝ) ^ (o + 3) * (Real.log 2)⁻¹ : ℝ) : EReal)) :
    Scalar.select (k1_pay14 (ix2 a 0)) x y = (((1 / 2 : ℝ) ^ (h.val + 1) * (Real.log 2)⁻¹ : ℝ) : EReal) := by
  rw [first4]
  by_cases ha : a.val < 4
  · rw [if_pos ha, show h.val = o by omega]; exact hx
  · rw [if_neg ha, show h.val + 1 = o + 3 by omega]; exact hy

theorem zero_half (V w : Fin 256 → EReal) (hV : ∀ c, V c = 0) : ∑ c, V c * w c = 0 :=
  Finset.sum_eq_zero fun c _ => by rw [hV c, zero_mul]

theorem SeqIn.row564 (H : SeqIn A b kt vt kb vb z) (a : Fin 8) (c : Fin 256) (t : Fin 4) (ht : a.val % 4 = t.val) (h : Fin 8)
    (hh : h.val = 0 + a.val / 4 * 2) : Scalar.select (k1_pay13 (ix2 a c)) ((k1_pay30 k1_pay15 k1_pay16 k1_pay17 kt kb z) (ix2 a c) - k1_pay564 (F := Idealize.ShloMosaic.Ideal) k1_pay14 (ix2 a 0) * k1_pay12 (ix2 a c)) (⊥ : EReal)
      = if p : c.val < 132 then (((Real.log 2)⁻¹ : ℝ) : EReal) * score A b h t ⟨c.val, p⟩ else ⊥ := by
  refine row_eq a c t ht h _ _ (fun p => H.D30 a c p t ht h hh) ?_
  pointwise [k1_pay564]
  refine steep a h 0 _ _ hh (n2.trans ?_) (n8.trans ?_) <;> norm_num

theorem SeqIn.row567 (H : SeqIn A b kt vt kb vb z) (a : Fin 8) (c : Fin 256) (t : Fin 4) (ht : a.val % 4 = t.val) (h : Fin 8)
    (hh : h.val = 1 + a.val / 4 * 2) : k1_pay567 k1_pay12 k1_pay13 k1_pay14 (k1_pay31 (k1_pay27 z) (k1_pay29 k1_pay15 k1_pay16 k1_pay17 kt kb)) (ix2 a c)
      = if p : c.val < 132 then (((Real.log 2)⁻¹ : ℝ) : EReal) * score A b h t ⟨c.val, p⟩ else ⊥ := by
  have hD := fun p => H.D31 a c p t ht h hh
  generalize k1_pay31 (k1_pay27 z) (k1_pay29 k1_pay15 k1_pay16 k1_pay17 kt kb) = M at hD
  pointwise [k1_pay567]
  rw [lit_bot]
  refine row_eq a c t ht h _ _ hD ?_
  refine steep a h 1 _ _ hh (n4.trans ?_) (n16.trans ?_) <;> norm_num

theorem SeqIn.row572 (H : SeqIn A b kt vt kb vb z) (a : Fin 8) (c : Fin 256) (t : Fin 4) (ht : a.val % 4 = t.val) (h : Fin 8)
    (hh : h.val = 4 + a.val / 4 * 2) : k1_pay572 k1_pay12 k1_pay13 k1_pay14 (k1_pay37 k1_pay17 (k1_pay24 k1_pay15 k1_pay16 kt kb) (k1_pay26 z)) (ix2 a c)
      = if p : c.val < 132 then (((Real.log 2)⁻¹ : ℝ) : EReal) * score A b h t ⟨c.val, p⟩ else ⊥ := by
  have hD := fun p => H.D37 a c p t ht h hh
  generalize k1_pay37 k1_pay17 (k1_pay24 k1_pay15 k1_pay16 kt kb) (k1_pay26 z) = M at hD
  pointwise [k1_pay572]
  rw [lit_bot]
  refine row_eq a c t ht h _ _ hD ?_
  refine steep a h 4 _ _ hh (n32.trans ?_) (n128.trans ?_) <;> norm_num

theorem SeqIn.row575 (H : SeqIn A b kt vt kb vb z) (a : Fin 8) (c : Fin 256) (t : Fin 4) (ht : a.val % 4 = t.val) (h : Fin 8)
    (hh : h.val = 5 + a.val / 4 * 2) : k1_pay575 k1_pay12 k1_pay13 k1_pay14 (k1_pay38 k1_pay17 (k1_pay24 k1_pay15 k1_pay16 kt kb) (k1_pay26 z)) (ix2 a c)
      = if p : c.val < 132 then (((Real.log 2)⁻¹ : ℝ) : EReal) * score A b h t ⟨c.val, p⟩ else ⊥ := by
  have hD := fun p => H.D38 a c p t ht h hh
  generalize k1_pay38 k1_pay17 (k1_pay24 k1_pay15 k1_pay16 kt kb) (k1_pay26 z) = M at hD
  pointwise [k1_pay575]
  rw [lit_bot]
  refine row_eq a c t ht h _ _ hD ?_
  refine steep a h 5 _ _ hh (n64.trans ?_) (n256.trans ?_) <;> norm_num

theorem SeqIn.first (H : SeqIn A b kt vt kb vb z) (F : Fine A) (a : Fin 8) (t : Fin 4) (ht : a.val % 4 = t.val) (h : Fin 8) (hh : h.val = 0 + a.val / 4 * 2)
    (s s' : EReal) (hs : a.val < 4 → s = A.sink h) (hs' : ¬ a.val < 4 → s' = A.sink h) (l : Fin 128) :
    k1_pay565 (F := Idealize.ShloMosaic.Ideal) k1_pay12 k1_pay13 k1_pay14 (k1_pay30 k1_pay15 k1_pay16 k1_pay17 kt kb z) (k1_pay33 k1_pay17 (k1_pay25 k1_pay15 k1_pay16 vt vb)) (k1_pay564 k1_pay14) s s' (ix2 l a) = if l.val < 64 then obAt A t b h ⟨l.val % 64, by omega⟩ else 0 := by
  rw [pass0]
  by_cases hl : l.val < 64
  · rw [if_pos hl]
    refine F.pr b h t _ _ (fun c => H.row564 a c t ht h hh) (sink_eq _ _ _ _ h hs hs') _ _ (fun c p => ?_)
    rw [vals33, if_pos hl, H.V _ c p]
    congr 1 <;> apply Fin.ext
    · show l.val % 64 / 64 = h.val / 4; omega
    · show l.val % 64 % 64 = l.val % 64; omega
  · rw [if_neg hl]
    exact zero_half _ _ fun c => by rw [vals33, if_neg hl]

theorem SeqIn.third (H : SeqIn A b kt vt kb vb z) (F : Fine A) (a : Fin 8) (t : Fin 4) (ht : a.val % 4 = t.val) (h : Fin 8) (hh : h.val = 4 + a.val / 4 * 2)
    (s s' : EReal) (hs : a.val < 4 → s = A.sink h) (hs' : ¬ a.val < 4 → s' = A.sink h) (l : Fin 128) :
    k1_pay573 (k1_pay40 k1_pay17 (k1_pay25 k1_pay15 k1_pay16 vt vb)) (k1_pay571 (F := Idealize.ShloMosaic.Ideal) k1_pay14 s s') (k1_pay572 k1_pay12 k1_pay13 k1_pay14 (k1_pay37 k1_pay17 (k1_pay24 k1_pay15 k1_pay16 kt kb) (k1_pay26 z))) (ix2 l a) = if l.val < 64 then obAt A t b h ⟨l.val % 64, by omega⟩ else 0 := by
  rw [pass2]
  by_cases hl : l.val < 64
  · rw [if_pos hl]
    refine F.pr b h t _ _ (fun c => H.row572 a c t ht h hh) (sink_eq _ _ _ _ h hs hs') _ _ (fun c p => ?_)
    rw [vals40, if_pos hl, H.V _ c p]
    congr 1 <;> apply Fin.ext
    · show (64 + l.val % 64) / 64 = h.val / 4; omega
    · show (64 + l.val % 64) % 64 = l.val % 64; omega
  · rw [if_neg hl]
    exact zero_half _ _ fun c => by rw [vals40, if_neg hl]

theorem SeqIn.second (H : SeqIn A b kt vt kb vb z) (F : Fine A) (a : Fin 8) (t : Fin 4) (ht : a.val % 4 = t.val) (h : Fin 8) (hh : h.val = 1 + a.val / 4 * 2)
    (s s' : EReal) (hs : a.val < 4 → s = A.sink h) (hs' : ¬ a.val < 4 → s' = A.sink h) (l : Fin 128) :
    ∑ c, k1_pay34 k1_pay17 (k1_pay25 k1_pay15 k1_pay16 vt vb) (ix2 l c) * pr (fun c => k1_pay567 k1_pay12 k1_pay13 k1_pay14 (k1_pay31 (k1_pay27 z) (k1_pay29 k1_pay15 k1_pay16 k1_pay17 kt kb)) (ix2 a c))
      (k1_pay566 (F := Idealize.ShloMosaic.Ideal) k1_pay14 s s' (ix2 a 0)) c = if l.val < 64 then 0 else obAt A t b h ⟨l.val % 64, by omega⟩ := by
  by_cases hl : l.val < 64
  · rw [if_pos hl]
    exact zero_half _ _ fun c => by rw [vals34, if_pos hl]
  · rw [if_neg hl]
    refine F.pr b h t _ _ (fun c => H.row567 a c t ht h hh) (sink_eq _ _ _ _ h hs hs') _ _ (fun c p => ?_)
    rw [vals34, if_neg hl, H.V _ c p]
    congr 1 <;> apply Fin.ext
    · show l.val % 64 / 64 = h.val / 4; omega
    · show l.val % 64 % 64 = l.val % 64; omega

theorem SeqIn.fourth (H : SeqIn A b kt vt kb vb z) (F : Fine A) (a : Fin 8) (t : Fin 4) (ht : a.val % 4 = t.val) (h : Fin 8) (hh : h.val = 5 + a.val / 4 * 2)
    (s s' : EReal) (hs : a.val < 4 → s = A.sink h) (hs' : ¬ a.val < 4 → s' = A.sink h) (l : Fin 128) :
    ∑ c, k1_pay41 k1_pay17 (k1_pay25 k1_pay15 k1_pay16 vt vb) (ix2 l c) * pr (fun c => k1_pay575 k1_pay12 k1_pay13 k1_pay14 (k1_pay38 k1_pay17 (k1_pay24 k1_pay15 k1_pay16 kt kb) (k1_pay26 z)) (ix2 a c))
      (k1_pay571 (F := Idealize.ShloMosaic.Ideal) k1_pay14 s s' (ix2 a 0)) c = if l.val < 64 then 0 else obAt A t b h ⟨l.val % 64, by omega⟩ := by
  by_cases hl : l.val < 64
  · rw [if_pos hl]
    exact zero_half _ _ fun c => by rw [vals41, if_pos hl]
  · rw [if_neg hl]
    refine F.pr b h t _ _ (fun c => H.row575 a c t ht h hh) (sink_eq _ _ _ _ h hs hs') _ _ (fun c p => ?_)
    rw [vals41, if_neg hl, H.V _ c p]
    congr 1 <;> apply Fin.ext
    · show (64 + l.val % 64) / 64 = h.val / 4; omega
    · show (64 + l.val % 64) % 64 = l.val % 64; omega

theorem join (t : Fin 4) (l : Fin 128) (o : ℕ) (ho : o + 1 < 8) (h h' : Fin 8) (e : h.val = o) (e' : h'.val = o + 1) :
    ((if l.val < 64 then obAt A t b h ⟨l.val % 64, by omega⟩ else 0) + (if l.val < 64 then 0 else obAt A t b h' ⟨l.val % 64, by omega⟩) : EReal)
      = obAt A t b ⟨o + l.val / 64, by omega⟩ ⟨l.val % 64, by omega⟩ := by
  by_cases hl : l.val < 64
  · rw [if_pos hl, if_pos hl, add_zero]
    exact congrArg (fun x => obAt A t b x ⟨l.val % 64, Nat.mod_lt _ (by norm_num)⟩) (Fin.ext (by show h.val = o + l.val / 64; omega))
  · rw [if_neg hl, if_neg hl, zero_add]
    exact congrArg (fun x => obAt A t b x ⟨l.val % 64, Nat.mod_lt _ (by norm_num)⟩) (Fin.ext (by show h'.val = o + l.val / 64; omega))

theorem SeqIn.ob0 (H : SeqIn A b kt vt kb vb z) (F : Fine A) (s0 s1 s2 s3 : EReal) (e0 : s0 = A.sink 0) (e1 : s1 = A.sink 1) (t : Fin 4) (u : Fin 1) (l : Fin 128) :
    k1_pay569 (k1_pay34 k1_pay17 (k1_pay25 k1_pay15 k1_pay16 vt vb)) (k1_pay565 (F := Idealize.ShloMosaic.Ideal) k1_pay12 k1_pay13 k1_pay14 (k1_pay30 k1_pay15 k1_pay16 k1_pay17 kt kb z) (k1_pay33 k1_pay17 (k1_pay25 k1_pay15 k1_pay16 vt vb)) (k1_pay564 k1_pay14) s0 s2) (k1_pay566 (F := Idealize.ShloMosaic.Ideal) k1_pay14 s1 s3) (k1_pay567 k1_pay12 k1_pay13 k1_pay14 (k1_pay31 (k1_pay27 z) (k1_pay29 k1_pay15 k1_pay16 k1_pay17 kt kb))) (ix3 t u l)
      = obAt A t b ⟨0 + l.val / 64, by omega⟩ ⟨l.val % 64, by omega⟩ := by
  rw [pass1a]
  exact (congrArg₂ (· + ·) (H.first F ⟨t.val, by omega⟩ t (by show t.val % 4 = t.val; omega) 0 (by show 0 = 0 + t.val / 4 * 2; omega) s0 s2 (fun _ => e0) (fun h => absurd (show t.val < 4 from t.isLt) h) l)
    (H.second F ⟨t.val, by omega⟩ t (by show t.val % 4 = t.val; omega) 1 (by show 1 = 1 + t.val / 4 * 2; omega) s1 s3 (fun _ => e1) (fun h => absurd (show t.val < 4 from t.isLt) h) l)).trans (join t l 0 (by omega) 0 1 rfl rfl)

theorem SeqIn.ob1 (H : SeqIn A b kt vt kb vb z) (F : Fine A) (s0 s1 s2 s3 : EReal) (e2 : s2 = A.sink 2) (e3 : s3 = A.sink 3) (t : Fin 4) (u : Fin 1) (l : Fin 128) :
    k1_pay570 (k1_pay34 k1_pay17 (k1_pay25 k1_pay15 k1_pay16 vt vb)) (k1_pay565 (F := Idealize.ShloMosaic.Ideal) k1_pay12 k1_pay13 k1_pay14 (k1_pay30 k1_pay15 k1_pay16 k1_pay17 kt kb z) (k1_pay33 k1_pay17 (k1_pay25 k1_pay15 k1_pay16 vt vb)) (k1_pay564 k1_pay14) s0 s2) (k1_pay566 (F := Idealize.ShloMosaic.Ideal) k1_pay14 s1 s3) (k1_pay567 k1_pay12 k1_pay13 k1_pay14 (k1_pay31 (k1_pay27 z) (k1_pay29 k1_pay15 k1_pay16 k1_pay17 kt kb))) (ix3 t u l)
      = obAt A t b ⟨2 + l.val / 64, by omega⟩ ⟨l.val % 64, by omega⟩ := by
  rw [pass1b]
  exact (congrArg₂ (· + ·) (H.first F ⟨4 + t.val, by omega⟩ t (by show (4 + t.val) % 4 = t.val; omega) 2 (by show 2 = 0 + (4 + t.val) / 4 * 2; omega) s0 s2 (fun h => absurd h (by show ¬ 4 + t.val < 4; omega)) (fun _ => e2) l)
    (H.second F ⟨4 + t.val, by omega⟩ t (by show (4 + t.val) % 4 = t.val; omega) 3 (by show 3 = 1 + (4 + t.val) / 4 * 2; omega) s1 s3 (fun h => absurd h (by show ¬ 4 + t.val < 4; omega)) (fun _ => e3) l)).trans (join t l 2 (by omega) 2 3 rfl rfl)

theorem SeqIn.ob2 (H : SeqIn A b kt vt kb vb z) (F : Fine A) (s0 s1 s2 s3 : EReal) (e0 : s0 = A.sink 4) (e1 : s1 = A.sink 5) (t : Fin 4) (u : Fin 1) (l : Fin 128) :
    k1_pay580 (k1_pay41 k1_pay17 (k1_pay25 k1_pay15 k1_pay16 vt vb)) (k1_pay573 (k1_pay40 k1_pay17 (k1_pay25 k1_pay15 k1_pay16 vt vb)) (k1_pay571 (F := Idealize.ShloMosaic.Ideal) k1_pay14 s0 s2) (k1_pay572 k1_pay12 k1_pay13 k1_pay14 (k1_pay37 k1_pay17 (k1_pay24 k1_pay15 k1_pay16 kt kb) (k1_pay26 z)))) (k1_pay577 (F := Idealize.ShloMosaic.Ideal) k1_pay12 k1_pay13 k1_pay14 (k1_pay38 k1_pay17 (k1_pay24 k1_pay15 k1_pay16 kt kb) (k1_pay26 z)) s1 s3) (k1_pay578 (F := Idealize.ShloMosaic.Ideal) k1_pay12 k1_pay13 k1_pay14 (k1_pay38 k1_pay17 (k1_pay24 k1_pay15 k1_pay16 kt kb) (k1_pay26 z)) s1 s3) (ix3 t u l)
      = obAt A t b ⟨4 + l.val / 64, by omega⟩ ⟨l.val % 64, by omega⟩ := by
  rw [pass3a]
  simp only [weight3]
  exact (congrArg₂ (· + ·) (H.third F ⟨t.val, by omega⟩ t (by show t.val % 4 = t.val; omega) 4 (by show 4 = 4 + t.val / 4 * 2; omega) s0 s2 (fun _ => e0) (fun h => absurd (show t.val < 4 from t.isLt) h) l)
    (H.fourth F ⟨t.val, by omega⟩ t (by show t.val % 4 = t.val; omega) 5 (by show 5 = 5 + t.val / 4 * 2; omega) s1 s3 (fun _ => e1) (fun h => absurd (show t.val < 4 from t.isLt) h) l)).trans (join t l 4 (by omega) 4 5 rfl rfl)

theorem SeqIn.ob3 (H : SeqIn A b kt vt kb vb z) (F : Fine A) (s0 s1 s2 s3 : EReal) (e2 : s2 = A.sink 6) (e3 : s3 = A.sink 7) (t : Fin 4) (u : Fin 1) (l : Fin 128) :
    k1_pay581 (k1_pay41 k1_pay17 (k1_pay25 k1_pay15 k1_pay16 vt vb)) (k1_pay573 (k1_pay40 k1_pay17 (k1_pay25 k1_pay15 k1_pay16 vt vb)) (k1_pay571 (F := Idealize.ShloMosaic.Ideal) k1_pay14 s0 s2) (k1_pay572 k1_pay12 k1_pay13 k1_pay14 (k1_pay37 k1_pay17 (k1_pay24 k1_pay15 k1_pay16 kt kb) (k1_pay26 z)))) (k1_pay577 (F := Idealize.ShloMosaic.Ideal) k1_pay12 k1_pay13 k1_pay14 (k1_pay38 k1_pay17 (k1_pay24 k1_pay15 k1_pay16 kt kb) (k1_pay26 z)) s1 s3) (k1_pay578 (F := Idealize.ShloMosaic.Ideal) k1_pay12 k1_pay13 k1_pay14 (k1_pay38 k1_pay17 (k1_pay24 k1_pay15 k1_pay16 kt kb) (k1_pay26 z)) s1 s3) (ix3 t u l)
      = obAt A t b ⟨6 + l.val / 64, by omega⟩ ⟨l.val % 64, by omega⟩ := by
  rw [pass3b]
  simp only [weight3]
  exact (congrArg₂ (· + ·) (H.third F ⟨4 + t.val, by omega⟩ t (by show (4 + t.val) % 4 = t.val; omega) 6 (by show 6 = 4 + (4 + t.val) / 4 * 2; omega) s0 s2 (fun h => absurd h (by show ¬ 4 + t.val < 4; omega)) (fun _ => e2) l)
    (H.fourth F ⟨4 + t.val, by omega⟩ t (by show (4 + t.val) % 4 = t.val; omega) 7 (by show 7 = 5 + (4 + t.val) / 4 * 2; omega) s1 s3 (fun h => absurd h (by show ¬ 4 + t.val < 4; omega)) (fun _ => e3) l)).trans (join t l 6 (by omega) 6 7 rfl rfl)

end Cert.Kernel3Ideal.Smp

end
-- ==== Proof.SmpOutB.lean ====
module

public import proofs.«01_k».proof.Proof.SmpOut
public import proofs.«01_k».proof.Proof.SmpAttn

@[expose] public section

set_option maxRecDepth 16384

noncomputable section

/-! What one grid point of the second kernel leaves: the attention's outputs of its sixteen sequences, one store at a time. -/

namespace Cert.Kernel3Ideal.Smp

open Cert.Kernel3Ideal Cert.Kernel3Ideal.Gen Idealize.ShloMosaic Idealize.ShloMosaic.TcCoe Idealize.SL.Sem Cert.Smp

/-- The attention's outputs of one block of sequences. -/
def obB (A : Cert.Smp.Args) (B : Fin 16 → Fin 128) : Vec Ideal S4x16x512 .f32 := fun y =>
  obAt A ⟨(y 0).val, (y 0).isLt⟩ (B ⟨(y 1).val, (y 1).isLt⟩) ⟨(y 2).val / 64, by have : (y 2).val < 512 := (y 2).isLt; omega⟩
    ⟨(y 2).val % 64, by omega⟩

variable {A : Cert.Smp.Args} {B : Fin 16 → Fin 128} {x0 : Vec Ideal S8 .f32} {x1 x2 : Vec Ideal S4x16x256 .f32} {x3 : Vec Ideal S16x256 .f32}
    {x4 x5 x6 : Vec Ideal S4x16x512 .f32} {x7 x8 : Vec Ideal S4x16x128 .f32} {x9 : Vec Ideal S16x256x128 .f32} {x10 x11 : Vec Ideal S16x128x128 .f32}

theorem sink_ld (x : Vec Ideal S8 .f32) (h : Fin 8) (inb) (p) : View.ld x (Rect.unit (s := S8) ![h.val] ![1] inb) (Shape.Idx.first p) = x (ix1 h) := by
  show x _ = x _
  congr 1
  funext a
  apply Fin.ext
  fin_cases a
  show h.val + 1 * 0 = h.val
  omega

theorem seq_in (H : Rows A B x0 x1 x2 x3 x4 x5 x6 x7 x8 x9 x10 x11) (i : Fin 16) (i10) (i11) (i7) (i8) (i6) :
    SeqIn A (B i) (View.ld x10 (Rect.unit (s := S16x128x128) ![i.val, 0, 0] ![1, 128, 128] i10)) (View.ld x11 (Rect.unit (s := S16x128x128) ![i.val, 0, 0] ![1, 128, 128] i11))
      (View.ld x7 (Rect.unit (s := S4x16x128) ![0, i.val, 0] ![4, 1, 128] i7)) (View.ld x8 (Rect.unit (s := S4x16x128) ![0, i.val, 0] ![4, 1, 128] i8))
      (View.ld x6 (Rect.unit (s := S4x16x512) ![0, i.val, 0] ![4, 1, 512] i6)) := by
  constructor <;> intro l c p
  · rw [keys_apply]
    unfold kall
    by_cases h : c.val < 128
    · rw [dif_pos h]
      refine (ld_seq x10 i _ _ _ _).trans ((H.kt i l ⟨c.val, h⟩).trans ?_)
      symm
      exact dif_pos h
    · rw [dif_neg h, dif_pos (show c.val - 128 < 8 by omega), dif_pos (show c.val - 128 < 4 by omega)]
      refine (ld_mid0 x7 i _ _ _ _).trans ((H.kb _ i l).trans (Eq.trans ?_ (dif_neg h).symm))
      congr 1
      apply Fin.ext
      show 2064 + l.val = 2064 + (l.val / 64 * 64 + l.val % 64)
      omega
  · rw [vals_apply]
    unfold vall
    by_cases h : c.val < 128
    · rw [dif_pos h]
      refine (ld_seq x11 i _ _ _ _).trans ((H.vt i l ⟨c.val, h⟩).trans ?_)
      symm
      exact dif_pos h
    · rw [dif_neg h, dif_pos (show c.val - 128 < 8 by omega), dif_pos (show c.val - 128 < 4 by omega)]
      refine (ld_mid0 x8 i _ _ _ _).trans ((H.vb _ i l).trans (Eq.trans ?_ (dif_neg h).symm))
      congr 1
      apply Fin.ext
      show 2192 + l.val = 2192 + (l.val / 64 * 64 + l.val % 64)
      omega
  · exact (ld_mid0 x6 i _ _ _ _).trans (H.qb l i p)

theorem ob_piece0 (H : Rows A B x0 x1 x2 x3 x4 x5 x6 x7 x8 x9 x10 x11) (F : Fine A) (i : Fin 16) (i10) (i11) (i7) (i8) (i6) (i00) (p0) (i01) (p1) (i02) (p2) (i03) (p3) (j : S4x1x128.Idx) (y : S4x16x512.Idx)
    (h0 : (y 0).val = (j 0).val) (h1 : (y 1).val = i.val + (j 1).val) (l1 : (j 1).val < 1) (h2 : (y 2).val = (j 2).val) :
    k1_pay569 (k1_pay34 k1_pay17 (k1_pay25 k1_pay15 k1_pay16 (View.ld x11 (Rect.unit (s := S16x128x128) ![i.val, 0, 0] ![1, 128, 128] i11)) (View.ld x8 (Rect.unit (s := S4x16x128) ![0, i.val, 0] ![4, 1, 128] i8)))) (k1_pay565 (F := Idealize.ShloMosaic.Ideal) k1_pay12 k1_pay13 k1_pay14 (k1_pay30 k1_pay15 k1_pay16 k1_pay17 (View.ld x10 (Rect.unit (s := S16x128x128) ![i.val, 0, 0] ![1, 128, 128] i10)) (View.ld x7 (Rect.unit (s := S4x16x128) ![0, i.val, 0] ![4, 1, 128] i7)) (View.ld x6 (Rect.unit (s := S4x16x512) ![0, i.val, 0] ![4, 1, 512] i6))) (k1_pay33 k1_pay17 (k1_pay25 k1_pay15 k1_pay16 (View.ld x11 (Rect.unit (s := S16x128x128) ![i.val, 0, 0] ![1, 128, 128] i11)) (View.ld x8 (Rect.unit (s := S4x16x128) ![0, i.val, 0] ![4, 1, 128] i8)))) (k1_pay564 k1_pay14) (View.ld x0 (Rect.unit (s := S8) ![0] ![1] i00) (Shape.Idx.first p0)) (View.ld x0 (Rect.unit (s := S8) ![2] ![1] i02) (Shape.Idx.first p2))) (k1_pay566 (F := Idealize.ShloMosaic.Ideal) k1_pay14 (View.ld x0 (Rect.unit (s := S8) ![1] ![1] i01) (Shape.Idx.first p1)) (View.ld x0 (Rect.unit (s := S8) ![3] ![1] i03) (Shape.Idx.first p3))) (k1_pay567 k1_pay12 k1_pay13 k1_pay14 (k1_pay31 (k1_pay27 (View.ld x6 (Rect.unit (s := S4x16x512) ![0, i.val, 0] ![4, 1, 512] i6))) (k1_pay29 k1_pay15 k1_pay16 k1_pay17 (View.ld x10 (Rect.unit (s := S16x128x128) ![i.val, 0, 0] ![1, 128, 128] i10)) (View.ld x7 (Rect.unit (s := S4x16x128) ![0, i.val, 0] ![4, 1, 128] i7))))) j = obB A B y := by
  idx_vars j
  idx_vars y
  obtain rfl : y1 = i := Fin.ext (by have a : y1.val = i.val + j1.val := h1; have b : j1.val < 1 := l1; omega)
  obtain rfl : y0 = j0 := Fin.ext h0
  have l2 : j2.val < 128 := j2.isLt
  have h3 : y2.val = j2.val := h2
  have q : y2.val < 512 := y2.isLt
  refine ((seq_in H y1 i10 i11 i7 i8 i6).ob0 F _ _ _ _ ((sink_ld x0 0 _ _).trans (H.sink 0)) ((sink_ld x0 1 _ _).trans (H.sink 1)) y0 j1 j2).trans ?_
  refine congrArg₂ (obAt A y0 (B y1)) (Fin.ext ?_) (Fin.ext ?_)
  · show 0 + j2.val / 64 = y2.val / 64; omega
  · show j2.val % 64 = y2.val % 64; omega

theorem ob_piece1 (H : Rows A B x0 x1 x2 x3 x4 x5 x6 x7 x8 x9 x10 x11) (F : Fine A) (i : Fin 16) (i10) (i11) (i7) (i8) (i6) (i00) (p0) (i01) (p1) (i02) (p2) (i03) (p3) (j : S4x1x128.Idx) (y : S4x16x512.Idx)
    (h0 : (y 0).val = (j 0).val) (h1 : (y 1).val = i.val + (j 1).val) (l1 : (j 1).val < 1) (h2 : (y 2).val = 128 + (j 2).val) :
    k1_pay570 (k1_pay34 k1_pay17 (k1_pay25 k1_pay15 k1_pay16 (View.ld x11 (Rect.unit (s := S16x128x128) ![i.val, 0, 0] ![1, 128, 128] i11)) (View.ld x8 (Rect.unit (s := S4x16x128) ![0, i.val, 0] ![4, 1, 128] i8)))) (k1_pay565 (F := Idealize.ShloMosaic.Ideal) k1_pay12 k1_pay13 k1_pay14 (k1_pay30 k1_pay15 k1_pay16 k1_pay17 (View.ld x10 (Rect.unit (s := S16x128x128) ![i.val, 0, 0] ![1, 128, 128] i10)) (View.ld x7 (Rect.unit (s := S4x16x128) ![0, i.val, 0] ![4, 1, 128] i7)) (View.ld x6 (Rect.unit (s := S4x16x512) ![0, i.val, 0] ![4, 1, 512] i6))) (k1_pay33 k1_pay17 (k1_pay25 k1_pay15 k1_pay16 (View.ld x11 (Rect.unit (s := S16x128x128) ![i.val, 0, 0] ![1, 128, 128] i11)) (View.ld x8 (Rect.unit (s := S4x16x128) ![0, i.val, 0] ![4, 1, 128] i8)))) (k1_pay564 k1_pay14) (View.ld x0 (Rect.unit (s := S8) ![0] ![1] i00) (Shape.Idx.first p0)) (View.ld x0 (Rect.unit (s := S8) ![2] ![1] i02) (Shape.Idx.first p2))) (k1_pay566 (F := Idealize.ShloMosaic.Ideal) k1_pay14 (View.ld x0 (Rect.unit (s := S8) ![1] ![1] i01) (Shape.Idx.first p1)) (View.ld x0 (Rect.unit (s := S8) ![3] ![1] i03) (Shape.Idx.first p3))) (k1_pay567 k1_pay12 k1_pay13 k1_pay14 (k1_pay31 (k1_pay27 (View.ld x6 (Rect.unit (s := S4x16x512) ![0, i.val, 0] ![4, 1, 512] i6))) (k1_pay29 k1_pay15 k1_pay16 k1_pay17 (View.ld x10 (Rect.unit (s := S16x128x128) ![i.val, 0, 0] ![1, 128, 128] i10)) (View.ld x7 (Rect.unit (s := S4x16x128) ![0, i.val, 0] ![4, 1, 128] i7))))) j = obB A B y := by
  idx_vars j
  idx_vars y
  obtain rfl : y1 = i := Fin.ext (by have a : y1.val = i.val + j1.val := h1; have b : j1.val < 1 := l1; omega)
  obtain rfl : y0 = j0 := Fin.ext h0
  have l2 : j2.val < 128 := j2.isLt
  have h3 : y2.val = 128 + j2.val := h2
  have q : y2.val < 512 := y2.isLt
  refine ((seq_in H y1 i10 i11 i7 i8 i6).ob1 F _ _ _ _ ((sink_ld x0 2 _ _).trans (H.sink 2)) ((sink_ld x0 3 _ _).trans (H.sink 3)) y0 j1 j2).trans ?_
  refine congrArg₂ (obAt A y0 (B y1)) (Fin.ext ?_) (Fin.ext ?_)
  · show 2 + j2.val / 64 = y2.val / 64; omega
  · show j2.val % 64 = y2.val % 64; omega

theorem ob_piece2 (H : Rows A B x0 x1 x2 x3 x4 x5 x6 x7 x8 x9 x10 x11) (F : Fine A) (i : Fin 16) (i10) (i11) (i7) (i8) (i6) (i04) (p4) (i05) (p5) (i06) (p6) (i07) (p7) (j : S4x1x128.Idx) (y : S4x16x512.Idx)
    (h0 : (y 0).val = (j 0).val) (h1 : (y 1).val = i.val + (j 1).val) (l1 : (j 1).val < 1) (h2 : (y 2).val = 256 + (j 2).val) :
    k1_pay580 (k1_pay41 k1_pay17 (k1_pay25 k1_pay15 k1_pay16 (View.ld x11 (Rect.unit (s := S16x128x128) ![i.val, 0, 0] ![1, 128, 128] i11)) (View.ld x8 (Rect.unit (s := S4x16x128) ![0, i.val, 0] ![4, 1, 128] i8)))) (k1_pay573 (k1_pay40 k1_pay17 (k1_pay25 k1_pay15 k1_pay16 (View.ld x11 (Rect.unit (s := S16x128x128) ![i.val, 0, 0] ![1, 128, 128] i11)) (View.ld x8 (Rect.unit (s := S4x16x128) ![0, i.val, 0] ![4, 1, 128] i8)))) (k1_pay571 (F := Idealize.ShloMosaic.Ideal) k1_pay14 (View.ld x0 (Rect.unit (s := S8) ![4] ![1] i04) (Shape.Idx.first p4)) (View.ld x0 (Rect.unit (s := S8) ![6] ![1] i06) (Shape.Idx.first p6))) (k1_pay572 k1_pay12 k1_pay13 k1_pay14 (k1_pay37 k1_pay17 (k1_pay24 k1_pay15 k1_pay16 (View.ld x10 (Rect.unit (s := S16x128x128) ![i.val, 0, 0] ![1, 128, 128] i10)) (View.ld x7 (Rect.unit (s := S4x16x128) ![0, i.val, 0] ![4, 1, 128] i7))) (k1_pay26 (View.ld x6 (Rect.unit (s := S4x16x512) ![0, i.val, 0] ![4, 1, 512] i6)))))) (k1_pay577 (F := Idealize.ShloMosaic.Ideal) k1_pay12 k1_pay13 k1_pay14 (k1_pay38 k1_pay17 (k1_pay24 k1_pay15 k1_pay16 (View.ld x10 (Rect.unit (s := S16x128x128) ![i.val, 0, 0] ![1, 128, 128] i10)) (View.ld x7 (Rect.unit (s := S4x16x128) ![0, i.val, 0] ![4, 1, 128] i7))) (k1_pay26 (View.ld x6 (Rect.unit (s := S4x16x512) ![0, i.val, 0] ![4, 1, 512] i6)))) (View.ld x0 (Rect.unit (s := S8) ![5] ![1] i05) (Shape.Idx.first p5)) (View.ld x0 (Rect.unit (s := S8) ![7] ![1] i07) (Shape.Idx.first p7))) (k1_pay578 (F := Idealize.ShloMosaic.Ideal) k1_pay12 k1_pay13 k1_pay14 (k1_pay38 k1_pay17 (k1_pay24 k1_pay15 k1_pay16 (View.ld x10 (Rect.unit (s := S16x128x128) ![i.val, 0, 0] ![1, 128, 128] i10)) (View.ld x7 (Rect.unit (s := S4x16x128) ![0, i.val, 0] ![4, 1, 128] i7))) (k1_pay26 (View.ld x6 (Rect.unit (s := S4x16x512) ![0, i.val, 0] ![4, 1, 512] i6)))) (View.ld x0 (Rect.unit (s := S8) ![5] ![1] i05) (Shape.Idx.first p5)) (View.ld x0 (Rect.unit (s := S8) ![7] ![1] i07) (Shape.Idx.first p7))) j = obB A B y := by
  idx_vars j
  idx_vars y
  obtain rfl : y1 = i := Fin.ext (by have a : y1.val = i.val + j1.val := h1; have b : j1.val < 1 := l1; omega)
  obtain rfl : y0 = j0 := Fin.ext h0
  have l2 : j2.val < 128 := j2.isLt
  have h3 : y2.val = 256 + j2.val := h2
  have q : y2.val < 512 := y2.isLt
  refine ((seq_in H y1 i10 i11 i7 i8 i6).ob2 F _ _ _ _ ((sink_ld x0 4 _ _).trans (H.sink 4)) ((sink_ld x0 5 _ _).trans (H.sink 5)) y0 j1 j2).trans ?_
  refine congrArg₂ (obAt A y0 (B y1)) (Fin.ext ?_) (Fin.ext ?_)
  · show 4 + j2.val / 64 = y2.val / 64; omega
  · show j2.val % 64 = y2.val % 64; omega

theorem ob_piece3 (H : Rows A B x0 x1 x2 x3 x4 x5 x6 x7 x8 x9 x10 x11) (F : Fine A) (i : Fin 16) (i10) (i11) (i7) (i8) (i6) (i04) (p4) (i05) (p5) (i06) (p6) (i07) (p7) (j : S4x1x128.Idx) (y : S4x16x512.Idx)
    (h0 : (y 0).val = (j 0).val) (h1 : (y 1).val = i.val + (j 1).val) (l1 : (j 1).val < 1) (h2 : (y 2).val = 384 + (j 2).val) :
    k1_pay581 (k1_pay41 k1_pay17 (k1_pay25 k1_pay15 k1_pay16 (View.ld x11 (Rect.unit (s := S16x128x128) ![i.val, 0, 0] ![1, 128, 128] i11)) (View.ld x8 (Rect.unit (s := S4x16x128) ![0, i.val, 0] ![4, 1, 128] i8)))) (k1_pay573 (k1_pay40 k1_pay17 (k1_pay25 k1_pay15 k1_pay16 (View.ld x11 (Rect.unit (s := S16x128x128) ![i.val, 0, 0] ![1, 128, 128] i11)) (View.ld x8 (Rect.unit (s := S4x16x128) ![0, i.val, 0] ![4, 1, 128] i8)))) (k1_pay571 (F := Idealize.ShloMosaic.Ideal) k1_pay14 (View.ld x0 (Rect.unit (s := S8) ![4] ![1] i04) (Shape.Idx.first p4)) (View.ld x0 (Rect.unit (s := S8) ![6] ![1] i06) (Shape.Idx.first p6))) (k1_pay572 k1_pay12 k1_pay13 k1_pay14 (k1_pay37 k1_pay17 (k1_pay24 k1_pay15 k1_pay16 (View.ld x10 (Rect.unit (s := S16x128x128) ![i.val, 0, 0] ![1, 128, 128] i10)) (View.ld x7 (Rect.unit (s := S4x16x128) ![0, i.val, 0] ![4, 1, 128] i7))) (k1_pay26 (View.ld x6 (Rect.unit (s := S4x16x512) ![0, i.val, 0] ![4, 1, 512] i6)))))) (k1_pay577 (F := Idealize.ShloMosaic.Ideal) k1_pay12 k1_pay13 k1_pay14 (k1_pay38 k1_pay17 (k1_pay24 k1_pay15 k1_pay16 (View.ld x10 (Rect.unit (s := S16x128x128) ![i.val, 0, 0] ![1, 128, 128] i10)) (View.ld x7 (Rect.unit (s := S4x16x128) ![0, i.val, 0] ![4, 1, 128] i7))) (k1_pay26 (View.ld x6 (Rect.unit (s := S4x16x512) ![0, i.val, 0] ![4, 1, 512] i6)))) (View.ld x0 (Rect.unit (s := S8) ![5] ![1] i05) (Shape.Idx.first p5)) (View.ld x0 (Rect.unit (s := S8) ![7] ![1] i07) (Shape.Idx.first p7))) (k1_pay578 (F := Idealize.ShloMosaic.Ideal) k1_pay12 k1_pay13 k1_pay14 (k1_pay38 k1_pay17 (k1_pay24 k1_pay15 k1_pay16 (View.ld x10 (Rect.unit (s := S16x128x128) ![i.val, 0, 0] ![1, 128, 128] i10)) (View.ld x7 (Rect.unit (s := S4x16x128) ![0, i.val, 0] ![4, 1, 128] i7))) (k1_pay26 (View.ld x6 (Rect.unit (s := S4x16x512) ![0, i.val, 0] ![4, 1, 512] i6)))) (View.ld x0 (Rect.unit (s := S8) ![5] ![1] i05) (Shape.Idx.first p5)) (View.ld x0 (Rect.unit (s := S8) ![7] ![1] i07) (Shape.Idx.first p7))) j = obB A B y := by
  idx_vars j
  idx_vars y
  obtain rfl : y1 = i := Fin.ext (by have a : y1.val = i.val + j1.val := h1; have b : j1.val < 1 := l1; omega)
  obtain rfl : y0 = j0 := Fin.ext h0
  have l2 : j2.val < 128 := j2.isLt
  have h3 : y2.val = 384 + j2.val := h2
  have q : y2.val < 512 := y2.isLt
  refine ((seq_in H y1 i10 i11 i7 i8 i6).ob3 F _ _ _ _ ((sink_ld x0 6 _ _).trans (H.sink 6)) ((sink_ld x0 7 _ _).trans (H.sink 7)) y0 j1 j2).trans ?_
  refine congrArg₂ (obAt A y0 (B y1)) (Fin.ext ?_) (Fin.ext ?_)
  · show 6 + j2.val / 64 = y2.val / 64; omega
  · show j2.val % 64 = y2.val % 64; omega

variable {V : (c : Dev nD) → (r : Ref sig .tc) → Buf (Elt Ideal) ((c.tc : Thread nD τ).loc r)} {c : Dev nD} {t : Fin cfg1.N}

set_option maxHeartbeats 4000000 in
theorem out_ob (H : Rows A B (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)) (F : Fine A) (y : S4x16x512.Idx) :
    (outsAt1 V c t).2.1 y = obB A B y := by
  unfold outsAt1
  frame_out
  revert H
  generalize iblk1 V c 0 t = x0, iblk1 V c 1 t = x1, iblk1 V c 2 t = x2, iblk1 V c 3 t = x3, iblk1 V c 4 t = x4, iblk1 V c 5 t = x5, iblk1 V c 6 t = x6, iblk1 V c 7 t = x7, iblk1 V c 8 t = x8, iblk1 V c 9 t = x9, iblk1 V c 10 t = x10, iblk1 V c 11 t = x11
  intro H
  have e0 := (hs1_0 t).read_unread x0
  have e6 := (hs1_6 t).read_unread x6
  have e7 := (hs1_7 t).read_unread x7
  have e8 := (hs1_8 t).read_unread x8
  have e10 := (hs1_10 t).read_unread x10
  have e11 := (hs1_11 t).read_unread x11
  try rw [e0]
  try rw [e6]
  try rw [e7]
  try rw [e8]
  try rw [e10]
  try rw [e11]
  canon_tiles x h
  · exact ob_piece3 H F 15 _ _ _ _ _ _ _ _ _ _ _ _ _ x y h0 h1 x1_lt h2
  · exact ob_piece2 H F 15 _ _ _ _ _ _ _ _ _ _ _ _ _ x y h0 h1 x1_lt h2
  · exact ob_piece1 H F 15 _ _ _ _ _ _ _ _ _ _ _ _ _ x y h0 h1 x1_lt h2
  · exact ob_piece0 H F 15 _ _ _ _ _ _ _ _ _ _ _ _ _ x y h0 h1 x1_lt h2
  · exact ob_piece3 H F 14 _ _ _ _ _ _ _ _ _ _ _ _ _ x y h0 h1 x1_lt h2
  · exact ob_piece2 H F 14 _ _ _ _ _ _ _ _ _ _ _ _ _ x y h0 h1 x1_lt h2
  · exact ob_piece1 H F 14 _ _ _ _ _ _ _ _ _ _ _ _ _ x y h0 h1 x1_lt h2
  · exact ob_piece0 H F 14 _ _ _ _ _ _ _ _ _ _ _ _ _ x y h0 h1 x1_lt h2
  · exact ob_piece3 H F 13 _ _ _ _ _ _ _ _ _ _ _ _ _ x y h0 h1 x1_lt h2
  · exact ob_piece2 H F 13 _ _ _ _ _ _ _ _ _ _ _ _ _ x y h0 h1 x1_lt h2
  · exact ob_piece1 H F 13 _ _ _ _ _ _ _ _ _ _ _ _ _ x y h0 h1 x1_lt h2
  · exact ob_piece0 H F 13 _ _ _ _ _ _ _ _ _ _ _ _ _ x y h0 h1 x1_lt h2
  · exact ob_piece3 H F 12 _ _ _ _ _ _ _ _ _ _ _ _ _ x y h0 h1 x1_lt h2
  · exact ob_piece2 H F 12 _ _ _ _ _ _ _ _ _ _ _ _ _ x y h0 h1 x1_lt h2
  · exact ob_piece1 H F 12 _ _ _ _ _ _ _ _ _ _ _ _ _ x y h0 h1 x1_lt h2
  · exact ob_piece0 H F 12 _ _ _ _ _ _ _ _ _ _ _ _ _ x y h0 h1 x1_lt h2
  · exact ob_piece3 H F 11 _ _ _ _ _ _ _ _ _ _ _ _ _ x y h0 h1 x1_lt h2
  · exact ob_piece2 H F 11 _ _ _ _ _ _ _ _ _ _ _ _ _ x y h0 h1 x1_lt h2
  · exact ob_piece1 H F 11 _ _ _ _ _ _ _ _ _ _ _ _ _ x y h0 h1 x1_lt h2
  · exact ob_piece0 H F 11 _ _ _ _ _ _ _ _ _ _ _ _ _ x y h0 h1 x1_lt h2
  · exact ob_piece3 H F 10 _ _ _ _ _ _ _ _ _ _ _ _ _ x y h0 h1 x1_lt h2
  · exact ob_piece2 H F 10 _ _ _ _ _ _ _ _ _ _ _ _ _ x y h0 h1 x1_lt h2
  · exact ob_piece1 H F 10 _ _ _ _ _ _ _ _ _ _ _ _ _ x y h0 h1 x1_lt h2
  · exact ob_piece0 H F 10 _ _ _ _ _ _ _ _ _ _ _ _ _ x y h0 h1 x1_lt h2
  · exact ob_piece3 H F 9 _ _ _ _ _ _ _ _ _ _ _ _ _ x y h0 h1 x1_lt h2
  · exact ob_piece2 H F 9 _ _ _ _ _ _ _ _ _ _ _ _ _ x y h0 h1 x1_lt h2
  · exact ob_piece1 H F 9 _ _ _ _ _ _ _ _ _ _ _ _ _ x y h0 h1 x1_lt h2
  · exact ob_piece0 H F 9 _ _ _ _ _ _ _ _ _ _ _ _ _ x y h0 h1 x1_lt h2
  · exact ob_piece3 H F 8 _ _ _ _ _ _ _ _ _ _ _ _ _ x y h0 h1 x1_lt h2
  · exact ob_piece2 H F 8 _ _ _ _ _ _ _ _ _ _ _ _ _ x y h0 h1 x1_lt h2
  · exact ob_piece1 H F 8 _ _ _ _ _ _ _ _ _ _ _ _ _ x y h0 h1 x1_lt h2
  · exact ob_piece0 H F 8 _ _ _ _ _ _ _ _ _ _ _ _ _ x y h0 h1 x1_lt h2
  · exact ob_piece3 H F 7 _ _ _ _ _ _ _ _ _ _ _ _ _ x y h0 h1 x1_lt h2
  · exact ob_piece2 H F 7 _ _ _ _ _ _ _ _ _ _ _ _ _ x y h0 h1 x1_lt h2
  · exact ob_piece1 H F 7 _ _ _ _ _ _ _ _ _ _ _ _ _ x y h0 h1 x1_lt h2
  · exact ob_piece0 H F 7 _ _ _ _ _ _ _ _ _ _ _ _ _ x y h0 h1 x1_lt h2
  · exact ob_piece3 H F 6 _ _ _ _ _ _ _ _ _ _ _ _ _ x y h0 h1 x1_lt h2
  · exact ob_piece2 H F 6 _ _ _ _ _ _ _ _ _ _ _ _ _ x y h0 h1 x1_lt h2
  · exact ob_piece1 H F 6 _ _ _ _ _ _ _ _ _ _ _ _ _ x y h0 h1 x1_lt h2
  · exact ob_piece0 H F 6 _ _ _ _ _ _ _ _ _ _ _ _ _ x y h0 h1 x1_lt h2
  · exact ob_piece3 H F 5 _ _ _ _ _ _ _ _ _ _ _ _ _ x y h0 h1 x1_lt h2
  · exact ob_piece2 H F 5 _ _ _ _ _ _ _ _ _ _ _ _ _ x y h0 h1 x1_lt h2
  · exact ob_piece1 H F 5 _ _ _ _ _ _ _ _ _ _ _ _ _ x y h0 h1 x1_lt h2
  · exact ob_piece0 H F 5 _ _ _ _ _ _ _ _ _ _ _ _ _ x y h0 h1 x1_lt h2
  · exact ob_piece3 H F 4 _ _ _ _ _ _ _ _ _ _ _ _ _ x y h0 h1 x1_lt h2
  · exact ob_piece2 H F 4 _ _ _ _ _ _ _ _ _ _ _ _ _ x y h0 h1 x1_lt h2
  · exact ob_piece1 H F 4 _ _ _ _ _ _ _ _ _ _ _ _ _ x y h0 h1 x1_lt h2
  · exact ob_piece0 H F 4 _ _ _ _ _ _ _ _ _ _ _ _ _ x y h0 h1 x1_lt h2
  · exact ob_piece3 H F 3 _ _ _ _ _ _ _ _ _ _ _ _ _ x y h0 h1 x1_lt h2
  · exact ob_piece2 H F 3 _ _ _ _ _ _ _ _ _ _ _ _ _ x y h0 h1 x1_lt h2
  · exact ob_piece1 H F 3 _ _ _ _ _ _ _ _ _ _ _ _ _ x y h0 h1 x1_lt h2
  · exact ob_piece0 H F 3 _ _ _ _ _ _ _ _ _ _ _ _ _ x y h0 h1 x1_lt h2
  · exact ob_piece3 H F 2 _ _ _ _ _ _ _ _ _ _ _ _ _ x y h0 h1 x1_lt h2
  · exact ob_piece2 H F 2 _ _ _ _ _ _ _ _ _ _ _ _ _ x y h0 h1 x1_lt h2
  · exact ob_piece1 H F 2 _ _ _ _ _ _ _ _ _ _ _ _ _ x y h0 h1 x1_lt h2
  · exact ob_piece0 H F 2 _ _ _ _ _ _ _ _ _ _ _ _ _ x y h0 h1 x1_lt h2
  · exact ob_piece3 H F 1 _ _ _ _ _ _ _ _ _ _ _ _ _ x y h0 h1 x1_lt h2
  · exact ob_piece2 H F 1 _ _ _ _ _ _ _ _ _ _ _ _ _ x y h0 h1 x1_lt h2
  · exact ob_piece1 H F 1 _ _ _ _ _ _ _ _ _ _ _ _ _ x y h0 h1 x1_lt h2
  · exact ob_piece0 H F 1 _ _ _ _ _ _ _ _ _ _ _ _ _ x y h0 h1 x1_lt h2
  · exact ob_piece3 H F 0 _ _ _ _ _ _ _ _ _ _ _ _ _ x y h0 (h1.trans (Nat.zero_add _).symm) x1_lt h2
  · exact ob_piece2 H F 0 _ _ _ _ _ _ _ _ _ _ _ _ _ x y h0 (h1.trans (Nat.zero_add _).symm) x1_lt h2
  · exact ob_piece1 H F 0 _ _ _ _ _ _ _ _ _ _ _ _ _ x y h0 (h1.trans (Nat.zero_add _).symm) x1_lt h2
  · exact ob_piece0 H F 0 _ _ _ _ _ _ _ _ _ _ _ _ _ x y h0 (h1.trans (Nat.zero_add _).symm) x1_lt h2

end Cert.Kernel3Ideal.Smp

end
-- ==== Proof.SmpBlocks.lean ====
module

public import proofs.«01_k».proof.Proof.SmpHostB
public import proofs.«01_k».proof.Proof.SmpOutB

@[expose] public section

set_option maxRecDepth 16384

noncomputable section

/-! What each grid point of the second kernel reads: sixteen sequences. -/

namespace Cert.Kernel3Ideal.Smp

open Cert.Kernel3Ideal Cert.Kernel3Ideal.Gen Idealize.ShloMosaic Idealize.ShloMosaic.TcCoe Idealize.SL.Sem Cert.Smp
open Idealize.ShloMosaic.Pipeline (Dat)

variable (m : (ℓ : Loc nD τ sig) → Buf (Elt Ideal) ℓ) (ρ : Dev nD → PrngReg)

theorem lt8 (t : Fin cfg1.N) : t.val < 8 := lt_of_lt_of_eq t.isLt N_1

/-- The sequences of a grid point. -/
def seqs (t : Fin cfg1.N) (i : Fin 16) : Fin 128 := ⟨t.val * 16 + i.val, by have := lt8 t; omega⟩

theorem off1_0 : ∀ (t : Fin cfg1.N) (a : Fin 1), win1_0.index t a = (![0] : Fin 1 → ℕ) a :=
  (by decide +kernel : ∀ (t : Fin grid1.N) (a : Fin 1), _)

theorem blk1_0 (c : Dev nD) (t : Fin cfg1.N) (h : Fin 8) :
    (iblk1 (V3 m ρ) c 0 t : S8.Idx → Elt Ideal .f32) (ix1 h) = (V3 m ρ c main_v23 : S8.Idx → Elt Ideal .f32) (ix1 h) := by
  show (V3 m ρ c main_v23 : S8.Idx → Elt Ideal .f32) ((win1_0.rect t).emb (ix1 h)) = _
  congr 1
  funext x; apply Fin.ext
  rw [Pipeline.Window.rect_emb_val_off, off1_0]
  fin_cases x
  · exact Nat.zero_add _

theorem off1_1 : ∀ (t : Fin cfg1.N) (a : Fin 3), win1_1.index t a = (![0, t.val, 0] : Fin 3 → ℕ) a :=
  (by decide +kernel : ∀ (t : Fin grid1.N) (a : Fin 3), _)

theorem blk1_1 (c : Dev nD) (t : Fin cfg1.N) (a : Fin 4) (i : Fin 16) (j : Fin 256) :
    (iblk1 (V3 m ρ) c 1 t : S4x16x256.Idx → Elt Ideal .f32) (ix3 a i j) = (V3 m ρ c main_v26 : S4x128x256.Idx → Elt Ideal .f32) (ix3 a (seqs t i) j) := by
  show (V3 m ρ c main_v26 : S4x128x256.Idx → Elt Ideal .f32) ((win1_1.rect t).emb (ix3 a i j)) = _
  congr 1
  funext x; apply Fin.ext
  rw [Pipeline.Window.rect_emb_val_off, off1_1]
  fin_cases x
  · exact Nat.zero_add _
  · exact rfl
  · exact Nat.zero_add _

theorem off1_2 : ∀ (t : Fin cfg1.N) (a : Fin 3), win1_2.index t a = (![0, t.val, 0] : Fin 3 → ℕ) a :=
  (by decide +kernel : ∀ (t : Fin grid1.N) (a : Fin 3), _)

theorem blk1_2 (c : Dev nD) (t : Fin cfg1.N) (a : Fin 4) (i : Fin 16) (j : Fin 256) :
    (iblk1 (V3 m ρ) c 2 t : S4x16x256.Idx → Elt Ideal .f32) (ix3 a i j) = (V3 m ρ c main_v27 : S4x128x256.Idx → Elt Ideal .f32) (ix3 a (seqs t i) j) := by
  show (V3 m ρ c main_v27 : S4x128x256.Idx → Elt Ideal .f32) ((win1_2.rect t).emb (ix3 a i j)) = _
  congr 1
  funext x; apply Fin.ext
  rw [Pipeline.Window.rect_emb_val_off, off1_2]
  fin_cases x
  · exact Nat.zero_add _
  · exact rfl
  · exact Nat.zero_add _

theorem off1_3 : ∀ (t : Fin cfg1.N) (a : Fin 2), win1_3.index t a = (![t.val, 0] : Fin 2 → ℕ) a :=
  (by decide +kernel : ∀ (t : Fin grid1.N) (a : Fin 2), _)

theorem blk1_3 (c : Dev nD) (t : Fin cfg1.N) (i : Fin 16) (j : Fin 256) :
    (iblk1 (V3 m ρ) c 3 t : S16x256.Idx → Elt Ideal .f32) (ix2 i j) = (V3 m ρ c main_v16_2 : S128x256.Idx → Elt Ideal .f32) (ix2 (seqs t i) j) := by
  show (V3 m ρ c main_v16_2 : S128x256.Idx → Elt Ideal .f32) ((win1_3.rect t).emb (ix2 i j)) = _
  congr 1
  funext x; apply Fin.ext
  rw [Pipeline.Window.rect_emb_val_off, off1_3]
  fin_cases x
  · exact rfl
  · exact Nat.zero_add _

theorem off1_4 : ∀ (t : Fin cfg1.N) (a : Fin 3), win1_4.index t a = (![0, t.val, 0] : Fin 3 → ℕ) a :=
  (by decide +kernel : ∀ (t : Fin grid1.N) (a : Fin 3), _)

theorem blk1_4 (c : Dev nD) (t : Fin cfg1.N) (a : Fin 4) (i : Fin 16) (j : Fin 512) :
    (iblk1 (V3 m ρ) c 4 t : S4x16x512.Idx → Elt Ideal .f32) (ix3 a i j) = (V3 m ρ c main_v28 : S4x128x512.Idx → Elt Ideal .f32) (ix3 a (seqs t i) j) := by
  show (V3 m ρ c main_v28 : S4x128x512.Idx → Elt Ideal .f32) ((win1_4.rect t).emb (ix3 a i j)) = _
  congr 1
  funext x; apply Fin.ext
  rw [Pipeline.Window.rect_emb_val_off, off1_4]
  fin_cases x
  · exact Nat.zero_add _
  · exact rfl
  · exact Nat.zero_add _

theorem off1_5 : ∀ (t : Fin cfg1.N) (a : Fin 3), win1_5.index t a = (![0, t.val, 0] : Fin 3 → ℕ) a :=
  (by decide +kernel : ∀ (t : Fin grid1.N) (a : Fin 3), _)

theorem blk1_5 (c : Dev nD) (t : Fin cfg1.N) (a : Fin 4) (i : Fin 16) (j : Fin 512) :
    (iblk1 (V3 m ρ) c 5 t : S4x16x512.Idx → Elt Ideal .f32) (ix3 a i j) = (V3 m ρ c main_v29 : S4x128x512.Idx → Elt Ideal .f32) (ix3 a (seqs t i) j) := by
  show (V3 m ρ c main_v29 : S4x128x512.Idx → Elt Ideal .f32) ((win1_5.rect t).emb (ix3 a i j)) = _
  congr 1
  funext x; apply Fin.ext
  rw [Pipeline.Window.rect_emb_val_off, off1_5]
  fin_cases x
  · exact Nat.zero_add _
  · exact rfl
  · exact Nat.zero_add _

theorem off1_6 : ∀ (t : Fin cfg1.N) (a : Fin 3), win1_6.index t a = (![0, t.val, 0] : Fin 3 → ℕ) a :=
  (by decide +kernel : ∀ (t : Fin grid1.N) (a : Fin 3), _)

theorem blk1_6 (c : Dev nD) (t : Fin cfg1.N) (a : Fin 4) (i : Fin 16) (j : Fin 512) :
    (iblk1 (V3 m ρ) c 6 t : S4x16x512.Idx → Elt Ideal .f32) (ix3 a i j) = (V3 m ρ c main_v30 : S4x128x512.Idx → Elt Ideal .f32) (ix3 a (seqs t i) j) := by
  show (V3 m ρ c main_v30 : S4x128x512.Idx → Elt Ideal .f32) ((win1_6.rect t).emb (ix3 a i j)) = _
  congr 1
  funext x; apply Fin.ext
  rw [Pipeline.Window.rect_emb_val_off, off1_6]
  fin_cases x
  · exact Nat.zero_add _
  · exact rfl
  · exact Nat.zero_add _

theorem off1_7 : ∀ (t : Fin cfg1.N) (a : Fin 3), win1_7.index t a = (![0, t.val, 0] : Fin 3 → ℕ) a :=
  (by decide +kernel : ∀ (t : Fin grid1.N) (a : Fin 3), _)

theorem blk1_7 (c : Dev nD) (t : Fin cfg1.N) (a : Fin 4) (i : Fin 16) (j : Fin 128) :
    (iblk1 (V3 m ρ) c 7 t : S4x16x128.Idx → Elt Ideal .f32) (ix3 a i j) = (V3 m ρ c main_v31 : S4x128x128.Idx → Elt Ideal .f32) (ix3 a (seqs t i) j) := by
  show (V3 m ρ c main_v31 : S4x128x128.Idx → Elt Ideal .f32) ((win1_7.rect t).emb (ix3 a i j)) = _
  congr 1
  funext x; apply Fin.ext
  rw [Pipeline.Window.rect_emb_val_off, off1_7]
  fin_cases x
  · exact Nat.zero_add _
  · exact rfl
  · exact Nat.zero_add _

theorem off1_8 : ∀ (t : Fin cfg1.N) (a : Fin 3), win1_8.index t a = (![0, t.val, 0] : Fin 3 → ℕ) a :=
  (by decide +kernel : ∀ (t : Fin grid1.N) (a : Fin 3), _)

theorem blk1_8 (c : Dev nD) (t : Fin cfg1.N) (a : Fin 4) (i : Fin 16) (j : Fin 128) :
    (iblk1 (V3 m ρ) c 8 t : S4x16x128.Idx → Elt Ideal .f32) (ix3 a i j) = (V3 m ρ c main_v32 : S4x128x128.Idx → Elt Ideal .f32) (ix3 a (seqs t i) j) := by
  show (V3 m ρ c main_v32 : S4x128x128.Idx → Elt Ideal .f32) ((win1_8.rect t).emb (ix3 a i j)) = _
  congr 1
  funext x; apply Fin.ext
  rw [Pipeline.Window.rect_emb_val_off, off1_8]
  fin_cases x
  · exact Nat.zero_add _
  · exact rfl
  · exact Nat.zero_add _

theorem off1_9 : ∀ (t : Fin cfg1.N) (a : Fin 3), win1_9.index t a = (![t.val, 0, 0] : Fin 3 → ℕ) a :=
  (by decide +kernel : ∀ (t : Fin grid1.N) (a : Fin 3), _)

theorem blk1_9 (c : Dev nD) (t : Fin cfg1.N) (i : Fin 16) (r : Fin 256) (j : Fin 128) :
    (iblk1 (V3 m ρ) c 9 t : S16x256x128.Idx → Elt Ideal .f32) (ix3 i r j) = (V3 m ρ c main_v25 : S128x256x128.Idx → Elt Ideal .f32) (ix3 (seqs t i) r j) := by
  show (V3 m ρ c main_v25 : S128x256x128.Idx → Elt Ideal .f32) ((win1_9.rect t).emb (ix3 i r j)) = _
  congr 1
  funext x; apply Fin.ext
  rw [Pipeline.Window.rect_emb_val_off, off1_9]
  fin_cases x
  · exact rfl
  · exact Nat.zero_add _
  · exact Nat.zero_add _

theorem off1_10 : ∀ (t : Fin cfg1.N) (a : Fin 3), win1_10.index t a = (![t.val, 0, 0] : Fin 3 → ℕ) a :=
  (by decide +kernel : ∀ (t : Fin grid1.N) (a : Fin 3), _)

theorem blk1_10 (c : Dev nD) (t : Fin cfg1.N) (i : Fin 16) (r : Fin 128) (j : Fin 128) :
    (iblk1 (V3 m ρ) c 10 t : S16x128x128.Idx → Elt Ideal .f32) (ix3 i r j) = (V3 m ρ c main_v19 : S128x128x128.Idx → Elt Ideal .f32) (ix3 (seqs t i) r j) := by
  show (V3 m ρ c main_v19 : S128x128x128.Idx → Elt Ideal .f32) ((win1_10.rect t).emb (ix3 i r j)) = _
  congr 1
  funext x; apply Fin.ext
  rw [Pipeline.Window.rect_emb_val_off, off1_10]
  fin_cases x
  · exact rfl
  · exact Nat.zero_add _
  · exact Nat.zero_add _

theorem off1_11 : ∀ (t : Fin cfg1.N) (a : Fin 3), win1_11.index t a = (![t.val, 0, 0] : Fin 3 → ℕ) a :=
  (by decide +kernel : ∀ (t : Fin grid1.N) (a : Fin 3), _)

theorem blk1_11 (c : Dev nD) (t : Fin cfg1.N) (i : Fin 16) (r : Fin 128) (j : Fin 128) :
    (iblk1 (V3 m ρ) c 11 t : S16x128x128.Idx → Elt Ideal .f32) (ix3 i r j) = (V3 m ρ c main_v22 : S128x128x128.Idx → Elt Ideal .f32) (ix3 (seqs t i) r j) := by
  show (V3 m ρ c main_v22 : S128x128x128.Idx → Elt Ideal .f32) ((win1_11.rect t).emb (ix3 i r j)) = _
  congr 1
  funext x; apply Fin.ext
  rw [Pipeline.Window.rect_emb_val_off, off1_11]
  fin_cases x
  · exact rfl
  · exact Nat.zero_add _
  · exact Nat.zero_add _

/-- What the second kernel reads. -/
theorem rows (c : Dev nD) (t : Fin cfg1.N) :
    Rows (args m c) (seqs t) (iblk1 (V3 m ρ) c 0 t) (iblk1 (V3 m ρ) c 1 t) (iblk1 (V3 m ρ) c 2 t) (iblk1 (V3 m ρ) c 3 t) (iblk1 (V3 m ρ) c 4 t)
      (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t)
      (iblk1 (V3 m ρ) c 11 t) where
  sink := fun h => (blk1_0 m ρ c t h).trans (V3_sink m ρ c h)
  qe := fun a i j => (blk1_1 m ρ c t a i j).trans (V3_qe m ρ c a _ j)
  kl := fun a i j => (blk1_2 m ρ c t a i j).trans (V3_kl m ρ c a _ j)
  e3 := fun i j => (blk1_3 m ρ c t i j).trans (V3_e3 m ρ c _ j)
  oin := fun a i j => (blk1_4 m ρ c t a i j).trans (V3_oin m ρ c a _ j)
  va := fun a i j => (blk1_5 m ρ c t a i j).trans (V3_va m ρ c a _ j)
  qb := fun a i j => (blk1_6 m ρ c t a i j).trans (V3_qb m ρ c a _ j)
  kb := fun a i j => (blk1_7 m ρ c t a i j).trans (V3_kb m ρ c a _ j)
  vb := fun a i j => (blk1_8 m ρ c t a i j).trans (V3_vb m ρ c a _ j)
  s0 := fun i r v => (blk1_9 m ρ c t i r v).trans (V3_s0 m ρ c _ r v)
  kt := fun i r s => (blk1_10 m ρ c t i r s).trans (V3_kt m ρ c _ r s)
  vt := fun i r s => (blk1_11 m ρ c t i r s).trans (V3_vt m ρ c _ r s)

end Cert.Kernel3Ideal.Smp

end
-- ==== Proof.SmpFinal.lean ====
module

public import proofs.«01_k».proof.Proof.SmpBlocks

@[expose] public section

set_option maxRecDepth 16384

noncomputable section

/-! The results of the call: its output arrays after the run. -/

namespace Cert.Kernel3Ideal.Smp

open Cert.Kernel3Ideal Cert.Kernel3Ideal.Gen Idealize.ShloMosaic Idealize.ShloMosaic.TcCoe Idealize.SL.Sem Cert.Smp
open Idealize.ShloMosaic.Pipeline (Dat)

variable (m : (ℓ : Loc nD τ sig) → Buf (Elt Ideal) ℓ) (ρ : Dev nD → PrngReg)

theorem off1_12 : ∀ (t : Fin cfg1.N) (a : Fin 3), win1_12.index t a = (![0, t.val, 0] : Fin 3 → ℕ) a :=
  (by decide +kernel : ∀ (t : Fin grid1.N) (a : Fin 3), _)

theorem final_oa (c : Dev nD) : (dat1 (V3 m ρ) c).arrAt 12 cfg1.N = oaArr (args m c) := by
  refine (dat1 (V3 m ρ) c).arrAt_eq_of_covers 12 _ (by decide +kernel) fun t _ y => ?_
  blk_simp
  rw [after1_12]
  change Shape.Idx ⟨3, ![4, 16, 512]⟩ at y
  refine (out_oa (rows m ρ c t) y).trans ?_
  idx_vars y
  have e : (win1_12.rect t).emb (ix3 y0 y1 y2) = ((ix3 y0 (seqs t y1) y2) : S4x128x512.Idx) := by
    funext x; apply Fin.ext
    rw [Pipeline.Window.rect_emb_val_off, off1_12]
    fin_cases x
    · exact Nat.zero_add _
    · exact rfl
    · exact Nat.zero_add _
  exact (congrArg (oaArr (args m c)) e).symm

theorem off1_13 : ∀ (t : Fin cfg1.N) (a : Fin 3), win1_13.index t a = (![0, t.val, 0] : Fin 3 → ℕ) a :=
  (by decide +kernel : ∀ (t : Fin grid1.N) (a : Fin 3), _)

theorem final_ob (c : Dev nD) (F : Fine (args m c)) : (dat1 (V3 m ρ) c).arrAt 13 cfg1.N = obArr (args m c) := by
  refine (dat1 (V3 m ρ) c).arrAt_eq_of_covers 13 _ (by decide +kernel) fun t _ y => ?_
  blk_simp
  rw [after1_13]
  change Shape.Idx ⟨3, ![4, 16, 512]⟩ at y
  refine (out_ob (rows m ρ c t) F y).trans ?_
  idx_vars y
  have e : (win1_13.rect t).emb (ix3 y0 y1 y2) = ((ix3 y0 (seqs t y1) y2) : S4x128x512.Idx) := by
    funext x; apply Fin.ext
    rw [Pipeline.Window.rect_emb_val_off, off1_13]
    fin_cases x
    · exact Nat.zero_add _
    · exact rfl
    · exact Nat.zero_add _
  exact (congrArg (obArr (args m c)) e).symm

theorem off1_14 : ∀ (t : Fin cfg1.N) (a : Fin 3), win1_14.index t a = (![t.val, 0, 0] : Fin 3 → ℕ) a :=
  (by decide +kernel : ∀ (t : Fin grid1.N) (a : Fin 3), _)

theorem final_s (c : Dev nD) : (dat1 (V3 m ρ) c).arrAt 14 cfg1.N = sArr (args m c) := by
  refine (dat1 (V3 m ρ) c).arrAt_eq_of_covers 14 _ (by decide +kernel) fun t _ y => ?_
  blk_simp
  rw [after1_14]
  change Shape.Idx ⟨3, ![16, 256, 128]⟩ at y
  refine (out_s (rows m ρ c t) y).trans ?_
  idx_vars y
  have e : (win1_14.rect t).emb (ix3 y0 y1 y2) = ((ix3 (seqs t y0) y1 y2) : S128x256x128.Idx) := by
    funext x; apply Fin.ext
    rw [Pipeline.Window.rect_emb_val_off, off1_14]
    fin_cases x
    · exact rfl
    · exact Nat.zero_add _
    · exact Nat.zero_add _
  exact (congrArg (sArr (args m c)) e).symm

theorem off1_15 : ∀ (t : Fin cfg1.N) (a : Fin 3), win1_15.index t a = (![t.val, 0, 0] : Fin 3 → ℕ) a :=
  (by decide +kernel : ∀ (t : Fin grid1.N) (a : Fin 3), _)

theorem final_kt (c : Dev nD) : (dat1 (V3 m ρ) c).arrAt 15 cfg1.N = kArr (args m c) := by
  refine (dat1 (V3 m ρ) c).arrAt_eq_of_covers 15 _ (by decide +kernel) fun t _ y => ?_
  blk_simp
  rw [after1_15]
  change Shape.Idx ⟨3, ![16, 128, 128]⟩ at y
  refine (out_kt (rows m ρ c t) y).trans ?_
  idx_vars y
  have e : (win1_15.rect t).emb (ix3 y0 y1 y2) = ((ix3 (seqs t y0) y1 y2) : S128x128x128.Idx) := by
    funext x; apply Fin.ext
    rw [Pipeline.Window.rect_emb_val_off, off1_15]
    fin_cases x
    · exact rfl
    · exact Nat.zero_add _
    · exact Nat.zero_add _
  exact (congrArg (kArr (args m c)) e).symm

theorem off1_16 : ∀ (t : Fin cfg1.N) (a : Fin 3), win1_16.index t a = (![t.val, 0, 0] : Fin 3 → ℕ) a :=
  (by decide +kernel : ∀ (t : Fin grid1.N) (a : Fin 3), _)

theorem final_vt (c : Dev nD) : (dat1 (V3 m ρ) c).arrAt 16 cfg1.N = vArr (args m c) := by
  refine (dat1 (V3 m ρ) c).arrAt_eq_of_covers 16 _ (by decide +kernel) fun t _ y => ?_
  blk_simp
  rw [after1_16]
  change Shape.Idx ⟨3, ![16, 128, 128]⟩ at y
  refine (out_vt (rows m ρ c t) y).trans ?_
  idx_vars y
  have e : (win1_16.rect t).emb (ix3 y0 y1 y2) = ((ix3 (seqs t y0) y1 y2) : S128x128x128.Idx) := by
    funext x; apply Fin.ext
    rw [Pipeline.Window.rect_emb_val_off, off1_16]
    fin_cases x
    · exact rfl
    · exact Nat.zero_add _
    · exact Nat.zero_add _
  exact (congrArg (vArr (args m c)) e).symm

end Cert.Kernel3Ideal.Smp

end
-- ==== Proof.SmpFinite.lean ====
module

public import proofs.«01_k».proof.Proof.SmpSoft
public import proofs.«01_k».proof.Proof.SmpConsts

@[expose] public section

set_option maxRecDepth 16384

noncomputable section

/-! Finite inputs give finite scores. -/

namespace Cert.Smp

open Idealize.ShloMosaic

theorem real_of_abs {x : EReal} (h : Ideal.cmp .olt (max x (-x)) (Ideal.ofBits .f32 0x7F800000#32) = 1#1) : Real' x := by
  have htop : Ideal.ofBits .f32 0x7F800000#32 = ⊤ := by simp [Ideal.ofBits, Ideal.ieee]
  rw [htop] at h
  unfold Ideal.cmp at h
  induction x with
  | bot => simp at h
  | top => simp at h
  | coe r => exact ⟨r, rfl⟩

theorem Real'.neg {x : EReal} : Real' x → Real' (-x) := fun ⟨a, ha⟩ => ⟨-a, by rw [ha, EReal.coe_neg]⟩

theorem lit_1024 : Ideal.ofBits .f32 0x44800000#32 = ((1024 : ℝ) : EReal) := by
  simp [Ideal.ofBits, Ideal.ieee, -EReal.coe_mul]; norm_num

theorem lit_eps : Ideal.ofBits .f32 0x358637BD#32 = ((8796093 / 8796093022208 : ℝ) : EReal) := by
  simp [Ideal.ofBits, Ideal.ieee, -EReal.coe_mul]; norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem rms_real {v g : Fin 1024 → EReal} (hv : ∀ k, Real' (v k)) (hg : ∀ k, Real' (g k)) (k : Fin 1024) : Real' (Cert.Ffn.rms v g k) := by
  choose f hf using hv
  have hs : (∑ j, v j * v j) = ((∑ j, f j * f j : ℝ) : EReal) := by
    rw [coe_sum]
    exact Finset.sum_congr rfl fun j _ => by rw [hf j, EReal.coe_mul]
  have hpos : 0 < (∑ j, f j * f j) * (1024 : ℝ)⁻¹ + 8796093 / 8796093022208 := by
    have : 0 ≤ ∑ j, f j * f j := Finset.sum_nonneg fun j _ => mul_self_nonneg _
    positivity
  have hd : Ideal.div (∑ j, v j * v j) (Ideal.ofBits .f32 0x44800000#32) = (((∑ j, f j * f j) * (1024 : ℝ)⁻¹ : ℝ) : EReal) := by
    rw [hs, lit_1024]
    unfold Ideal.div
    rw [if_neg (by norm_num), ← EReal.coe_inv, ← EReal.coe_mul]
  unfold Cert.Ffn.rms
  refine Real'.mul (Real'.mul ⟨f k, hf k⟩ ?_) (hg k)
  rw [hd, lit_eps, ← EReal.coe_add]
  refine ⟨(√((∑ j, f j * f j) * (1024 : ℝ)⁻¹ + 8796093 / 8796093022208))⁻¹, ?_⟩
  show (if _ < 0 then (⊥ : EReal) else if _ = 0 then ⊤ else _) = _
  rw [if_neg (not_lt.mpr hpos.le), if_neg hpos.ne']

variable {A : Args}

theorem z_real (hx : ∀ b t k, Real' (A.x b t k)) (hp : ∀ k, Real' (A.pre k)) (hw : ∀ k j, Real' (A.w k j)) (b : Fin 128) (t : Fin 4) (j : Fin 4368) :
    Real' (z A b t j) :=
  Real'.sum _ fun k => (rms_real (hx b t) hp k).mul (hw k j)

/-- Finite rows, cached keys, norm weights, input weights and sinks give scores below infinity. -/
theorem fine (hx : ∀ b t k, Real' (A.x b t k)) (hc : ∀ b s g d, Real' (A.ck b s g d)) (hp : ∀ k, Real' (A.pre k)) (hw : ∀ k j, Real' (A.w k j))
    (hs : ∀ h, Real' (A.sink h)) : Fine A where
  sink0 h := (hs h).ne_bot
  sink1 h := (hs h).ne_top
  score b h t s := by
    have hk : ∀ g d, Real' (kall A b s g d) := fun g d => by
      unfold kall
      split
      · exact hc _ _ _ _
      · exact z_real hx hp hw _ _ _
    unfold score
    split
    · refine Real'.ne_top (Real'.add (Real'.mul (Real'.sum _ fun d => (hk _ _).mul (z_real hx hp hw _ _ _)) ?_) (Real'.mul (Real'.neg ?_) ⟨_, rfl⟩))
      · rw [lit_eighth]; exact ⟨_, rfl⟩
      · unfold Cert.Smp.slope; exact ⟨_, rfl⟩
    · exact bot_ne_top

end Cert.Smp

end
-- ==== Proof.SmpRun.lean ====
module

public import proofs.«01_k».proof.Proof.Gen.Kernel3Ideal.Frame

@[expose] public section

set_option maxRecDepth 16384

noncomputable section

/-! The run of the two kernels, with what its result arrays hold. -/

namespace Cert.Kernel3Ideal.Smp

open Cert.Kernel3Ideal Cert.Kernel3Ideal.Gen Idealize.ShloMosaic Idealize.ShloMosaic.TcCoe Idealize.SL.Sem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every run ends with the result arrays at what the second pipeline leaves and the arguments as given. -/
theorem run : θ_run defs (onTc (τ := τ) (main (F := Ideal))) ⟨m, fun _ => 0, ρ⟩ (fun r => ∀ c : Dev nD,
      r.2.mem ((c.tc : Thread nD τ).loc main_v33_0) = (dat1 (V3 m ρ) c).arrAt 12 cfg1.N
      ∧ r.2.mem ((c.tc : Thread nD τ).loc main_v33_1) = (dat1 (V3 m ρ) c).arrAt 13 cfg1.N
      ∧ r.2.mem ((c.tc : Thread nD τ).loc main_v33_2) = (dat1 (V3 m ρ) c).arrAt 14 cfg1.N
      ∧ r.2.mem ((c.tc : Thread nD τ).loc main_v33_3) = (dat1 (V3 m ρ) c).arrAt 15 cfg1.N
      ∧ r.2.mem ((c.tc : Thread nD τ).loc main_v33_4) = (dat1 (V3 m ρ) c).arrAt 16 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨(h c _ (mem_uc main_v33_0 (by decide))).trans (W4_arr m ρ c 12),
       (h c _ (mem_uc main_v33_1 (by decide))).trans (W4_arr m ρ c 13),
       (h c _ (mem_uc main_v33_2 (by decide))).trans (W4_arr m ρ c 14),
       (h c _ (mem_uc main_v33_3 (by decide))).trans (W4_arr m ρ c 15),
       (h c _ (mem_uc main_v33_4 (by decide))).trans (W4_arr m ρ c 16),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Kernel3Ideal.Smp

end
-- ==== Proof.SmpClaims.lean ====
module

public import proofs.«01_k».proof.Defs
public import proofs.«01_k».proof.Proof.Gen.Kernel3.Frame
public import proofs.«01_k».proof.Proof.Gen.Kernel3Ideal.Frame
public import proofs.«01_k».proof.Proof.SmpReference
public import proofs.«01_k».proof.Proof.SmpFinal
public import proofs.«01_k».proof.Proof.SmpFinite
public import proofs.«01_k».proof.Proof.SmpRun
public import Idealize.ShloMosaic.Lib.Claim
public import Idealize.ShloMosaic.Lib.Quiescent

@[expose] public section

set_option maxRecDepth 16384

noncomputable section

/-! The claims about the sampled tokens' mixer. -/

namespace Cert.Proof.Smp

open Idealize.ShloMosaic Idealize.ShloMosaic.TcCoe Idealize.SL.Sem

theorem frame_kernel : Cert.quiescent_Kernel3 := fun m ρ _ => Cert.Kernel3.Gen.frame (F := Bits) m ρ

theorem frame_kernelIdeal : Cert.quiescent_Kernel3Ideal := fun m ρ _ => Cert.Kernel3Ideal.Gen.frame (F := Ideal) m ρ

theorem frame_referenceIdeal : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The shapes the precondition's operations take fit. -/
theorem pre_facts : Cert.Pre_finite.Facts := ⟨by decide, by decide, by decide, by decide, by decide⟩

instance : Cert.Pre_finite.Facts := pre_facts

theorem frame_kernelIdeal_pre : Cert.quiescent_Kernel3Ideal_pre_finite := fun m ρ _ => Cert.Kernel3Ideal.Gen.frame (F := Ideal) m ρ

theorem frame_referenceIdeal_pre : Cert.quiescent_Reference3Ideal_pre_finite := fun m ρ _ => frame_referenceIdeal m ρ trivial

theorem preserves : Cert.preserves_Kernel3_Kernel3Ideal :=
  ⟨IdealRules.named_const.statement Cert.Kernel3Ideal.κ "log2e_8" .f32 0x3E38AA3B#32 (((1 / 8) * (Real.log 2)⁻¹ : ℝ) : EReal) rfl,
    IdealRules.named_const.statement Cert.Kernel3Ideal.κ "log2e_2" .f32 0x3F38AA3B#32 (((1 / 2) * (Real.log 2)⁻¹ : ℝ) : EReal) rfl,
    IdealRules.named_const.statement Cert.Kernel3Ideal.κ "log2e_1" .f32 0x3FB8AA3B#32 ((1 * (Real.log 2)⁻¹ : ℝ) : EReal) rfl,
    IdealRules.named_const.statement Cert.Kernel3Ideal.κ "log2e_4" .f32 0x3EB8AA3B#32 (((1 / 4) * (Real.log 2)⁻¹ : ℝ) : EReal) rfl,
    IdealRules.named_const.statement Cert.Kernel3Ideal.κ "log2e_16" .f32 0x3DB8AA3B#32 (((1 / 16) * (Real.log 2)⁻¹ : ℝ) : EReal) rfl,
    IdealRules.named_const.statement Cert.Kernel3Ideal.κ "log2e_32" .f32 0x3D38AA3B#32 (((1 / 32) * (Real.log 2)⁻¹ : ℝ) : EReal) rfl,
    IdealRules.named_const.statement Cert.Kernel3Ideal.κ "log2e_128" .f32 0x3C38AA3B#32 (((1 / 128) * (Real.log 2)⁻¹ : ℝ) : EReal) rfl,
    IdealRules.named_const.statement Cert.Kernel3Ideal.κ "log2e_64" .f32 0x3CB8AA3B#32 (((1 / 64) * (Real.log 2)⁻¹ : ℝ) : EReal) rfl,
    IdealRules.named_const.statement Cert.Kernel3Ideal.κ "log2e_256" .f32 0x3BB8AA3B#32 (((1 / 256) * (Real.log 2)⁻¹ : ℝ) : EReal) rfl⟩

/-- The precondition says that five of the inputs are finite. -/
theorem fine (m : (ℓ : Loc Cert.Kernel3Ideal.nD Cert.Kernel3Ideal.τ Cert.Kernel3Ideal.sig) → Buf (Elt Ideal) ℓ) (h : Cert.Pre_Kernel3Ideal_finite m)
    (c : Dev Cert.Kernel3Ideal.nD) : Cert.Smp.Fine (Cert.Kernel3Ideal.Smp.args m c) := by
  obtain ⟨h0, h2, h4, h5, h8⟩ := h c
  exact Cert.Smp.fine (fun b t k => Cert.Smp.real_of_abs (congrFun h0 (ix3 b t k))) (fun b s g d => Cert.Smp.real_of_abs (congrFun h2 (ix5 0 b s g d)))
    (fun k => Cert.Smp.real_of_abs (congrFun h4 (ix2 0 k))) (fun k j => Cert.Smp.real_of_abs (congrFun h5 (ix3 0 k j)))
    (fun j => Cert.Smp.real_of_abs (congrFun h8 (ix2 0 j)))

/-- On equal arguments, finite where the precondition says so, the kernels and the reference end with equal arrays of extended reals. -/
theorem algebraic : Cert.algebraic_Kernel3Ideal_Reference3Ideal_pre_finite := fun m ρ m' ρ' hp hag => by
  have he : ∀ c, Cert.Reference3Ideal.Smp.args (StableHlo.launchContents m' c) = Cert.Kernel3Ideal.Smp.args m c := fun c => by
    obtain ⟨h0, h1, h2, h3, h4, h5, h6, h7, h8⟩ := hag c
    unfold Cert.Kernel3Ideal.Smp.args
    rw [← h0, ← h1, ← h2, ← h3, ← h4, ← h5, ← h6, ← h7, ← h8]
    rfl
  exact ⟨fun c => Cert.Smp.oaArr (Cert.Kernel3Ideal.Smp.args m c), fun c => Cert.Smp.obArr (Cert.Kernel3Ideal.Smp.args m c),
    fun c => Cert.Smp.sArr (Cert.Kernel3Ideal.Smp.args m c), fun c => Cert.Smp.kArr (Cert.Kernel3Ideal.Smp.args m c),
    fun c => Cert.Smp.vArr (Cert.Kernel3Ideal.Smp.args m c),
    (θ_run Cert.Kernel3Ideal.defs _ _).mono
      (fun _ h c => ⟨(h c).1.trans (Cert.Kernel3Ideal.Smp.final_oa m ρ c), (h c).2.1.trans (Cert.Kernel3Ideal.Smp.final_ob m ρ c (fine m hp c)),
        (h c).2.2.1.trans (Cert.Kernel3Ideal.Smp.final_s m ρ c), (h c).2.2.2.1.trans (Cert.Kernel3Ideal.Smp.final_kt m ρ c),
        (h c).2.2.2.2.1.trans (Cert.Kernel3Ideal.Smp.final_vt m ρ c), (h c).2.2.2.2.2⟩)
      (Cert.Kernel3Ideal.Smp.run m ρ),
    (θ_run Cert.Reference3Ideal.defs _ _).mono
      (fun _ h c => ⟨(h c).1.trans (congrArg Cert.Smp.oaArr (he c)), (h c).2.1.trans (congrArg Cert.Smp.obArr (he c)),
        (h c).2.2.1.trans (congrArg Cert.Smp.sArr (he c)), (h c).2.2.2.1.trans (congrArg Cert.Smp.kArr (he c)),
        (h c).2.2.2.2.1.trans (congrArg Cert.Smp.vArr (he c)), (h c).2.2.2.2.2⟩)
      (Cert.Reference3Ideal.Smp.run m' ρ')⟩

end Cert.Proof.Smp

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel
public import proofs.«01_k».proof.Proof.Gen.Reference
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal
public import proofs.«01_k».proof.Proof.PrepClaims
public import proofs.«01_k».proof.Proof.FfnClaims
public import proofs.«01_k».proof.Proof.SmpClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Smp.pre_facts,
    Prep.frame_kernel, Prep.frame_kernelIdeal, Prep.frame_referenceIdeal, Prep.frame_reference,
    Ffn.frame_kernel, Ffn.frame_kernelIdeal, Ffn.frame_referenceIdeal,
    Smp.frame_kernel, Smp.frame_kernelIdeal, Smp.frame_kernelIdeal_pre, Smp.frame_referenceIdeal, Smp.frame_referenceIdeal_pre,
    Prep.preserves, Prep.algebraic, Prep.bitexact, Ffn.preserves, Ffn.algebraic,
    Smp.preserves, Smp.algebraic⟩

end Cert.Proof

end
